-- ==== Defs.lean ====
def Pre_GlobalOut (m : (ℓ : Loc Cert.GlobalOut.nD Cert.GlobalOut.τ Cert.GlobalOut.sig) → Buf (Elt Bits) ℓ) : Prop :=
  True

def Pre_GlobalOutIdeal (m : (ℓ : Loc Cert.GlobalOutIdeal.nD Cert.GlobalOutIdeal.τ Cert.GlobalOutIdeal.sig) → Buf (Elt Ideal) ℓ) : Prop :=
  True

def Pre_GlobalOutMathIdeal (m : (ℓ : Loc Cert.GlobalOutMathIdeal.nD Cert.GlobalOutMathIdeal.τ Cert.GlobalOutMathIdeal.sig) → Buf (Elt Ideal) ℓ) : Prop :=
  True

def Pre_GlobalQkv (m : (ℓ : Loc Cert.GlobalQkv.nD Cert.GlobalQkv.τ Cert.GlobalQkv.sig) → Buf (Elt Bits) ℓ) : Prop :=
  True

def Pre_GlobalQkvIdeal (m : (ℓ : Loc Cert.GlobalQkvIdeal.nD Cert.GlobalQkvIdeal.τ Cert.GlobalQkvIdeal.sig) → Buf (Elt Ideal) ℓ) : Prop :=
  True

def Pre_GlobalQkvMathIdeal (m : (ℓ : Loc Cert.GlobalQkvMathIdeal.nD Cert.GlobalQkvMathIdeal.τ Cert.GlobalQkvMathIdeal.sig) → Buf (Elt Ideal) ℓ) : Prop :=
  True

def Pre_LocalQkv (m : (ℓ : Loc Cert.LocalQkv.nD Cert.LocalQkv.τ Cert.LocalQkv.sig) → Buf (Elt Bits) ℓ) : Prop :=
  True

def Pre_LocalQkvIdeal (m : (ℓ : Loc Cert.LocalQkvIdeal.nD Cert.LocalQkvIdeal.τ Cert.LocalQkvIdeal.sig) → Buf (Elt Ideal) ℓ) : Prop :=
  True

def Pre_LocalQkvMathIdeal (m : (ℓ : Loc Cert.LocalQkvMathIdeal.nD Cert.LocalQkvMathIdeal.τ Cert.LocalQkvMathIdeal.sig) → Buf (Elt Ideal) ℓ) : Prop :=
  True

def Pre_LocalOut (m : (ℓ : Loc Cert.LocalOut.nD Cert.LocalOut.τ Cert.LocalOut.sig) → Buf (Elt Bits) ℓ) : Prop :=
  True

def Pre_LocalOutIdeal (m : (ℓ : Loc Cert.LocalOutIdeal.nD Cert.LocalOutIdeal.τ Cert.LocalOutIdeal.sig) → Buf (Elt Ideal) ℓ) : Prop :=
  True

def Pre_LocalOutMathIdeal (m : (ℓ : Loc Cert.LocalOutMathIdeal.nD Cert.LocalOutMathIdeal.τ Cert.LocalOutMathIdeal.sig) → Buf (Elt Ideal) ℓ) : Prop :=
  True

def quiescent_GlobalOut [hGlobalOut : Cert.GlobalOut.Facts] : Prop :=
  ∀ (m : (ℓ : Loc Cert.GlobalOut.nD Cert.GlobalOut.τ Cert.GlobalOut.sig) → Buf (Elt Bits) ℓ) (g : Dev Cert.GlobalOut.nD → PrngReg), Pre_GlobalOut m →
    θ_run (Cert.GlobalOut.defs (F := Bits)) (onTc (τ := Cert.GlobalOut.τ) (Cert.GlobalOut.main (F := Bits))) ⟨m, fun _ => 0, g⟩ (fun r => (∀ c : Dev Cert.GlobalOut.nD,
      r.2.mem ((c.tc : Thread Cert.GlobalOut.nD Cert.GlobalOut.τ).loc Cert.GlobalOut.main_arg0) = m ((c.tc : Thread Cert.GlobalOut.nD Cert.GlobalOut.τ).loc Cert.GlobalOut.main_arg0)
      ∧ r.2.mem ((c.tc : Thread Cert.GlobalOut.nD Cert.GlobalOut.τ).loc Cert.GlobalOut.main_arg1) = m ((c.tc : Thread Cert.GlobalOut.nD Cert.GlobalOut.τ).loc Cert.GlobalOut.main_arg1)
      ∧ r.2.mem ((c.tc : Thread Cert.GlobalOut.nD Cert.GlobalOut.τ).loc Cert.GlobalOut.main_arg2) = m ((c.tc : Thread Cert.GlobalOut.nD Cert.GlobalOut.τ).loc Cert.GlobalOut.main_arg2)
      ∧ r.2.mem ((c.tc : Thread Cert.GlobalOut.nD Cert.GlobalOut.τ).loc Cert.GlobalOut.main_arg3) = m ((c.tc : Thread Cert.GlobalOut.nD Cert.GlobalOut.τ).loc Cert.GlobalOut.main_arg3)
      ∧ r.2.mem ((c.tc : Thread Cert.GlobalOut.nD Cert.GlobalOut.τ).loc Cert.GlobalOut.main_arg4) = m ((c.tc : Thread Cert.GlobalOut.nD Cert.GlobalOut.τ).loc Cert.GlobalOut.main_arg4))
      ∧ r.2.sem = fun _ => 0)

def quiescent_GlobalOutIdeal [hGlobalOutIdeal : Cert.GlobalOutIdeal.Facts] : Prop :=
  ∀ (m : (ℓ : Loc Cert.GlobalOutIdeal.nD Cert.GlobalOutIdeal.τ Cert.GlobalOutIdeal.sig) → Buf (Elt Ideal) ℓ) (g : Dev Cert.GlobalOutIdeal.nD → PrngReg), Pre_GlobalOutIdeal m →
    θ_run (Cert.GlobalOutIdeal.defs (F := Ideal)) (onTc (τ := Cert.GlobalOutIdeal.τ) (Cert.GlobalOutIdeal.main (F := Ideal))) ⟨m, fun _ => 0, g⟩ (fun r => (∀ c : Dev Cert.GlobalOutIdeal.nD,
      r.2.mem ((c.tc : Thread Cert.GlobalOutIdeal.nD Cert.GlobalOutIdeal.τ).loc Cert.GlobalOutIdeal.main_arg0) = m ((c.tc : Thread Cert.GlobalOutIdeal.nD Cert.GlobalOutIdeal.τ).loc Cert.GlobalOutIdeal.main_arg0)
      ∧ r.2.mem ((c.tc : Thread Cert.GlobalOutIdeal.nD Cert.GlobalOutIdeal.τ).loc Cert.GlobalOutIdeal.main_arg1) = m ((c.tc : Thread Cert.GlobalOutIdeal.nD Cert.GlobalOutIdeal.τ).loc Cert.GlobalOutIdeal.main_arg1)
      ∧ r.2.mem ((c.tc : Thread Cert.GlobalOutIdeal.nD Cert.GlobalOutIdeal.τ).loc Cert.GlobalOutIdeal.main_arg2) = m ((c.tc : Thread Cert.GlobalOutIdeal.nD Cert.GlobalOutIdeal.τ).loc Cert.GlobalOutIdeal.main_arg2)
      ∧ r.2.mem ((c.tc : Thread Cert.GlobalOutIdeal.nD Cert.GlobalOutIdeal.τ).loc Cert.GlobalOutIdeal.main_arg3) = m ((c.tc : Thread Cert.GlobalOutIdeal.nD Cert.GlobalOutIdeal.τ).loc Cert.GlobalOutIdeal.main_arg3)
      ∧ r.2.mem ((c.tc : Thread Cert.GlobalOutIdeal.nD Cert.GlobalOutIdeal.τ).loc Cert.GlobalOutIdeal.main_arg4) = m ((c.tc : Thread Cert.GlobalOutIdeal.nD Cert.GlobalOutIdeal.τ).loc Cert.GlobalOutIdeal.main_arg4))
      ∧ r.2.sem = fun _ => 0)

def quiescent_GlobalOutMathIdeal [hGlobalOutMathIdeal : Cert.GlobalOutMathIdeal.Facts] : Prop :=
  ∀ (m : (ℓ : Loc Cert.GlobalOutMathIdeal.nD Cert.GlobalOutMathIdeal.τ Cert.GlobalOutMathIdeal.sig) → Buf (Elt Ideal) ℓ) (g : Dev Cert.GlobalOutMathIdeal.nD → PrngReg), Pre_GlobalOutMathIdeal m →
    θ_run (Cert.GlobalOutMathIdeal.defs (F := Ideal)) (onTc (τ := Cert.GlobalOutMathIdeal.τ) (Cert.GlobalOutMathIdeal.main (F := Ideal))) ⟨m, fun _ => 0, g⟩ (fun r => (∀ c : Dev Cert.GlobalOutMathIdeal.nD,
      r.2.mem ((c.tc : Thread Cert.GlobalOutMathIdeal.nD Cert.GlobalOutMathIdeal.τ).loc Cert.GlobalOutMathIdeal.main_arg0) = m ((c.tc : Thread Cert.GlobalOutMathIdeal.nD Cert.GlobalOutMathIdeal.τ).loc Cert.GlobalOutMathIdeal.main_arg0)
      ∧ r.2.mem ((c.tc : Thread Cert.GlobalOutMathIdeal.nD Cert.GlobalOutMathIdeal.τ).loc Cert.GlobalOutMathIdeal.main_arg1) = m ((c.tc : Thread Cert.GlobalOutMathIdeal.nD Cert.GlobalOutMathIdeal.τ).loc Cert.GlobalOutMathIdeal.main_arg1)
      ∧ r.2.mem ((c.tc : Thread Cert.GlobalOutMathIdeal.nD Cert.GlobalOutMathIdeal.τ).loc Cert.GlobalOutMathIdeal.main_arg2) = m ((c.tc : Thread Cert.GlobalOutMathIdeal.nD Cert.GlobalOutMathIdeal.τ).loc Cert.GlobalOutMathIdeal.main_arg2)
      ∧ r.2.mem ((c.tc : Thread Cert.GlobalOutMathIdeal.nD Cert.GlobalOutMathIdeal.τ).loc Cert.GlobalOutMathIdeal.main_arg3) = m ((c.tc : Thread Cert.GlobalOutMathIdeal.nD Cert.GlobalOutMathIdeal.τ).loc Cert.GlobalOutMathIdeal.main_arg3)
      ∧ r.2.mem ((c.tc : Thread Cert.GlobalOutMathIdeal.nD Cert.GlobalOutMathIdeal.τ).loc Cert.GlobalOutMathIdeal.main_arg4) = m ((c.tc : Thread Cert.GlobalOutMathIdeal.nD Cert.GlobalOutMathIdeal.τ).loc Cert.GlobalOutMathIdeal.main_arg4))
      ∧ r.2.sem = fun _ => 0)

def quiescent_GlobalQkv [hGlobalQkv : Cert.GlobalQkv.Facts] : Prop :=
  ∀ (m : (ℓ : Loc Cert.GlobalQkv.nD Cert.GlobalQkv.τ Cert.GlobalQkv.sig) → Buf (Elt Bits) ℓ) (g : Dev Cert.GlobalQkv.nD → PrngReg), Pre_GlobalQkv m →
    θ_run (Cert.GlobalQkv.defs (F := Bits)) (onTc (τ := Cert.GlobalQkv.τ) (Cert.GlobalQkv.main (F := Bits))) ⟨m, fun _ => 0, g⟩ (fun r => (∀ c : Dev Cert.GlobalQkv.nD,
      r.2.mem ((c.tc : Thread Cert.GlobalQkv.nD Cert.GlobalQkv.τ).loc Cert.GlobalQkv.main_arg0) = m ((c.tc : Thread Cert.GlobalQkv.nD Cert.GlobalQkv.τ).loc Cert.GlobalQkv.main_arg0)
      ∧ r.2.mem ((c.tc : Thread Cert.GlobalQkv.nD Cert.GlobalQkv.τ).loc Cert.GlobalQkv.main_arg1) = m ((c.tc : Thread Cert.GlobalQkv.nD Cert.GlobalQkv.τ).loc Cert.GlobalQkv.main_arg1)
      ∧ r.2.mem ((c.tc : Thread Cert.GlobalQkv.nD Cert.GlobalQkv.τ).loc Cert.GlobalQkv.main_arg2) = m ((c.tc : Thread Cert.GlobalQkv.nD Cert.GlobalQkv.τ).loc Cert.GlobalQkv.main_arg2)
      ∧ r.2.mem ((c.tc : Thread Cert.GlobalQkv.nD Cert.GlobalQkv.τ).loc Cert.GlobalQkv.main_arg3) = m ((c.tc : Thread Cert.GlobalQkv.nD Cert.GlobalQkv.τ).loc Cert.GlobalQkv.main_arg3)
      ∧ r.2.mem ((c.tc : Thread Cert.GlobalQkv.nD Cert.GlobalQkv.τ).loc Cert.GlobalQkv.main_arg4) = m ((c.tc : Thread Cert.GlobalQkv.nD Cert.GlobalQkv.τ).loc Cert.GlobalQkv.main_arg4))
      ∧ r.2.sem = fun _ => 0)

def quiescent_GlobalQkvIdeal [hGlobalQkvIdeal : Cert.GlobalQkvIdeal.Facts] : Prop :=
  ∀ (m : (ℓ : Loc Cert.GlobalQkvIdeal.nD Cert.GlobalQkvIdeal.τ Cert.GlobalQkvIdeal.sig) → Buf (Elt Ideal) ℓ) (g : Dev Cert.GlobalQkvIdeal.nD → PrngReg), Pre_GlobalQkvIdeal m →
    θ_run (Cert.GlobalQkvIdeal.defs (F := Ideal)) (onTc (τ := Cert.GlobalQkvIdeal.τ) (Cert.GlobalQkvIdeal.main (F := Ideal))) ⟨m, fun _ => 0, g⟩ (fun r => (∀ c : Dev Cert.GlobalQkvIdeal.nD,
      r.2.mem ((c.tc : Thread Cert.GlobalQkvIdeal.nD Cert.GlobalQkvIdeal.τ).loc Cert.GlobalQkvIdeal.main_arg0) = m ((c.tc : Thread Cert.GlobalQkvIdeal.nD Cert.GlobalQkvIdeal.τ).loc Cert.GlobalQkvIdeal.main_arg0)
      ∧ r.2.mem ((c.tc : Thread Cert.GlobalQkvIdeal.nD Cert.GlobalQkvIdeal.τ).loc Cert.GlobalQkvIdeal.main_arg1) = m ((c.tc : Thread Cert.GlobalQkvIdeal.nD Cert.GlobalQkvIdeal.τ).loc Cert.GlobalQkvIdeal.main_arg1)
      ∧ r.2.mem ((c.tc : Thread Cert.GlobalQkvIdeal.nD Cert.GlobalQkvIdeal.τ).loc Cert.GlobalQkvIdeal.main_arg2) = m ((c.tc : Thread Cert.GlobalQkvIdeal.nD Cert.GlobalQkvIdeal.τ).loc Cert.GlobalQkvIdeal.main_arg2)
      ∧ r.2.mem ((c.tc : Thread Cert.GlobalQkvIdeal.nD Cert.GlobalQkvIdeal.τ).loc Cert.GlobalQkvIdeal.main_arg3) = m ((c.tc : Thread Cert.GlobalQkvIdeal.nD Cert.GlobalQkvIdeal.τ).loc Cert.GlobalQkvIdeal.main_arg3)
      ∧ r.2.mem ((c.tc : Thread Cert.GlobalQkvIdeal.nD Cert.GlobalQkvIdeal.τ).loc Cert.GlobalQkvIdeal.main_arg4) = m ((c.tc : Thread Cert.GlobalQkvIdeal.nD Cert.GlobalQkvIdeal.τ).loc Cert.GlobalQkvIdeal.main_arg4))
      ∧ r.2.sem = fun _ => 0)

def quiescent_GlobalQkvMathIdeal [hGlobalQkvMathIdeal : Cert.GlobalQkvMathIdeal.Facts] : Prop :=
  ∀ (m : (ℓ : Loc Cert.GlobalQkvMathIdeal.nD Cert.GlobalQkvMathIdeal.τ Cert.GlobalQkvMathIdeal.sig) → Buf (Elt Ideal) ℓ) (g : Dev Cert.GlobalQkvMathIdeal.nD → PrngReg), Pre_GlobalQkvMathIdeal m →
    θ_run (Cert.GlobalQkvMathIdeal.defs (F := Ideal)) (onTc (τ := Cert.GlobalQkvMathIdeal.τ) (Cert.GlobalQkvMathIdeal.main (F := Ideal))) ⟨m, fun _ => 0, g⟩ (fun r => (∀ c : Dev Cert.GlobalQkvMathIdeal.nD,
      r.2.mem ((c.tc : Thread Cert.GlobalQkvMathIdeal.nD Cert.GlobalQkvMathIdeal.τ).loc Cert.GlobalQkvMathIdeal.main_arg0) = m ((c.tc : Thread Cert.GlobalQkvMathIdeal.nD Cert.GlobalQkvMathIdeal.τ).loc Cert.GlobalQkvMathIdeal.main_arg0)
      ∧ r.2.mem ((c.tc : Thread Cert.GlobalQkvMathIdeal.nD Cert.GlobalQkvMathIdeal.τ).loc Cert.GlobalQkvMathIdeal.main_arg1) = m ((c.tc : Thread Cert.GlobalQkvMathIdeal.nD Cert.GlobalQkvMathIdeal.τ).loc Cert.GlobalQkvMathIdeal.main_arg1)
      ∧ r.2.mem ((c.tc : Thread Cert.GlobalQkvMathIdeal.nD Cert.GlobalQkvMathIdeal.τ).loc Cert.GlobalQkvMathIdeal.main_arg2) = m ((c.tc : Thread Cert.GlobalQkvMathIdeal.nD Cert.GlobalQkvMathIdeal.τ).loc Cert.GlobalQkvMathIdeal.main_arg2)
      ∧ r.2.mem ((c.tc : Thread Cert.GlobalQkvMathIdeal.nD Cert.GlobalQkvMathIdeal.τ).loc Cert.GlobalQkvMathIdeal.main_arg3) = m ((c.tc : Thread Cert.GlobalQkvMathIdeal.nD Cert.GlobalQkvMathIdeal.τ).loc Cert.GlobalQkvMathIdeal.main_arg3)
      ∧ r.2.mem ((c.tc : Thread Cert.GlobalQkvMathIdeal.nD Cert.GlobalQkvMathIdeal.τ).loc Cert.GlobalQkvMathIdeal.main_arg4) = m ((c.tc : Thread Cert.GlobalQkvMathIdeal.nD Cert.GlobalQkvMathIdeal.τ).loc Cert.GlobalQkvMathIdeal.main_arg4))
      ∧ r.2.sem = fun _ => 0)

def quiescent_LocalQkv [hLocalQkv : Cert.LocalQkv.Facts] : Prop :=
  ∀ (m : (ℓ : Loc Cert.LocalQkv.nD Cert.LocalQkv.τ Cert.LocalQkv.sig) → Buf (Elt Bits) ℓ) (g : Dev Cert.LocalQkv.nD → PrngReg), Pre_LocalQkv m →
    θ_run (Cert.LocalQkv.defs (F := Bits)) (onTc (τ := Cert.LocalQkv.τ) (Cert.LocalQkv.main (F := Bits))) ⟨m, fun _ => 0, g⟩ (fun r => (∀ c : Dev Cert.LocalQkv.nD,
      r.2.mem ((c.tc : Thread Cert.LocalQkv.nD Cert.LocalQkv.τ).loc Cert.LocalQkv.main_arg0) = m ((c.tc : Thread Cert.LocalQkv.nD Cert.LocalQkv.τ).loc Cert.LocalQkv.main_arg0)
      ∧ r.2.mem ((c.tc : Thread Cert.LocalQkv.nD Cert.LocalQkv.τ).loc Cert.LocalQkv.main_arg1) = m ((c.tc : Thread Cert.LocalQkv.nD Cert.LocalQkv.τ).loc Cert.LocalQkv.main_arg1)
      ∧ r.2.mem ((c.tc : Thread Cert.LocalQkv.nD Cert.LocalQkv.τ).loc Cert.LocalQkv.main_arg2) = m ((c.tc : Thread Cert.LocalQkv.nD Cert.LocalQkv.τ).loc Cert.LocalQkv.main_arg2)
      ∧ r.2.mem ((c.tc : Thread Cert.LocalQkv.nD Cert.LocalQkv.τ).loc Cert.LocalQkv.main_arg3) = m ((c.tc : Thread Cert.LocalQkv.nD Cert.LocalQkv.τ).loc Cert.LocalQkv.main_arg3)
      ∧ r.2.mem ((c.tc : Thread Cert.LocalQkv.nD Cert.LocalQkv.τ).loc Cert.LocalQkv.main_arg4) = m ((c.tc : Thread Cert.LocalQkv.nD Cert.LocalQkv.τ).loc Cert.LocalQkv.main_arg4)
      ∧ r.2.mem ((c.tc : Thread Cert.LocalQkv.nD Cert.LocalQkv.τ).loc Cert.LocalQkv.main_arg5) = m ((c.tc : Thread Cert.LocalQkv.nD Cert.LocalQkv.τ).loc Cert.LocalQkv.main_arg5))
      ∧ r.2.sem = fun _ => 0)

def quiescent_LocalQkvIdeal [hLocalQkvIdeal : Cert.LocalQkvIdeal.Facts] : Prop :=
  ∀ (m : (ℓ : Loc Cert.LocalQkvIdeal.nD Cert.LocalQkvIdeal.τ Cert.LocalQkvIdeal.sig) → Buf (Elt Ideal) ℓ) (g : Dev Cert.LocalQkvIdeal.nD → PrngReg), Pre_LocalQkvIdeal m →
    θ_run (Cert.LocalQkvIdeal.defs (F := Ideal)) (onTc (τ := Cert.LocalQkvIdeal.τ) (Cert.LocalQkvIdeal.main (F := Ideal))) ⟨m, fun _ => 0, g⟩ (fun r => (∀ c : Dev Cert.LocalQkvIdeal.nD,
      r.2.mem ((c.tc : Thread Cert.LocalQkvIdeal.nD Cert.LocalQkvIdeal.τ).loc Cert.LocalQkvIdeal.main_arg0) = m ((c.tc : Thread Cert.LocalQkvIdeal.nD Cert.LocalQkvIdeal.τ).loc Cert.LocalQkvIdeal.main_arg0)
      ∧ r.2.mem ((c.tc : Thread Cert.LocalQkvIdeal.nD Cert.LocalQkvIdeal.τ).loc Cert.LocalQkvIdeal.main_arg1) = m ((c.tc : Thread Cert.LocalQkvIdeal.nD Cert.LocalQkvIdeal.τ).loc Cert.LocalQkvIdeal.main_arg1)
      ∧ r.2.mem ((c.tc : Thread Cert.LocalQkvIdeal.nD Cert.LocalQkvIdeal.τ).loc Cert.LocalQkvIdeal.main_arg2) = m ((c.tc : Thread Cert.LocalQkvIdeal.nD Cert.LocalQkvIdeal.τ).loc Cert.LocalQkvIdeal.main_arg2)
      ∧ r.2.mem ((c.tc : Thread Cert.LocalQkvIdeal.nD Cert.LocalQkvIdeal.τ).loc Cert.LocalQkvIdeal.main_arg3) = m ((c.tc : Thread Cert.LocalQkvIdeal.nD Cert.LocalQkvIdeal.τ).loc Cert.LocalQkvIdeal.main_arg3)
      ∧ r.2.mem ((c.tc : Thread Cert.LocalQkvIdeal.nD Cert.LocalQkvIdeal.τ).loc Cert.LocalQkvIdeal.main_arg4) = m ((c.tc : Thread Cert.LocalQkvIdeal.nD Cert.LocalQkvIdeal.τ).loc Cert.LocalQkvIdeal.main_arg4)
      ∧ r.2.mem ((c.tc : Thread Cert.LocalQkvIdeal.nD Cert.LocalQkvIdeal.τ).loc Cert.LocalQkvIdeal.main_arg5) = m ((c.tc : Thread Cert.LocalQkvIdeal.nD Cert.LocalQkvIdeal.τ).loc Cert.LocalQkvIdeal.main_arg5))
      ∧ r.2.sem = fun _ => 0)

def quiescent_LocalQkvMathIdeal [hLocalQkvMathIdeal : Cert.LocalQkvMathIdeal.Facts] : Prop :=
  ∀ (m : (ℓ : Loc Cert.LocalQkvMathIdeal.nD Cert.LocalQkvMathIdeal.τ Cert.LocalQkvMathIdeal.sig) → Buf (Elt Ideal) ℓ) (g : Dev Cert.LocalQkvMathIdeal.nD → PrngReg), Pre_LocalQkvMathIdeal m →
    θ_run (Cert.LocalQkvMathIdeal.defs (F := Ideal)) (onTc (τ := Cert.LocalQkvMathIdeal.τ) (Cert.LocalQkvMathIdeal.main (F := Ideal))) ⟨m, fun _ => 0, g⟩ (fun r => (∀ c : Dev Cert.LocalQkvMathIdeal.nD,
      r.2.mem ((c.tc : Thread Cert.LocalQkvMathIdeal.nD Cert.LocalQkvMathIdeal.τ).loc Cert.LocalQkvMathIdeal.main_arg0) = m ((c.tc : Thread Cert.LocalQkvMathIdeal.nD Cert.LocalQkvMathIdeal.τ).loc Cert.LocalQkvMathIdeal.main_arg0)
      ∧ r.2.mem ((c.tc : Thread Cert.LocalQkvMathIdeal.nD Cert.LocalQkvMathIdeal.τ).loc Cert.LocalQkvMathIdeal.main_arg1) = m ((c.tc : Thread Cert.LocalQkvMathIdeal.nD Cert.LocalQkvMathIdeal.τ).loc Cert.LocalQkvMathIdeal.main_arg1)
      ∧ r.2.mem ((c.tc : Thread Cert.LocalQkvMathIdeal.nD Cert.LocalQkvMathIdeal.τ).loc Cert.LocalQkvMathIdeal.main_arg2) = m ((c.tc : Thread Cert.LocalQkvMathIdeal.nD Cert.LocalQkvMathIdeal.τ).loc Cert.LocalQkvMathIdeal.main_arg2)
      ∧ r.2.mem ((c.tc : Thread Cert.LocalQkvMathIdeal.nD Cert.LocalQkvMathIdeal.τ).loc Cert.LocalQkvMathIdeal.main_arg3) = m ((c.tc : Thread Cert.LocalQkvMathIdeal.nD Cert.LocalQkvMathIdeal.τ).loc Cert.LocalQkvMathIdeal.main_arg3)
      ∧ r.2.mem ((c.tc : Thread Cert.LocalQkvMathIdeal.nD Cert.LocalQkvMathIdeal.τ).loc Cert.LocalQkvMathIdeal.main_arg4) = m ((c.tc : Thread Cert.LocalQkvMathIdeal.nD Cert.LocalQkvMathIdeal.τ).loc Cert.LocalQkvMathIdeal.main_arg4)
      ∧ r.2.mem ((c.tc : Thread Cert.LocalQkvMathIdeal.nD Cert.LocalQkvMathIdeal.τ).loc Cert.LocalQkvMathIdeal.main_arg5) = m ((c.tc : Thread Cert.LocalQkvMathIdeal.nD Cert.LocalQkvMathIdeal.τ).loc Cert.LocalQkvMathIdeal.main_arg5))
      ∧ r.2.sem = fun _ => 0)

def quiescent_LocalOut [hLocalOut : Cert.LocalOut.Facts] : Prop :=
  ∀ (m : (ℓ : Loc Cert.LocalOut.nD Cert.LocalOut.τ Cert.LocalOut.sig) → Buf (Elt Bits) ℓ) (g : Dev Cert.LocalOut.nD → PrngReg), Pre_LocalOut m →
    θ_run (Cert.LocalOut.defs (F := Bits)) (onTc (τ := Cert.LocalOut.τ) (Cert.LocalOut.main (F := Bits))) ⟨m, fun _ => 0, g⟩ (fun r => (∀ c : Dev Cert.LocalOut.nD,
      r.2.mem ((c.tc : Thread Cert.LocalOut.nD Cert.LocalOut.τ).loc Cert.LocalOut.main_arg0) = m ((c.tc : Thread Cert.LocalOut.nD Cert.LocalOut.τ).loc Cert.LocalOut.main_arg0)
      ∧ r.2.mem ((c.tc : Thread Cert.LocalOut.nD Cert.LocalOut.τ).loc Cert.LocalOut.main_arg1) = m ((c.tc : Thread Cert.LocalOut.nD Cert.LocalOut.τ).loc Cert.LocalOut.main_arg1)
      ∧ r.2.mem ((c.tc : Thread Cert.LocalOut.nD Cert.LocalOut.τ).loc Cert.LocalOut.main_arg2) = m ((c.tc : Thread Cert.LocalOut.nD Cert.LocalOut.τ).loc Cert.LocalOut.main_arg2)
      ∧ r.2.mem ((c.tc : Thread Cert.LocalOut.nD Cert.LocalOut.τ).loc Cert.LocalOut.main_arg3) = m ((c.tc : Thread Cert.LocalOut.nD Cert.LocalOut.τ).loc Cert.LocalOut.main_arg3)
      ∧ r.2.mem ((c.tc : Thread Cert.LocalOut.nD Cert.LocalOut.τ).loc Cert.LocalOut.main_arg4) = m ((c.tc : Thread Cert.LocalOut.nD Cert.LocalOut.τ).loc Cert.LocalOut.main_arg4)
      ∧ r.2.mem ((c.tc : Thread Cert.LocalOut.nD Cert.LocalOut.τ).loc Cert.LocalOut.main_arg5) = m ((c.tc : Thread Cert.LocalOut.nD Cert.LocalOut.τ).loc Cert.LocalOut.main_arg5))
      ∧ r.2.sem = fun _ => 0)

def quiescent_LocalOutIdeal [hLocalOutIdeal : Cert.LocalOutIdeal.Facts] : Prop :=
  ∀ (m : (ℓ : Loc Cert.LocalOutIdeal.nD Cert.LocalOutIdeal.τ Cert.LocalOutIdeal.sig) → Buf (Elt Ideal) ℓ) (g : Dev Cert.LocalOutIdeal.nD → PrngReg), Pre_LocalOutIdeal m →
    θ_run (Cert.LocalOutIdeal.defs (F := Ideal)) (onTc (τ := Cert.LocalOutIdeal.τ) (Cert.LocalOutIdeal.main (F := Ideal))) ⟨m, fun _ => 0, g⟩ (fun r => (∀ c : Dev Cert.LocalOutIdeal.nD,
      r.2.mem ((c.tc : Thread Cert.LocalOutIdeal.nD Cert.LocalOutIdeal.τ).loc Cert.LocalOutIdeal.main_arg0) = m ((c.tc : Thread Cert.LocalOutIdeal.nD Cert.LocalOutIdeal.τ).loc Cert.LocalOutIdeal.main_arg0)
      ∧ r.2.mem ((c.tc : Thread Cert.LocalOutIdeal.nD Cert.LocalOutIdeal.τ).loc Cert.LocalOutIdeal.main_arg1) = m ((c.tc : Thread Cert.LocalOutIdeal.nD Cert.LocalOutIdeal.τ).loc Cert.LocalOutIdeal.main_arg1)
      ∧ r.2.mem ((c.tc : Thread Cert.LocalOutIdeal.nD Cert.LocalOutIdeal.τ).loc Cert.LocalOutIdeal.main_arg2) = m ((c.tc : Thread Cert.LocalOutIdeal.nD Cert.LocalOutIdeal.τ).loc Cert.LocalOutIdeal.main_arg2)
      ∧ r.2.mem ((c.tc : Thread Cert.LocalOutIdeal.nD Cert.LocalOutIdeal.τ).loc Cert.LocalOutIdeal.main_arg3) = m ((c.tc : Thread Cert.LocalOutIdeal.nD Cert.LocalOutIdeal.τ).loc Cert.LocalOutIdeal.main_arg3)
      ∧ r.2.mem ((c.tc : Thread Cert.LocalOutIdeal.nD Cert.LocalOutIdeal.τ).loc Cert.LocalOutIdeal.main_arg4) = m ((c.tc : Thread Cert.LocalOutIdeal.nD Cert.LocalOutIdeal.τ).loc Cert.LocalOutIdeal.main_arg4)
      ∧ r.2.mem ((c.tc : Thread Cert.LocalOutIdeal.nD Cert.LocalOutIdeal.τ).loc Cert.LocalOutIdeal.main_arg5) = m ((c.tc : Thread Cert.LocalOutIdeal.nD Cert.LocalOutIdeal.τ).loc Cert.LocalOutIdeal.main_arg5))
      ∧ r.2.sem = fun _ => 0)

def quiescent_LocalOutMathIdeal [hLocalOutMathIdeal : Cert.LocalOutMathIdeal.Facts] : Prop :=
  ∀ (m : (ℓ : Loc Cert.LocalOutMathIdeal.nD Cert.LocalOutMathIdeal.τ Cert.LocalOutMathIdeal.sig) → Buf (Elt Ideal) ℓ) (g : Dev Cert.LocalOutMathIdeal.nD → PrngReg), Pre_LocalOutMathIdeal m →
    θ_run (Cert.LocalOutMathIdeal.defs (F := Ideal)) (onTc (τ := Cert.LocalOutMathIdeal.τ) (Cert.LocalOutMathIdeal.main (F := Ideal))) ⟨m, fun _ => 0, g⟩ (fun r => (∀ c : Dev Cert.LocalOutMathIdeal.nD,
      r.2.mem ((c.tc : Thread Cert.LocalOutMathIdeal.nD Cert.LocalOutMathIdeal.τ).loc Cert.LocalOutMathIdeal.main_arg0) = m ((c.tc : Thread Cert.LocalOutMathIdeal.nD Cert.LocalOutMathIdeal.τ).loc Cert.LocalOutMathIdeal.main_arg0)
      ∧ r.2.mem ((c.tc : Thread Cert.LocalOutMathIdeal.nD Cert.LocalOutMathIdeal.τ).loc Cert.LocalOutMathIdeal.main_arg1) = m ((c.tc : Thread Cert.LocalOutMathIdeal.nD Cert.LocalOutMathIdeal.τ).loc Cert.LocalOutMathIdeal.main_arg1)
      ∧ r.2.mem ((c.tc : Thread Cert.LocalOutMathIdeal.nD Cert.LocalOutMathIdeal.τ).loc Cert.LocalOutMathIdeal.main_arg2) = m ((c.tc : Thread Cert.LocalOutMathIdeal.nD Cert.LocalOutMathIdeal.τ).loc Cert.LocalOutMathIdeal.main_arg2)
      ∧ r.2.mem ((c.tc : Thread Cert.LocalOutMathIdeal.nD Cert.LocalOutMathIdeal.τ).loc Cert.LocalOutMathIdeal.main_arg3) = m ((c.tc : Thread Cert.LocalOutMathIdeal.nD Cert.LocalOutMathIdeal.τ).loc Cert.LocalOutMathIdeal.main_arg3)
      ∧ r.2.mem ((c.tc : Thread Cert.LocalOutMathIdeal.nD Cert.LocalOutMathIdeal.τ).loc Cert.LocalOutMathIdeal.main_arg4) = m ((c.tc : Thread Cert.LocalOutMathIdeal.nD Cert.LocalOutMathIdeal.τ).loc Cert.LocalOutMathIdeal.main_arg4)
      ∧ r.2.mem ((c.tc : Thread Cert.LocalOutMathIdeal.nD Cert.LocalOutMathIdeal.τ).loc Cert.LocalOutMathIdeal.main_arg5) = m ((c.tc : Thread Cert.LocalOutMathIdeal.nD Cert.LocalOutMathIdeal.τ).loc Cert.LocalOutMathIdeal.main_arg5))
      ∧ r.2.sem = fun _ => 0)

def preserves_GlobalOut_GlobalOutIdeal : Prop :=
  True

def algebraic_GlobalOutIdeal_GlobalOutMathIdeal [hGlobalOutIdeal : Cert.GlobalOutIdeal.Facts] [hGlobalOutMathIdeal : Cert.GlobalOutMathIdeal.Facts] : Prop :=
  ∀ (m : (ℓ : Loc Cert.GlobalOutIdeal.nD Cert.GlobalOutIdeal.τ Cert.GlobalOutIdeal.sig) → Buf (Elt Ideal) ℓ) (g : Dev Cert.GlobalOutIdeal.nD → PrngReg)
    (m' : (ℓ : Loc Cert.GlobalOutMathIdeal.nD Cert.GlobalOutMathIdeal.τ Cert.GlobalOutMathIdeal.sig) → Buf (Elt Ideal) ℓ) (g' : Dev Cert.GlobalOutMathIdeal.nD → PrngReg), Pre_GlobalOutIdeal m →
    (∀ c : Dev Cert.GlobalOutIdeal.nD,
      m' ((c.tc : Thread Cert.GlobalOutMathIdeal.nD Cert.GlobalOutMathIdeal.τ).loc Cert.GlobalOutMathIdeal.main_arg0) = m ((c.tc : Thread Cert.GlobalOutIdeal.nD Cert.GlobalOutIdeal.τ).loc Cert.GlobalOutIdeal.main_arg0)
      ∧ m' ((c.tc : Thread Cert.GlobalOutMathIdeal.nD Cert.GlobalOutMathIdeal.τ).loc Cert.GlobalOutMathIdeal.main_arg1) = m ((c.tc : Thread Cert.GlobalOutIdeal.nD Cert.GlobalOutIdeal.τ).loc Cert.GlobalOutIdeal.main_arg1)
      ∧ m' ((c.tc : Thread Cert.GlobalOutMathIdeal.nD Cert.GlobalOutMathIdeal.τ).loc Cert.GlobalOutMathIdeal.main_arg2) = m ((c.tc : Thread Cert.GlobalOutIdeal.nD Cert.GlobalOutIdeal.τ).loc Cert.GlobalOutIdeal.main_arg2)
      ∧ m' ((c.tc : Thread Cert.GlobalOutMathIdeal.nD Cert.GlobalOutMathIdeal.τ).loc Cert.GlobalOutMathIdeal.main_arg3) = m ((c.tc : Thread Cert.GlobalOutIdeal.nD Cert.GlobalOutIdeal.τ).loc Cert.GlobalOutIdeal.main_arg3)
      ∧ m' ((c.tc : Thread Cert.GlobalOutMathIdeal.nD Cert.GlobalOutMathIdeal.τ).loc Cert.GlobalOutMathIdeal.main_arg4) = m ((c.tc : Thread Cert.GlobalOutIdeal.nD Cert.GlobalOutIdeal.τ).loc Cert.GlobalOutIdeal.main_arg4)) →
    ∃ (v0 : (c : Dev Cert.GlobalOutIdeal.nD) → Buf (Elt Ideal) ((c.tc : Thread Cert.GlobalOutIdeal.nD Cert.GlobalOutIdeal.τ).loc Cert.GlobalOutIdeal.main_v3)),
      θ_run (Cert.GlobalOutIdeal.defs (F := Ideal)) (onTc (τ := Cert.GlobalOutIdeal.τ) (Cert.GlobalOutIdeal.main (F := Ideal))) ⟨m, fun _ => 0, g⟩ (fun r => ∀ c : Dev Cert.GlobalOutIdeal.nD,
          r.2.mem ((c.tc : Thread Cert.GlobalOutIdeal.nD Cert.GlobalOutIdeal.τ).loc Cert.GlobalOutIdeal.main_v3) = v0 c
          ∧ r.2.mem ((c.tc : Thread Cert.GlobalOutIdeal.nD Cert.GlobalOutIdeal.τ).loc Cert.GlobalOutIdeal.main_arg0) = m ((c.tc : Thread Cert.GlobalOutIdeal.nD Cert.GlobalOutIdeal.τ).loc Cert.GlobalOutIdeal.main_arg0)
          ∧ r.2.mem ((c.tc : Thread Cert.GlobalOutIdeal.nD Cert.GlobalOutIdeal.τ).loc Cert.GlobalOutIdeal.main_arg1) = m ((c.tc : Thread Cert.GlobalOutIdeal.nD Cert.GlobalOutIdeal.τ).loc Cert.GlobalOutIdeal.main_arg1)
          ∧ r.2.mem ((c.tc : Thread Cert.GlobalOutIdeal.nD Cert.GlobalOutIdeal.τ).loc Cert.GlobalOutIdeal.main_arg2) = m ((c.tc : Thread Cert.GlobalOutIdeal.nD Cert.GlobalOutIdeal.τ).loc Cert.GlobalOutIdeal.main_arg2)
          ∧ r.2.mem ((c.tc : Thread Cert.GlobalOutIdeal.nD Cert.GlobalOutIdeal.τ).loc Cert.GlobalOutIdeal.main_arg3) = m ((c.tc : Thread Cert.GlobalOutIdeal.nD Cert.GlobalOutIdeal.τ).loc Cert.GlobalOutIdeal.main_arg3)
          ∧ r.2.mem ((c.tc : Thread Cert.GlobalOutIdeal.nD Cert.GlobalOutIdeal.τ).loc Cert.GlobalOutIdeal.main_arg4) = m ((c.tc : Thread Cert.GlobalOutIdeal.nD Cert.GlobalOutIdeal.τ).loc Cert.GlobalOutIdeal.main_arg4))
      ∧ θ_run (Cert.GlobalOutMathIdeal.defs (F := Ideal)) (onTc (τ := Cert.GlobalOutMathIdeal.τ) (Cert.GlobalOutMathIdeal.main (F := Ideal))) ⟨m', fun _ => 0, g'⟩ (fun r => ∀ c : Dev Cert.GlobalOutMathIdeal.nD,
          r.2.mem ((c.tc : Thread Cert.GlobalOutMathIdeal.nD Cert.GlobalOutMathIdeal.τ).loc Cert.GlobalOutMathIdeal.main_v3) = v0 c
          ∧ r.2.mem ((c.tc : Thread Cert.GlobalOutMathIdeal.nD Cert.GlobalOutMathIdeal.τ).loc Cert.GlobalOutMathIdeal.main_arg0) = m' ((c.tc : Thread Cert.GlobalOutMathIdeal.nD Cert.GlobalOutMathIdeal.τ).loc Cert.GlobalOutMathIdeal.main_arg0)
          ∧ r.2.mem ((c.tc : Thread Cert.GlobalOutMathIdeal.nD Cert.GlobalOutMathIdeal.τ).loc Cert.GlobalOutMathIdeal.main_arg1) = m' ((c.tc : Thread Cert.GlobalOutMathIdeal.nD Cert.GlobalOutMathIdeal.τ).loc Cert.GlobalOutMathIdeal.main_arg1)
          ∧ r.2.mem ((c.tc : Thread Cert.GlobalOutMathIdeal.nD Cert.GlobalOutMathIdeal.τ).loc Cert.GlobalOutMathIdeal.main_arg2) = m' ((c.tc : Thread Cert.GlobalOutMathIdeal.nD Cert.GlobalOutMathIdeal.τ).loc Cert.GlobalOutMathIdeal.main_arg2)
          ∧ r.2.mem ((c.tc : Thread Cert.GlobalOutMathIdeal.nD Cert.GlobalOutMathIdeal.τ).loc Cert.GlobalOutMathIdeal.main_arg3) = m' ((c.tc : Thread Cert.GlobalOutMathIdeal.nD Cert.GlobalOutMathIdeal.τ).loc Cert.GlobalOutMathIdeal.main_arg3)
          ∧ r.2.mem ((c.tc : Thread Cert.GlobalOutMathIdeal.nD Cert.GlobalOutMathIdeal.τ).loc Cert.GlobalOutMathIdeal.main_arg4) = m' ((c.tc : Thread Cert.GlobalOutMathIdeal.nD Cert.GlobalOutMathIdeal.τ).loc Cert.GlobalOutMathIdeal.main_arg4))

def preserves_GlobalQkv_GlobalQkvIdeal : Prop :=
  True

def algebraic_GlobalQkvIdeal_GlobalQkvMathIdeal [hGlobalQkvIdeal : Cert.GlobalQkvIdeal.Facts] [hGlobalQkvMathIdeal : Cert.GlobalQkvMathIdeal.Facts] : Prop :=
  ∀ (m : (ℓ : Loc Cert.GlobalQkvIdeal.nD Cert.GlobalQkvIdeal.τ Cert.GlobalQkvIdeal.sig) → Buf (Elt Ideal) ℓ) (g : Dev Cert.GlobalQkvIdeal.nD → PrngReg)
    (m' : (ℓ : Loc Cert.GlobalQkvMathIdeal.nD Cert.GlobalQkvMathIdeal.τ Cert.GlobalQkvMathIdeal.sig) → Buf (Elt Ideal) ℓ) (g' : Dev Cert.GlobalQkvMathIdeal.nD → PrngReg), Pre_GlobalQkvIdeal m →
    (∀ c : Dev Cert.GlobalQkvIdeal.nD,
      m' ((c.tc : Thread Cert.GlobalQkvMathIdeal.nD Cert.GlobalQkvMathIdeal.τ).loc Cert.GlobalQkvMathIdeal.main_arg0) = m ((c.tc : Thread Cert.GlobalQkvIdeal.nD Cert.GlobalQkvIdeal.τ).loc Cert.GlobalQkvIdeal.main_arg0)
      ∧ m' ((c.tc : Thread Cert.GlobalQkvMathIdeal.nD Cert.GlobalQkvMathIdeal.τ).loc Cert.GlobalQkvMathIdeal.main_arg1) = m ((c.tc : Thread Cert.GlobalQkvIdeal.nD Cert.GlobalQkvIdeal.τ).loc Cert.GlobalQkvIdeal.main_arg1)
      ∧ m' ((c.tc : Thread Cert.GlobalQkvMathIdeal.nD Cert.GlobalQkvMathIdeal.τ).loc Cert.GlobalQkvMathIdeal.main_arg2) = m ((c.tc : Thread Cert.GlobalQkvIdeal.nD Cert.GlobalQkvIdeal.τ).loc Cert.GlobalQkvIdeal.main_arg2)
      ∧ m' ((c.tc : Thread Cert.GlobalQkvMathIdeal.nD Cert.GlobalQkvMathIdeal.τ).loc Cert.GlobalQkvMathIdeal.main_arg3) = m ((c.tc : Thread Cert.GlobalQkvIdeal.nD Cert.GlobalQkvIdeal.τ).loc Cert.GlobalQkvIdeal.main_arg3)
      ∧ m' ((c.tc : Thread Cert.GlobalQkvMathIdeal.nD Cert.GlobalQkvMathIdeal.τ).loc Cert.GlobalQkvMathIdeal.main_arg4) = m ((c.tc : Thread Cert.GlobalQkvIdeal.nD Cert.GlobalQkvIdeal.τ).loc Cert.GlobalQkvIdeal.main_arg4)) →
    ∃ (v0 : (c : Dev Cert.GlobalQkvIdeal.nD) → Buf (Elt Ideal) ((c.tc : Thread Cert.GlobalQkvIdeal.nD Cert.GlobalQkvIdeal.τ).loc Cert.GlobalQkvIdeal.main_v13_0)) (v1 : (c : Dev Cert.GlobalQkvIdeal.nD) → Buf (Elt Ideal) ((c.tc : Thread Cert.GlobalQkvIdeal.nD Cert.GlobalQkvIdeal.τ).loc Cert.GlobalQkvIdeal.main_v13_1)) (v2 : (c : Dev Cert.GlobalQkvIdeal.nD) → Buf (Elt Ideal) ((c.tc : Thread Cert.GlobalQkvIdeal.nD Cert.GlobalQkvIdeal.τ).loc Cert.GlobalQkvIdeal.main_v13_2)) (v3 : (c : Dev Cert.GlobalQkvIdeal.nD) → Buf (Elt Ideal) ((c.tc : Thread Cert.GlobalQkvIdeal.nD Cert.GlobalQkvIdeal.τ).loc Cert.GlobalQkvIdeal.main_v13_3)) (v4 : (c : Dev Cert.GlobalQkvIdeal.nD) → Buf (Elt Ideal) ((c.tc : Thread Cert.GlobalQkvIdeal.nD Cert.GlobalQkvIdeal.τ).loc Cert.GlobalQkvIdeal.main_v13_4)) (v5 : (c : Dev Cert.GlobalQkvIdeal.nD) → Buf (Elt Ideal) ((c.tc : Thread Cert.GlobalQkvIdeal.nD Cert.GlobalQkvIdeal.τ).loc Cert.GlobalQkvIdeal.main_v13_5)) (v6 : (c : Dev Cert.GlobalQkvIdeal.nD) → Buf (Elt Ideal) ((c.tc : Thread Cert.GlobalQkvIdeal.nD Cert.GlobalQkvIdeal.τ).loc Cert.GlobalQkvIdeal.main_v13_6)),
      θ_run (Cert.GlobalQkvIdeal.defs (F := Ideal)) (onTc (τ := Cert.GlobalQkvIdeal.τ) (Cert.GlobalQkvIdeal.main (F := Ideal))) ⟨m, fun _ => 0, g⟩ (fun r => ∀ c : Dev Cert.GlobalQkvIdeal.nD,
          r.2.mem ((c.tc : Thread Cert.GlobalQkvIdeal.nD Cert.GlobalQkvIdeal.τ).loc Cert.GlobalQkvIdeal.main_v13_0) = v0 c
          ∧ r.2.mem ((c.tc : Thread Cert.GlobalQkvIdeal.nD Cert.GlobalQkvIdeal.τ).loc Cert.GlobalQkvIdeal.main_v13_1) = v1 c
          ∧ r.2.mem ((c.tc : Thread Cert.GlobalQkvIdeal.nD Cert.GlobalQkvIdeal.τ).loc Cert.GlobalQkvIdeal.main_v13_2) = v2 c
          ∧ r.2.mem ((c.tc : Thread Cert.GlobalQkvIdeal.nD Cert.GlobalQkvIdeal.τ).loc Cert.GlobalQkvIdeal.main_v13_3) = v3 c
          ∧ r.2.mem ((c.tc : Thread Cert.GlobalQkvIdeal.nD Cert.GlobalQkvIdeal.τ).loc Cert.GlobalQkvIdeal.main_v13_4) = v4 c
          ∧ r.2.mem ((c.tc : Thread Cert.GlobalQkvIdeal.nD Cert.GlobalQkvIdeal.τ).loc Cert.GlobalQkvIdeal.main_v13_5) = v5 c
          ∧ r.2.mem ((c.tc : Thread Cert.GlobalQkvIdeal.nD Cert.GlobalQkvIdeal.τ).loc Cert.GlobalQkvIdeal.main_v13_6) = v6 c
          ∧ r.2.mem ((c.tc : Thread Cert.GlobalQkvIdeal.nD Cert.GlobalQkvIdeal.τ).loc Cert.GlobalQkvIdeal.main_arg0) = m ((c.tc : Thread Cert.GlobalQkvIdeal.nD Cert.GlobalQkvIdeal.τ).loc Cert.GlobalQkvIdeal.main_arg0)
          ∧ r.2.mem ((c.tc : Thread Cert.GlobalQkvIdeal.nD Cert.GlobalQkvIdeal.τ).loc Cert.GlobalQkvIdeal.main_arg1) = m ((c.tc : Thread Cert.GlobalQkvIdeal.nD Cert.GlobalQkvIdeal.τ).loc Cert.GlobalQkvIdeal.main_arg1)
          ∧ r.2.mem ((c.tc : Thread Cert.GlobalQkvIdeal.nD Cert.GlobalQkvIdeal.τ).loc Cert.GlobalQkvIdeal.main_arg2) = m ((c.tc : Thread Cert.GlobalQkvIdeal.nD Cert.GlobalQkvIdeal.τ).loc Cert.GlobalQkvIdeal.main_arg2)
          ∧ r.2.mem ((c.tc : Thread Cert.GlobalQkvIdeal.nD Cert.GlobalQkvIdeal.τ).loc Cert.GlobalQkvIdeal.main_arg3) = m ((c.tc : Thread Cert.GlobalQkvIdeal.nD Cert.GlobalQkvIdeal.τ).loc Cert.GlobalQkvIdeal.main_arg3)
          ∧ r.2.mem ((c.tc : Thread Cert.GlobalQkvIdeal.nD Cert.GlobalQkvIdeal.τ).loc Cert.GlobalQkvIdeal.main_arg4) = m ((c.tc : Thread Cert.GlobalQkvIdeal.nD Cert.GlobalQkvIdeal.τ).loc Cert.GlobalQkvIdeal.main_arg4))
      ∧ θ_run (Cert.GlobalQkvMathIdeal.defs (F := Ideal)) (onTc (τ := Cert.GlobalQkvMathIdeal.τ) (Cert.GlobalQkvMathIdeal.main (F := Ideal))) ⟨m', fun _ => 0, g'⟩ (fun r => ∀ c : Dev Cert.GlobalQkvMathIdeal.nD,
          r.2.mem ((c.tc : Thread Cert.GlobalQkvMathIdeal.nD Cert.GlobalQkvMathIdeal.τ).loc Cert.GlobalQkvMathIdeal.main_v14_0) = v0 c
          ∧ r.2.mem ((c.tc : Thread Cert.GlobalQkvMathIdeal.nD Cert.GlobalQkvMathIdeal.τ).loc Cert.GlobalQkvMathIdeal.main_v14_1) = v1 c
          ∧ r.2.mem ((c.tc : Thread Cert.GlobalQkvMathIdeal.nD Cert.GlobalQkvMathIdeal.τ).loc Cert.GlobalQkvMathIdeal.main_v14_2) = v2 c
          ∧ r.2.mem ((c.tc : Thread Cert.GlobalQkvMathIdeal.nD Cert.GlobalQkvMathIdeal.τ).loc Cert.GlobalQkvMathIdeal.main_v14_3) = v3 c
          ∧ r.2.mem ((c.tc : Thread Cert.GlobalQkvMathIdeal.nD Cert.GlobalQkvMathIdeal.τ).loc Cert.GlobalQkvMathIdeal.main_v14_4) = v4 c
          ∧ r.2.mem ((c.tc : Thread Cert.GlobalQkvMathIdeal.nD Cert.GlobalQkvMathIdeal.τ).loc Cert.GlobalQkvMathIdeal.main_v14_5) = v5 c
          ∧ r.2.mem ((c.tc : Thread Cert.GlobalQkvMathIdeal.nD Cert.GlobalQkvMathIdeal.τ).loc Cert.GlobalQkvMathIdeal.main_v14_6) = v6 c
          ∧ r.2.mem ((c.tc : Thread Cert.GlobalQkvMathIdeal.nD Cert.GlobalQkvMathIdeal.τ).loc Cert.GlobalQkvMathIdeal.main_arg0) = m' ((c.tc : Thread Cert.GlobalQkvMathIdeal.nD Cert.GlobalQkvMathIdeal.τ).loc Cert.GlobalQkvMathIdeal.main_arg0)
          ∧ r.2.mem ((c.tc : Thread Cert.GlobalQkvMathIdeal.nD Cert.GlobalQkvMathIdeal.τ).loc Cert.GlobalQkvMathIdeal.main_arg1) = m' ((c.tc : Thread Cert.GlobalQkvMathIdeal.nD Cert.GlobalQkvMathIdeal.τ).loc Cert.GlobalQkvMathIdeal.main_arg1)
          ∧ r.2.mem ((c.tc : Thread Cert.GlobalQkvMathIdeal.nD Cert.GlobalQkvMathIdeal.τ).loc Cert.GlobalQkvMathIdeal.main_arg2) = m' ((c.tc : Thread Cert.GlobalQkvMathIdeal.nD Cert.GlobalQkvMathIdeal.τ).loc Cert.GlobalQkvMathIdeal.main_arg2)
          ∧ r.2.mem ((c.tc : Thread Cert.GlobalQkvMathIdeal.nD Cert.GlobalQkvMathIdeal.τ).loc Cert.GlobalQkvMathIdeal.main_arg3) = m' ((c.tc : Thread Cert.GlobalQkvMathIdeal.nD Cert.GlobalQkvMathIdeal.τ).loc Cert.GlobalQkvMathIdeal.main_arg3)
          ∧ r.2.mem ((c.tc : Thread Cert.GlobalQkvMathIdeal.nD Cert.GlobalQkvMathIdeal.τ).loc Cert.GlobalQkvMathIdeal.main_arg4) = m' ((c.tc : Thread Cert.GlobalQkvMathIdeal.nD Cert.GlobalQkvMathIdeal.τ).loc Cert.GlobalQkvMathIdeal.main_arg4))

def preserves_LocalQkv_LocalQkvIdeal : Prop :=
  True

def algebraic_LocalQkvIdeal_LocalQkvMathIdeal [hLocalQkvIdeal : Cert.LocalQkvIdeal.Facts] [hLocalQkvMathIdeal : Cert.LocalQkvMathIdeal.Facts] : Prop :=
  ∀ (m : (ℓ : Loc Cert.LocalQkvIdeal.nD Cert.LocalQkvIdeal.τ Cert.LocalQkvIdeal.sig) → Buf (Elt Ideal) ℓ) (g : Dev Cert.LocalQkvIdeal.nD → PrngReg)
    (m' : (ℓ : Loc Cert.LocalQkvMathIdeal.nD Cert.LocalQkvMathIdeal.τ Cert.LocalQkvMathIdeal.sig) → Buf (Elt Ideal) ℓ) (g' : Dev Cert.LocalQkvMathIdeal.nD → PrngReg), Pre_LocalQkvIdeal m →
    (∀ c : Dev Cert.LocalQkvIdeal.nD,
      m' ((c.tc : Thread Cert.LocalQkvMathIdeal.nD Cert.LocalQkvMathIdeal.τ).loc Cert.LocalQkvMathIdeal.main_arg0) = m ((c.tc : Thread Cert.LocalQkvIdeal.nD Cert.LocalQkvIdeal.τ).loc Cert.LocalQkvIdeal.main_arg0)
      ∧ m' ((c.tc : Thread Cert.LocalQkvMathIdeal.nD Cert.LocalQkvMathIdeal.τ).loc Cert.LocalQkvMathIdeal.main_arg1) = m ((c.tc : Thread Cert.LocalQkvIdeal.nD Cert.LocalQkvIdeal.τ).loc Cert.LocalQkvIdeal.main_arg1)
      ∧ m' ((c.tc : Thread Cert.LocalQkvMathIdeal.nD Cert.LocalQkvMathIdeal.τ).loc Cert.LocalQkvMathIdeal.main_arg2) = m ((c.tc : Thread Cert.LocalQkvIdeal.nD Cert.LocalQkvIdeal.τ).loc Cert.LocalQkvIdeal.main_arg2)
      ∧ m' ((c.tc : Thread Cert.LocalQkvMathIdeal.nD Cert.LocalQkvMathIdeal.τ).loc Cert.LocalQkvMathIdeal.main_arg3) = m ((c.tc : Thread Cert.LocalQkvIdeal.nD Cert.LocalQkvIdeal.τ).loc Cert.LocalQkvIdeal.main_arg3)
      ∧ m' ((c.tc : Thread Cert.LocalQkvMathIdeal.nD Cert.LocalQkvMathIdeal.τ).loc Cert.LocalQkvMathIdeal.main_arg4) = m ((c.tc : Thread Cert.LocalQkvIdeal.nD Cert.LocalQkvIdeal.τ).loc Cert.LocalQkvIdeal.main_arg4)
      ∧ m' ((c.tc : Thread Cert.LocalQkvMathIdeal.nD Cert.LocalQkvMathIdeal.τ).loc Cert.LocalQkvMathIdeal.main_arg5) = m ((c.tc : Thread Cert.LocalQkvIdeal.nD Cert.LocalQkvIdeal.τ).loc Cert.LocalQkvIdeal.main_arg5)) →
    ∃ (v0 : (c : Dev Cert.LocalQkvIdeal.nD) → Buf (Elt Ideal) ((c.tc : Thread Cert.LocalQkvIdeal.nD Cert.LocalQkvIdeal.τ).loc Cert.LocalQkvIdeal.main_v5_0)) (v1 : (c : Dev Cert.LocalQkvIdeal.nD) → Buf (Elt Ideal) ((c.tc : Thread Cert.LocalQkvIdeal.nD Cert.LocalQkvIdeal.τ).loc Cert.LocalQkvIdeal.main_v5_1)) (v2 : (c : Dev Cert.LocalQkvIdeal.nD) → Buf (Elt Ideal) ((c.tc : Thread Cert.LocalQkvIdeal.nD Cert.LocalQkvIdeal.τ).loc Cert.LocalQkvIdeal.main_v5_2)) (v3 : (c : Dev Cert.LocalQkvIdeal.nD) → Buf (Elt Ideal) ((c.tc : Thread Cert.LocalQkvIdeal.nD Cert.LocalQkvIdeal.τ).loc Cert.LocalQkvIdeal.main_v5_3)) (v4 : (c : Dev Cert.LocalQkvIdeal.nD) → Buf (Elt Ideal) ((c.tc : Thread Cert.LocalQkvIdeal.nD Cert.LocalQkvIdeal.τ).loc Cert.LocalQkvIdeal.main_v5_4)) (v5 : (c : Dev Cert.LocalQkvIdeal.nD) → Buf (Elt Ideal) ((c.tc : Thread Cert.LocalQkvIdeal.nD Cert.LocalQkvIdeal.τ).loc Cert.LocalQkvIdeal.main_v5_5)),
      θ_run (Cert.LocalQkvIdeal.defs (F := Ideal)) (onTc (τ := Cert.LocalQkvIdeal.τ) (Cert.LocalQkvIdeal.main (F := Ideal))) ⟨m, fun _ => 0, g⟩ (fun r => ∀ c : Dev Cert.LocalQkvIdeal.nD,
          r.2.mem ((c.tc : Thread Cert.LocalQkvIdeal.nD Cert.LocalQkvIdeal.τ).loc Cert.LocalQkvIdeal.main_v5_0) = v0 c
          ∧ r.2.mem ((c.tc : Thread Cert.LocalQkvIdeal.nD Cert.LocalQkvIdeal.τ).loc Cert.LocalQkvIdeal.main_v5_1) = v1 c
          ∧ r.2.mem ((c.tc : Thread Cert.LocalQkvIdeal.nD Cert.LocalQkvIdeal.τ).loc Cert.LocalQkvIdeal.main_v5_2) = v2 c
          ∧ r.2.mem ((c.tc : Thread Cert.LocalQkvIdeal.nD Cert.LocalQkvIdeal.τ).loc Cert.LocalQkvIdeal.main_v5_3) = v3 c
          ∧ r.2.mem ((c.tc : Thread Cert.LocalQkvIdeal.nD Cert.LocalQkvIdeal.τ).loc Cert.LocalQkvIdeal.main_v5_4) = v4 c
          ∧ r.2.mem ((c.tc : Thread Cert.LocalQkvIdeal.nD Cert.LocalQkvIdeal.τ).loc Cert.LocalQkvIdeal.main_v5_5) = v5 c
          ∧ r.2.mem ((c.tc : Thread Cert.LocalQkvIdeal.nD Cert.LocalQkvIdeal.τ).loc Cert.LocalQkvIdeal.main_arg0) = m ((c.tc : Thread Cert.LocalQkvIdeal.nD Cert.LocalQkvIdeal.τ).loc Cert.LocalQkvIdeal.main_arg0)
          ∧ r.2.mem ((c.tc : Thread Cert.LocalQkvIdeal.nD Cert.LocalQkvIdeal.τ).loc Cert.LocalQkvIdeal.main_arg1) = m ((c.tc : Thread Cert.LocalQkvIdeal.nD Cert.LocalQkvIdeal.τ).loc Cert.LocalQkvIdeal.main_arg1)
          ∧ r.2.mem ((c.tc : Thread Cert.LocalQkvIdeal.nD Cert.LocalQkvIdeal.τ).loc Cert.LocalQkvIdeal.main_arg2) = m ((c.tc : Thread Cert.LocalQkvIdeal.nD Cert.LocalQkvIdeal.τ).loc Cert.LocalQkvIdeal.main_arg2)
          ∧ r.2.mem ((c.tc : Thread Cert.LocalQkvIdeal.nD Cert.LocalQkvIdeal.τ).loc Cert.LocalQkvIdeal.main_arg3) = m ((c.tc : Thread Cert.LocalQkvIdeal.nD Cert.LocalQkvIdeal.τ).loc Cert.LocalQkvIdeal.main_arg3)
          ∧ r.2.mem ((c.tc : Thread Cert.LocalQkvIdeal.nD Cert.LocalQkvIdeal.τ).loc Cert.LocalQkvIdeal.main_arg4) = m ((c.tc : Thread Cert.LocalQkvIdeal.nD Cert.LocalQkvIdeal.τ).loc Cert.LocalQkvIdeal.main_arg4)
          ∧ r.2.mem ((c.tc : Thread Cert.LocalQkvIdeal.nD Cert.LocalQkvIdeal.τ).loc Cert.LocalQkvIdeal.main_arg5) = m ((c.tc : Thread Cert.LocalQkvIdeal.nD Cert.LocalQkvIdeal.τ).loc Cert.LocalQkvIdeal.main_arg5))
      ∧ θ_run (Cert.LocalQkvMathIdeal.defs (F := Ideal)) (onTc (τ := Cert.LocalQkvMathIdeal.τ) (Cert.LocalQkvMathIdeal.main (F := Ideal))) ⟨m', fun _ => 0, g'⟩ (fun r => ∀ c : Dev Cert.LocalQkvMathIdeal.nD,
          r.2.mem ((c.tc : Thread Cert.LocalQkvMathIdeal.nD Cert.LocalQkvMathIdeal.τ).loc Cert.LocalQkvMathIdeal.main_v5_0) = v0 c
          ∧ r.2.mem ((c.tc : Thread Cert.LocalQkvMathIdeal.nD Cert.LocalQkvMathIdeal.τ).loc Cert.LocalQkvMathIdeal.main_v5_1) = v1 c
          ∧ r.2.mem ((c.tc : Thread Cert.LocalQkvMathIdeal.nD Cert.LocalQkvMathIdeal.τ).loc Cert.LocalQkvMathIdeal.main_v5_2) = v2 c
          ∧ r.2.mem ((c.tc : Thread Cert.LocalQkvMathIdeal.nD Cert.LocalQkvMathIdeal.τ).loc Cert.LocalQkvMathIdeal.main_v5_3) = v3 c
          ∧ r.2.mem ((c.tc : Thread Cert.LocalQkvMathIdeal.nD Cert.LocalQkvMathIdeal.τ).loc Cert.LocalQkvMathIdeal.main_v5_4) = v4 c
          ∧ r.2.mem ((c.tc : Thread Cert.LocalQkvMathIdeal.nD Cert.LocalQkvMathIdeal.τ).loc Cert.LocalQkvMathIdeal.main_v5_5) = v5 c
          ∧ r.2.mem ((c.tc : Thread Cert.LocalQkvMathIdeal.nD Cert.LocalQkvMathIdeal.τ).loc Cert.LocalQkvMathIdeal.main_arg0) = m' ((c.tc : Thread Cert.LocalQkvMathIdeal.nD Cert.LocalQkvMathIdeal.τ).loc Cert.LocalQkvMathIdeal.main_arg0)
          ∧ r.2.mem ((c.tc : Thread Cert.LocalQkvMathIdeal.nD Cert.LocalQkvMathIdeal.τ).loc Cert.LocalQkvMathIdeal.main_arg1) = m' ((c.tc : Thread Cert.LocalQkvMathIdeal.nD Cert.LocalQkvMathIdeal.τ).loc Cert.LocalQkvMathIdeal.main_arg1)
          ∧ r.2.mem ((c.tc : Thread Cert.LocalQkvMathIdeal.nD Cert.LocalQkvMathIdeal.τ).loc Cert.LocalQkvMathIdeal.main_arg2) = m' ((c.tc : Thread Cert.LocalQkvMathIdeal.nD Cert.LocalQkvMathIdeal.τ).loc Cert.LocalQkvMathIdeal.main_arg2)
          ∧ r.2.mem ((c.tc : Thread Cert.LocalQkvMathIdeal.nD Cert.LocalQkvMathIdeal.τ).loc Cert.LocalQkvMathIdeal.main_arg3) = m' ((c.tc : Thread Cert.LocalQkvMathIdeal.nD Cert.LocalQkvMathIdeal.τ).loc Cert.LocalQkvMathIdeal.main_arg3)
          ∧ r.2.mem ((c.tc : Thread Cert.LocalQkvMathIdeal.nD Cert.LocalQkvMathIdeal.τ).loc Cert.LocalQkvMathIdeal.main_arg4) = m' ((c.tc : Thread Cert.LocalQkvMathIdeal.nD Cert.LocalQkvMathIdeal.τ).loc Cert.LocalQkvMathIdeal.main_arg4)
          ∧ r.2.mem ((c.tc : Thread Cert.LocalQkvMathIdeal.nD Cert.LocalQkvMathIdeal.τ).loc Cert.LocalQkvMathIdeal.main_arg5) = m' ((c.tc : Thread Cert.LocalQkvMathIdeal.nD Cert.LocalQkvMathIdeal.τ).loc Cert.LocalQkvMathIdeal.main_arg5))

def preserves_LocalOut_LocalOutIdeal : Prop :=
  IdealRules.named_const.Statement Cert.LocalOutIdeal.κ "inv_d" .f32 0x394CCCCD#32 ((1 / 5120 : ℝ) : EReal)

def algebraic_LocalOutIdeal_LocalOutMathIdeal [hLocalOutIdeal : Cert.LocalOutIdeal.Facts] [hLocalOutMathIdeal : Cert.LocalOutMathIdeal.Facts] : Prop :=
  ∀ (m : (ℓ : Loc Cert.LocalOutIdeal.nD Cert.LocalOutIdeal.τ Cert.LocalOutIdeal.sig) → Buf (Elt Ideal) ℓ) (g : Dev Cert.LocalOutIdeal.nD → PrngReg)
    (m' : (ℓ : Loc Cert.LocalOutMathIdeal.nD Cert.LocalOutMathIdeal.τ Cert.LocalOutMathIdeal.sig) → Buf (Elt Ideal) ℓ) (g' : Dev Cert.LocalOutMathIdeal.nD → PrngReg), Pre_LocalOutIdeal m →
    (∀ c : Dev Cert.LocalOutIdeal.nD,
      m' ((c.tc : Thread Cert.LocalOutMathIdeal.nD Cert.LocalOutMathIdeal.τ).loc Cert.LocalOutMathIdeal.main_arg0) = m ((c.tc : Thread Cert.LocalOutIdeal.nD Cert.LocalOutIdeal.τ).loc Cert.LocalOutIdeal.main_arg0)
      ∧ m' ((c.tc : Thread Cert.LocalOutMathIdeal.nD Cert.LocalOutMathIdeal.τ).loc Cert.LocalOutMathIdeal.main_arg1) = m ((c.tc : Thread Cert.LocalOutIdeal.nD Cert.LocalOutIdeal.τ).loc Cert.LocalOutIdeal.main_arg1)
      ∧ m' ((c.tc : Thread Cert.LocalOutMathIdeal.nD Cert.LocalOutMathIdeal.τ).loc Cert.LocalOutMathIdeal.main_arg2) = m ((c.tc : Thread Cert.LocalOutIdeal.nD Cert.LocalOutIdeal.τ).loc Cert.LocalOutIdeal.main_arg2)
      ∧ m' ((c.tc : Thread Cert.LocalOutMathIdeal.nD Cert.LocalOutMathIdeal.τ).loc Cert.LocalOutMathIdeal.main_arg3) = m ((c.tc : Thread Cert.LocalOutIdeal.nD Cert.LocalOutIdeal.τ).loc Cert.LocalOutIdeal.main_arg3)
      ∧ m' ((c.tc : Thread Cert.LocalOutMathIdeal.nD Cert.LocalOutMathIdeal.τ).loc Cert.LocalOutMathIdeal.main_arg4) = m ((c.tc : Thread Cert.LocalOutIdeal.nD Cert.LocalOutIdeal.τ).loc Cert.LocalOutIdeal.main_arg4)
      ∧ m' ((c.tc : Thread Cert.LocalOutMathIdeal.nD Cert.LocalOutMathIdeal.τ).loc Cert.LocalOutMathIdeal.main_arg5) = m ((c.tc : Thread Cert.LocalOutIdeal.nD Cert.LocalOutIdeal.τ).loc Cert.LocalOutIdeal.main_arg5)) →
    ∃ (v0 : (c : Dev Cert.LocalOutIdeal.nD) → Buf (Elt Ideal) ((c.tc : Thread Cert.LocalOutIdeal.nD Cert.LocalOutIdeal.τ).loc Cert.LocalOutIdeal.main_v5_0)) (v1 : (c : Dev Cert.LocalOutIdeal.nD) → Buf (Elt Ideal) ((c.tc : Thread Cert.LocalOutIdeal.nD Cert.LocalOutIdeal.τ).loc Cert.LocalOutIdeal.main_v5_1)) (v2 : (c : Dev Cert.LocalOutIdeal.nD) → Buf (Elt Ideal) ((c.tc : Thread Cert.LocalOutIdeal.nD Cert.LocalOutIdeal.τ).loc Cert.LocalOutIdeal.main_v5_2)),
      θ_run (Cert.LocalOutIdeal.defs (F := Ideal)) (onTc (τ := Cert.LocalOutIdeal.τ) (Cert.LocalOutIdeal.main (F := Ideal))) ⟨m, fun _ => 0, g⟩ (fun r => ∀ c : Dev Cert.LocalOutIdeal.nD,
          r.2.mem ((c.tc : Thread Cert.LocalOutIdeal.nD Cert.LocalOutIdeal.τ).loc Cert.LocalOutIdeal.main_v5_0) = v0 c
          ∧ r.2.mem ((c.tc : Thread Cert.LocalOutIdeal.nD Cert.LocalOutIdeal.τ).loc Cert.LocalOutIdeal.main_v5_1) = v1 c
          ∧ r.2.mem ((c.tc : Thread Cert.LocalOutIdeal.nD Cert.LocalOutIdeal.τ).loc Cert.LocalOutIdeal.main_v5_2) = v2 c
          ∧ r.2.mem ((c.tc : Thread Cert.LocalOutIdeal.nD Cert.LocalOutIdeal.τ).loc Cert.LocalOutIdeal.main_arg0) = m ((c.tc : Thread Cert.LocalOutIdeal.nD Cert.LocalOutIdeal.τ).loc Cert.LocalOutIdeal.main_arg0)
          ∧ r.2.mem ((c.tc : Thread Cert.LocalOutIdeal.nD Cert.LocalOutIdeal.τ).loc Cert.LocalOutIdeal.main_arg1) = m ((c.tc : Thread Cert.LocalOutIdeal.nD Cert.LocalOutIdeal.τ).loc Cert.LocalOutIdeal.main_arg1)
          ∧ r.2.mem ((c.tc : Thread Cert.LocalOutIdeal.nD Cert.LocalOutIdeal.τ).loc Cert.LocalOutIdeal.main_arg2) = m ((c.tc : Thread Cert.LocalOutIdeal.nD Cert.LocalOutIdeal.τ).loc Cert.LocalOutIdeal.main_arg2)
          ∧ r.2.mem ((c.tc : Thread Cert.LocalOutIdeal.nD Cert.LocalOutIdeal.τ).loc Cert.LocalOutIdeal.main_arg3) = m ((c.tc : Thread Cert.LocalOutIdeal.nD Cert.LocalOutIdeal.τ).loc Cert.LocalOutIdeal.main_arg3)
          ∧ r.2.mem ((c.tc : Thread Cert.LocalOutIdeal.nD Cert.LocalOutIdeal.τ).loc Cert.LocalOutIdeal.main_arg4) = m ((c.tc : Thread Cert.LocalOutIdeal.nD Cert.LocalOutIdeal.τ).loc Cert.LocalOutIdeal.main_arg4)
          ∧ r.2.mem ((c.tc : Thread Cert.LocalOutIdeal.nD Cert.LocalOutIdeal.τ).loc Cert.LocalOutIdeal.main_arg5) = m ((c.tc : Thread Cert.LocalOutIdeal.nD Cert.LocalOutIdeal.τ).loc Cert.LocalOutIdeal.main_arg5))
      ∧ θ_run (Cert.LocalOutMathIdeal.defs (F := Ideal)) (onTc (τ := Cert.LocalOutMathIdeal.τ) (Cert.LocalOutMathIdeal.main (F := Ideal))) ⟨m', fun _ => 0, g'⟩ (fun r => ∀ c : Dev Cert.LocalOutMathIdeal.nD,
          r.2.mem ((c.tc : Thread Cert.LocalOutMathIdeal.nD Cert.LocalOutMathIdeal.τ).loc Cert.LocalOutMathIdeal.main_v5_0) = v0 c
          ∧ r.2.mem ((c.tc : Thread Cert.LocalOutMathIdeal.nD Cert.LocalOutMathIdeal.τ).loc Cert.LocalOutMathIdeal.main_v5_1) = v1 c
          ∧ r.2.mem ((c.tc : Thread Cert.LocalOutMathIdeal.nD Cert.LocalOutMathIdeal.τ).loc Cert.LocalOutMathIdeal.main_v5_2) = v2 c
          ∧ r.2.mem ((c.tc : Thread Cert.LocalOutMathIdeal.nD Cert.LocalOutMathIdeal.τ).loc Cert.LocalOutMathIdeal.main_arg0) = m' ((c.tc : Thread Cert.LocalOutMathIdeal.nD Cert.LocalOutMathIdeal.τ).loc Cert.LocalOutMathIdeal.main_arg0)
          ∧ r.2.mem ((c.tc : Thread Cert.LocalOutMathIdeal.nD Cert.LocalOutMathIdeal.τ).loc Cert.LocalOutMathIdeal.main_arg1) = m' ((c.tc : Thread Cert.LocalOutMathIdeal.nD Cert.LocalOutMathIdeal.τ).loc Cert.LocalOutMathIdeal.main_arg1)
          ∧ r.2.mem ((c.tc : Thread Cert.LocalOutMathIdeal.nD Cert.LocalOutMathIdeal.τ).loc Cert.LocalOutMathIdeal.main_arg2) = m' ((c.tc : Thread Cert.LocalOutMathIdeal.nD Cert.LocalOutMathIdeal.τ).loc Cert.LocalOutMathIdeal.main_arg2)
          ∧ r.2.mem ((c.tc : Thread Cert.LocalOutMathIdeal.nD Cert.LocalOutMathIdeal.τ).loc Cert.LocalOutMathIdeal.main_arg3) = m' ((c.tc : Thread Cert.LocalOutMathIdeal.nD Cert.LocalOutMathIdeal.τ).loc Cert.LocalOutMathIdeal.main_arg3)
          ∧ r.2.mem ((c.tc : Thread Cert.LocalOutMathIdeal.nD Cert.LocalOutMathIdeal.τ).loc Cert.LocalOutMathIdeal.main_arg4) = m' ((c.tc : Thread Cert.LocalOutMathIdeal.nD Cert.LocalOutMathIdeal.τ).loc Cert.LocalOutMathIdeal.main_arg4)
          ∧ r.2.mem ((c.tc : Thread Cert.LocalOutMathIdeal.nD Cert.LocalOutMathIdeal.τ).loc Cert.LocalOutMathIdeal.main_arg5) = m' ((c.tc : Thread Cert.LocalOutMathIdeal.nD Cert.LocalOutMathIdeal.τ).loc Cert.LocalOutMathIdeal.main_arg5))

def Claim : Prop :=
  ∃ (hGlobalOut : Cert.GlobalOut.Facts) (hGlobalOutIdeal : Cert.GlobalOutIdeal.Facts) (hGlobalOutMathIdeal : Cert.GlobalOutMathIdeal.Facts) (hGlobalQkv : Cert.GlobalQkv.Facts) (hGlobalQkvIdeal : Cert.GlobalQkvIdeal.Facts) (hGlobalQkvMathIdeal : Cert.GlobalQkvMathIdeal.Facts) (hLocalQkv : Cert.LocalQkv.Facts) (hLocalQkvIdeal : Cert.LocalQkvIdeal.Facts) (hLocalQkvMathIdeal : Cert.LocalQkvMathIdeal.Facts) (hLocalOut : Cert.LocalOut.Facts) (hLocalOutIdeal : Cert.LocalOutIdeal.Facts) (hLocalOutMathIdeal : Cert.LocalOutMathIdeal.Facts),
    quiescent_GlobalOut (hGlobalOut := hGlobalOut)
    ∧ quiescent_GlobalOutIdeal (hGlobalOutIdeal := hGlobalOutIdeal)
    ∧ quiescent_GlobalOutMathIdeal (hGlobalOutMathIdeal := hGlobalOutMathIdeal)
    ∧ quiescent_GlobalQkv (hGlobalQkv := hGlobalQkv)
    ∧ quiescent_GlobalQkvIdeal (hGlobalQkvIdeal := hGlobalQkvIdeal)
    ∧ quiescent_GlobalQkvMathIdeal (hGlobalQkvMathIdeal := hGlobalQkvMathIdeal)
    ∧ quiescent_LocalQkv (hLocalQkv := hLocalQkv)
    ∧ quiescent_LocalQkvIdeal (hLocalQkvIdeal := hLocalQkvIdeal)
    ∧ quiescent_LocalQkvMathIdeal (hLocalQkvMathIdeal := hLocalQkvMathIdeal)
    ∧ quiescent_LocalOut (hLocalOut := hLocalOut)
    ∧ quiescent_LocalOutIdeal (hLocalOutIdeal := hLocalOutIdeal)
    ∧ quiescent_LocalOutMathIdeal (hLocalOutMathIdeal := hLocalOutMathIdeal)
    ∧ preserves_GlobalOut_GlobalOutIdeal
    ∧ algebraic_GlobalOutIdeal_GlobalOutMathIdeal (hGlobalOutIdeal := hGlobalOutIdeal) (hGlobalOutMathIdeal := hGlobalOutMathIdeal)
    ∧ preserves_GlobalQkv_GlobalQkvIdeal
    ∧ algebraic_GlobalQkvIdeal_GlobalQkvMathIdeal (hGlobalQkvIdeal := hGlobalQkvIdeal) (hGlobalQkvMathIdeal := hGlobalQkvMathIdeal)
    ∧ preserves_LocalQkv_LocalQkvIdeal
    ∧ algebraic_LocalQkvIdeal_LocalQkvMathIdeal (hLocalQkvIdeal := hLocalQkvIdeal) (hLocalQkvMathIdeal := hLocalQkvMathIdeal)
    ∧ preserves_LocalOut_LocalOutIdeal
    ∧ algebraic_LocalOutIdeal_LocalOutMathIdeal (hLocalOutIdeal := hLocalOutIdeal) (hLocalOutMathIdeal := hLocalOutMathIdeal)
-- ==== GlobalOut.lean ====
abbrev S16384x5120 : Shape := ⟨2, ![16384, 5120]⟩
abbrev S4x4096 : Shape := ⟨2, ![4, 4096]⟩
abbrev S40x128x5120 : Shape := ⟨3, ![40, 128, 5120]⟩
abbrev S5120 : Shape := ⟨1, ![5120]⟩
abbrev S64x1x256 : Shape := ⟨3, ![64, 1, 256]⟩
abbrev S5120x5120 : Shape := ⟨2, ![5120, 5120]⟩
abbrev S1x5120 : Shape := ⟨2, ![1, 5120]⟩
abbrev S256x5120 : Shape := ⟨2, ![256, 5120]⟩
abbrev S1x1x256 : Shape := ⟨3, ![1, 1, 256]⟩
abbrev S1x256 : Shape := ⟨2, ![1, 256]⟩
abbrev S128x256 : Shape := ⟨2, ![128, 256]⟩
abbrev S256x128 : Shape := ⟨2, ![256, 128]⟩
abbrev S5120x256 : Shape := ⟨2, ![5120, 256]⟩
abbrev S256x256 : Shape := ⟨2, ![256, 256]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S16384x5120, .fp8e4m3⟩
  | .hbm, ⟨1, _⟩ => ⟨S4x4096, .f32⟩
  | .hbm, ⟨2, _⟩ => ⟨S16384x5120, .f32⟩
  | .hbm, ⟨3, _⟩ => ⟨S40x128x5120, .fp8e4m3⟩
  | .hbm, ⟨4, _⟩ => ⟨S5120, .f32⟩
  | .hbm, ⟨5, _⟩ => ⟨S64x1x256, .f32⟩
  | .hbm, ⟨6, _⟩ => ⟨S5120x5120, .fp8e4m3⟩
  | .hbm, ⟨7, _⟩ => ⟨S1x5120, .f32⟩
  | .hbm, ⟨8, _⟩ => ⟨S16384x5120, .bf16⟩
  | .local _ .vmem, ⟨0, _⟩ => ⟨S256x5120, .fp8e4m3⟩
  | .local _ .vmem, ⟨1, _⟩ => ⟨S256x5120, .fp8e4m3⟩
  | .local _ .vmem, ⟨2, _⟩ => ⟨S1x1x256, .f32⟩
  | .local _ .vmem, ⟨3, _⟩ => ⟨S1x1x256, .f32⟩
  | .local _ .vmem, ⟨4, _⟩ => ⟨S256x5120, .f32⟩
  | .local _ .vmem, ⟨5, _⟩ => ⟨S256x5120, .f32⟩
  | .local _ .vmem, ⟨6, _⟩ => ⟨S5120x5120, .fp8e4m3⟩
  | .local _ .vmem, ⟨7, _⟩ => ⟨S1x5120, .f32⟩
  | .local _ .vmem, ⟨8, _⟩ => ⟨S256x5120, .bf16⟩
  | .local _ .vmem, ⟨9, _⟩ => ⟨S256x5120, .bf16⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlobalOutMathIdeal.lean ====
abbrev S16384x5120 : Shape := ⟨2, ![16384, 5120]⟩
abbrev S4x4096 : Shape := ⟨2, ![4, 4096]⟩
abbrev S40x128x5120 : Shape := ⟨3, ![40, 128, 5120]⟩
abbrev S5120 : Shape := ⟨1, ![5120]⟩
abbrev S16384x1 : Shape := ⟨2, ![16384, 1]⟩
abbrev S5120x5120 : Shape := ⟨2, ![5120, 5120]⟩
abbrev S1x5120 : Shape := ⟨2, ![1, 5120]⟩

abbrev nBuf : Space → Nat
  | .hbm => 9
  | .vmem => 6
  | .smem => 0
  | _ => 0

abbrev bufTy : (tb : Table) → Fin (tcTables nBuf tb) → BufTy
  | .hbm, ⟨0, _⟩ => ⟨S16384x5120, .fp8e4m3⟩
  | .hbm, ⟨1, _⟩ => ⟨S4x4096, .f32⟩
  | .hbm, ⟨2, _⟩ => ⟨S16384x5120, .f32⟩
  | .hbm, ⟨3, _⟩ => ⟨S40x128x5120, .fp8e4m3⟩
  | .hbm, ⟨4, _⟩ => ⟨S5120, .f32⟩
  | .hbm, ⟨5, _⟩ => ⟨S16384x1, .f32⟩
  | .hbm, ⟨6, _⟩ => ⟨S5120x5120, .fp8e4m3⟩
  | .hbm, ⟨7, _⟩ => ⟨S1x5120, .f32⟩
  | .hbm, ⟨8, _⟩ => ⟨S16384x5120, .bf16⟩
  | .local _ .vmem, ⟨0, _⟩ => ⟨S16384x5120, .fp8e4m3⟩
  | .local _ .vmem, ⟨1, _⟩ => ⟨S16384x1, .f32⟩
  | .local _ .vmem, ⟨2, _⟩ => ⟨S16384x5120, .f32⟩
  | .local _ .vmem, ⟨3, _⟩ => ⟨S5120x5120, .fp8e4m3⟩
  | .local _ .vmem, ⟨4, _⟩ => ⟨S1x5120, .f32⟩
  | .local _ .vmem, ⟨5, _⟩ => ⟨S16384x5120, .bf16⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GlobalQkv.lean ====
abbrev S16384x5120 : Shape := ⟨2, ![16384, 5120]⟩
abbrev S64x1x256 : Shape := ⟨3, ![64, 1, 256]⟩
abbrev S4x4096 : Shape := ⟨2, ![4, 4096]⟩
abbrev S5120x7168 : Shape := ⟨2, ![5120, 7168]⟩
abbrev S7168 : Shape := ⟨1, ![7168]⟩
abbrev S_ : Shape := ⟨0, ![]⟩
abbrev S1x7168 : Shape := ⟨2, ![1, 7168]⟩
abbrev S4x16x40x128x256 : Shape := ⟨5, ![4, 16, 40, 128, 256]⟩
abbrev S16384x1024 : Shape := ⟨2, ![16384, 1024]⟩
abbrev S16384x8 : Shape := ⟨2, ![16384, 8]⟩
abbrev S4x16x1024x256 : Shape := ⟨4, ![4, 16, 1024, 256]⟩
abbrev S256x5120 : Shape := ⟨2, ![256, 5120]⟩
abbrev S1x1x256 : Shape := ⟨3, ![1, 1, 256]⟩
abbrev S1x1x40x128x256 : Shape := ⟨5, ![1, 1, 40, 128, 256]⟩
abbrev S256x1024 : Shape := ⟨2, ![256, 1024]⟩
abbrev S256x8 : Shape := ⟨2, ![256, 8]⟩
abbrev S1x1x1024x256 : Shape := ⟨4, ![1, 1, 1024, 256]⟩
abbrev S1x256 : Shape := ⟨2, ![1, 256]⟩
abbrev S128x256 : Shape := ⟨2, ![128, 256]⟩
abbrev S256x128 : Shape := ⟨2, ![256, 128]⟩
abbrev S5120x256 : Shape := ⟨2, ![5120, 256]⟩
abbrev S256x256 : Shape := ⟨2, ![256, 256]⟩
abbrev S1x128 : Shape := ⟨2, ![1, 128]⟩
abbrev S1x1x1x128x256 : Shape := ⟨5, ![1, 1, 1, 128, 256]⟩
abbrev S256 : Shape := ⟨1, ![256]⟩
abbrev S256x1 : Shape := ⟨2, ![256, 1]⟩
abbrev S1x1x128x256 : Shape := ⟨4, ![1, 1, 128, 256]⟩

abbrev nBuf : Space → Nat
  | .hbm => 46
  | .vmem => 22
  | .smem => 0
  | _ => 0

abbrev bufTy : (tb : Table) → Fin (tcTables nBuf tb) → BufTy
  | .hbm, ⟨0, _⟩ => ⟨S16384x5120, .fp8e4m3⟩
  | .hbm, ⟨1, _⟩ => ⟨S64x1x256, .f32⟩
  | .hbm, ⟨2, _⟩ => ⟨S4x4096, .i32⟩
  | .hbm, ⟨3, _⟩ => ⟨S5120x7168, .fp8e4m3⟩
  | .hbm, ⟨4, _⟩ => ⟨S7168, .f32⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S_, .i32⟩
  | .hbm, ⟨9, _⟩ => ⟨S_, .i32⟩
  | .hbm, ⟨10, _⟩ => ⟨S4x4096, .i32⟩
  | .hbm, ⟨11, _⟩ => ⟨S4x4096, .i32⟩
  | .hbm, ⟨12, _⟩ => ⟨S4x4096, .i32⟩
  | .hbm, ⟨13, _⟩ => ⟨S_, .i32⟩
  | .hbm, ⟨14, _⟩ => ⟨S4x4096, .i32⟩
  | .hbm, ⟨15, _⟩ => ⟨S4x4096, .i1⟩
  | .hbm, ⟨16, _⟩ => ⟨S4x4096, .i32⟩
  | .hbm, ⟨17, _⟩ => ⟨S4x4096, .i32⟩
  | .hbm, ⟨18, _⟩ => ⟨S_, .i32⟩
  | .hbm, ⟨19, _⟩ => ⟨S4x4096, .i32⟩
  | .hbm, ⟨20, _⟩ => ⟨S4x4096, .i1⟩
  | .hbm, ⟨21, _⟩ => ⟨S4x4096, .i1⟩
  | .hbm, ⟨22, _⟩ => ⟨S_, .i32⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S64x1x256, .f32⟩
  | .hbm, ⟨38, _⟩ => ⟨S1x7168, .f32⟩
  | .hbm, ⟨39, _⟩ => ⟨S4x16x40x128x256, .bf16⟩
  | .hbm, ⟨40, _⟩ => ⟨S16384x1024, .bf16⟩
  | .hbm, ⟨41, _⟩ => ⟨S16384x1024, .fp8e4m3⟩
  | .hbm, ⟨42, _⟩ => ⟨S16384x8, .f32⟩
  | .hbm, ⟨43, _⟩ => ⟨S4x16x1024x256, .bf16⟩
  | .hbm, ⟨44, _⟩ => ⟨S16384x1024, .fp8e4m3⟩
  | .hbm, ⟨45, _⟩ => ⟨S16384x8, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S5120x7168, .fp8e4m3⟩
  | .local _ .vmem, ⟨7, _⟩ => ⟨S1x7168, .f32⟩
  | .local _ .vmem, ⟨8, _⟩ => ⟨S1x1x40x128x256, .bf16⟩
  | .local _ .vmem, ⟨9, _⟩ => ⟨S1x1x40x128x256, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .fp8e4m3⟩
  | .local _ .vmem, ⟨13, _⟩ => ⟨S256x1024, .fp8e4m3⟩
  | .local _ .vmem, ⟨14, _⟩ => ⟨S256x8, .f32⟩
  | .local _ .vmem, ⟨15, _⟩ => ⟨S256x8, .f32⟩
  | .local _ .vmem, ⟨16, _⟩ => ⟨S1x1x1024x256, .bf16⟩
  | .local _ .vmem, ⟨17, _⟩ => ⟨S1x1x1024x256, .bf16⟩
  | .local _ .vmem, ⟨18, _⟩ => ⟨S256x1024, .fp8e4m3⟩
  | .local _ .vmem, ⟨19, _⟩ => ⟨S256x1024, .fp8e4m3⟩
  | .local _ .vmem, ⟨20, _⟩ => ⟨S256x8, .f32⟩
  | .local _ .vmem, ⟨21, _⟩ => ⟨S256x8, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13_0 : Ref sig .tc := ⟨.hbm, 39, rfl⟩
abbrev main_v13_1 : Ref sig .tc := ⟨.hbm, 40, rfl⟩
abbrev main_v13_2 : Ref sig .tc := ⟨.hbm, 41, rfl⟩
abbrev main_v13_3 : Ref sig .tc := ⟨.hbm, 42, rfl⟩
abbrev main_v13_4 : Ref sig .tc := ⟨.hbm, 43, rfl⟩
abbrev main_v13_5 : Ref sig .tc := ⟨.hbm, 44, rfl⟩
abbrev main_v13_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x40x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GlobalQkvMathIdeal.lean ====
abbrev S16384x5120 : Shape := ⟨2, ![16384, 5120]⟩
abbrev S64x1x256 : Shape := ⟨3, ![64, 1, 256]⟩
abbrev S4x4096 : Shape := ⟨2, ![4, 4096]⟩
abbrev S5120x7168 : Shape := ⟨2, ![5120, 7168]⟩
abbrev S7168 : Shape := ⟨1, ![7168]⟩
abbrev S_ : Shape := ⟨0, ![]⟩
abbrev S16384x1 : Shape := ⟨2, ![16384, 1]⟩
abbrev S1x7168 : Shape := ⟨2, ![1, 7168]⟩
abbrev S4x16x40x128x256 : Shape := ⟨5, ![4, 16, 40, 128, 256]⟩
abbrev S16384x1024 : Shape := ⟨2, ![16384, 1024]⟩
abbrev S16384x8 : Shape := ⟨2, ![16384, 8]⟩
abbrev S4x16x1024x256 : Shape := ⟨4, ![4, 16, 1024, 256]⟩
abbrev S16384x7168 : Shape := ⟨2, ![16384, 7168]⟩
abbrev S4x16x256x40x128 : Shape := ⟨5, ![4, 16, 256, 40, 128]⟩
abbrev S4x16x256x1024 : Shape := ⟨4, ![4, 16, 256, 1024]⟩
abbrev S16384x8x128 : Shape := ⟨3, ![16384, 8, 128]⟩
abbrev S16384x8x1 : Shape := ⟨3, ![16384, 8, 1]⟩

abbrev nBuf : Space → Nat
  | .hbm => 47
  | .vmem => 12
  | .smem => 0
  | _ => 0

abbrev bufTy : (tb : Table) → Fin (tcTables nBuf tb) → BufTy
  | .hbm, ⟨0, _⟩ => ⟨S16384x5120, .fp8e4m3⟩
  | .hbm, ⟨1, _⟩ => ⟨S64x1x256, .f32⟩
  | .hbm, ⟨2, _⟩ => ⟨S4x4096, .i32⟩
  | .hbm, ⟨3, _⟩ => ⟨S5120x7168, .fp8e4m3⟩
  | .hbm, ⟨4, _⟩ => ⟨S7168, .f32⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S_, .i32⟩
  | .hbm, ⟨9, _⟩ => ⟨S_, .i32⟩
  | .hbm, ⟨10, _⟩ => ⟨S4x4096, .i32⟩
  | .hbm, ⟨11, _⟩ => ⟨S4x4096, .i32⟩
  | .hbm, ⟨12, _⟩ => ⟨S4x4096, .i32⟩
  | .hbm, ⟨13, _⟩ => ⟨S_, .i32⟩
  | .hbm, ⟨14, _⟩ => ⟨S4x4096, .i32⟩
  | .hbm, ⟨15, _⟩ => ⟨S4x4096, .i1⟩
  | .hbm, ⟨16, _⟩ => ⟨S4x4096, .i32⟩
  | .hbm, ⟨17, _⟩ => ⟨S4x4096, .i32⟩
  | .hbm, ⟨18, _⟩ => ⟨S_, .i32⟩
  | .hbm, ⟨19, _⟩ => ⟨S4x4096, .i32⟩
  | .hbm, ⟨20, _⟩ => ⟨S4x4096, .i1⟩
  | .hbm, ⟨21, _⟩ => ⟨S4x4096, .i1⟩
  | .hbm, ⟨22, _⟩ => ⟨S_, .i32⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S16384x1, .f32⟩
  | .hbm, ⟨38, _⟩ => ⟨S16384x1, .f32⟩
  | .hbm, ⟨39, _⟩ => ⟨S1x7168, .f32⟩
  | .hbm, ⟨40, _⟩ => ⟨S4x16x40x128x256, .bf16⟩
  | .hbm, ⟨41, _⟩ => ⟨S16384x1024, .bf16⟩
  | .hbm, ⟨42, _⟩ => ⟨S16384x1024, .fp8e4m3⟩
  | .hbm, ⟨43, _⟩ => ⟨S16384x8, .f32⟩
  | .hbm, ⟨44, _⟩ => ⟨S4x16x1024x256, .bf16⟩
  | .hbm, ⟨45, _⟩ => ⟨S16384x1024, .fp8e4m3⟩
  | .hbm, ⟨46, _⟩ => ⟨S16384x8, .f32⟩
  | .local _ .vmem, ⟨0, _⟩ => ⟨S16384x5120, .fp8e4m3⟩
  | .local _ .vmem, ⟨1, _⟩ => ⟨S16384x1, .f32⟩
  | .local _ .vmem, ⟨2, _⟩ => ⟨S16384x1, .f32⟩
  | .local _ .vmem, ⟨3, _⟩ => ⟨S5120x7168, .fp8e4m3⟩
  | .local _ .vmem, ⟨4, _⟩ => ⟨S1x7168, .f32⟩
  | .local _ .vmem, ⟨5, _⟩ => ⟨S4x16x40x128x256, .bf16⟩
  | .local _ .vmem, ⟨6, _⟩ => ⟨S16384x1024, .bf16⟩
  | .local _ .vmem, ⟨7, _⟩ => ⟨S16384x1024, .fp8e4m3⟩
  | .local _ .vmem, ⟨8, _⟩ => ⟨S16384x8, .f32⟩
  | .local _ .vmem, ⟨9, _⟩ => ⟨S4x16x1024x256, .bf16⟩
  | .local _ .vmem, ⟨10, _⟩ => ⟨S16384x1024, .fp8e4m3⟩
  | .local _ .vmem, ⟨11, _⟩ => ⟨S16384x8, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v14_3 : Ref sig .tc := ⟨.hbm, 43, rfl⟩
abbrev main_v14_4 : Ref sig .tc := ⟨.hbm, 44, rfl⟩
abbrev main_v14_5 : Ref sig .tc := ⟨.hbm, 45, rfl⟩
abbrev main_v14_6 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x40x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x16x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== LocalQkv.lean ====
abbrev S4x4096x5120 : Shape := ⟨3, ![4, 4096, 5120]⟩
abbrev S4x4096x64 : Shape := ⟨3, ![4, 4096, 64]⟩
abbrev S5120 : Shape := ⟨1, ![5120]⟩
abbrev S5120x7168 : Shape := ⟨2, ![5120, 7168]⟩
abbrev S7168 : Shape := ⟨1, ![7168]⟩
abbrev S16384x5120 : Shape := ⟨2, ![16384, 5120]⟩
abbrev S1x5120 : Shape := ⟨2, ![1, 5120]⟩
abbrev S1x7168 : Shape := ⟨2, ![1, 7168]⟩
abbrev S16384x64 : Shape := ⟨2, ![16384, 64]⟩
abbrev S64x1x256 : Shape := ⟨3, ![64, 1, 256]⟩
abbrev S4x16x40x128x256 : Shape := ⟨5, ![4, 16, 40, 128, 256]⟩
abbrev S16384x1024 : Shape := ⟨2, ![16384, 1024]⟩
abbrev S4x16x1024x256 : Shape := ⟨4, ![4, 16, 1024, 256]⟩
abbrev S256x5120 : Shape := ⟨2, ![256, 5120]⟩
abbrev S256x64 : Shape := ⟨2, ![256, 64]⟩
abbrev S1x1x256 : Shape := ⟨3, ![1, 1, 256]⟩
abbrev S1x1x40x128x256 : Shape := ⟨5, ![1, 1, 40, 128, 256]⟩
abbrev S256x1024 : Shape := ⟨2, ![256, 1024]⟩
abbrev S1x1x1024x256 : Shape := ⟨4, ![1, 1, 1024, 256]⟩
abbrev S256x128 : Shape := ⟨2, ![256, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S256x128x1 : Shape := ⟨3, ![256, 128, 1]⟩
abbrev S5120x256 : Shape := ⟨2, ![5120, 256]⟩
abbrev S256x256 : Shape := ⟨2, ![256, 256]⟩
abbrev S1x128 : Shape := ⟨2, ![1, 128]⟩
abbrev S256 : Shape := ⟨1, ![256]⟩
abbrev S256x1 : Shape := ⟨2, ![256, 1]⟩
abbrev S128x256 : Shape := ⟨2, ![128, 256]⟩
abbrev S1x1x1x128x256 : Shape := ⟨5, ![1, 1, 1, 128, 256]⟩
abbrev S1x1x128x256 : Shape := ⟨4, ![1, 1, 128, 256]⟩
abbrev S1x256 : Shape := ⟨2, ![1, 256]⟩

abbrev nBuf : Space → Nat
  | .hbm => 17
  | .vmem => 25
  | .smem => 0
  | _ => 0

abbrev bufTy : (tb : Table) → Fin (tcTables nBuf tb) → BufTy
  | .hbm, ⟨0, _⟩ => ⟨S4x4096x5120, .bf16⟩
  | .hbm, ⟨1, _⟩ => ⟨S4x4096x64, .f32⟩
  | .hbm, ⟨2, _⟩ => ⟨S4x4096x64, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S16384x5120, .bf16⟩
  | .hbm, ⟨7, _⟩ => ⟨S1x5120, .f32⟩
  | .hbm, ⟨8, _⟩ => ⟨S1x7168, .f32⟩
  | .hbm, ⟨9, _⟩ => ⟨S16384x64, .f32⟩
  | .hbm, ⟨10, _⟩ => ⟨S16384x64, .f32⟩
  | .hbm, ⟨11, _⟩ => ⟨S16384x5120, .fp8e4m3⟩
  | .hbm, ⟨12, _⟩ => ⟨S64x1x256, .f32⟩
  | .hbm, ⟨13, _⟩ => ⟨S4x16x40x128x256, .bf16⟩
  | .hbm, ⟨14, _⟩ => ⟨S16384x1024, .bf16⟩
  | .hbm, ⟨15, _⟩ => ⟨S16384x1024, .bf16⟩
  | .hbm, ⟨16, _⟩ => ⟨S4x16x1024x256, .bf16⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x7168, .fp8e4m3⟩
  | .local _ .vmem, ⟨4, _⟩ => ⟨S1x7168, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x5120, .fp8e4m3⟩
  | .local _ .vmem, ⟨10, _⟩ => ⟨S256x5120, .fp8e4m3⟩
  | .local _ .vmem, ⟨11, _⟩ => ⟨S1x1x256, .f32⟩
  | .local _ .vmem, ⟨12, _⟩ => ⟨S1x1x256, .f32⟩
  | .local _ .vmem, ⟨13, _⟩ => ⟨S1x1x40x128x256, .bf16⟩
  | .local _ .vmem, ⟨14, _⟩ => ⟨S1x1x40x128x256, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1x1024x256, .bf16⟩
  | .local _ .vmem, ⟨20, _⟩ => ⟨S1x1x1024x256, .bf16⟩
  | .local _ .vmem, ⟨21, _⟩ => ⟨S256x5120, .fp8e4m3⟩
  | .local _ .vmem, ⟨22, _⟩ => ⟨S256x5120, .fp8e4m3⟩
  | .local _ .vmem, ⟨23, _⟩ => ⟨S256x128, .f32⟩
  | .local _ .vmem, ⟨24, _⟩ => ⟨S256x128, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  let c0_i32_17 : BitVec 32 := 0#32
  ![v18.toNat, v30.toNat, c0_i32_14.toNat, c0_i32_15.toNat, c0_i32_16.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, v30.toNat, c0_i32_14.toNat, c0_i32_15.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x40x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LocalQkvMathIdeal.lean ====
abbrev S4x4096x5120 : Shape := ⟨3, ![4, 4096, 5120]⟩
abbrev S4x4096x64 : Shape := ⟨3, ![4, 4096, 64]⟩
abbrev S5120 : Shape := ⟨1, ![5120]⟩
abbrev S5120x7168 : Shape := ⟨2, ![5120, 7168]⟩
abbrev S7168 : Shape := ⟨1, ![7168]⟩
abbrev S16384x5120 : Shape := ⟨2, ![16384, 5120]⟩
abbrev S1x5120 : Shape := ⟨2, ![1, 5120]⟩
abbrev S1x7168 : Shape := ⟨2, ![1, 7168]⟩
abbrev S16384x64 : Shape := ⟨2, ![16384, 64]⟩
abbrev S64x1x256 : Shape := ⟨3, ![64, 1, 256]⟩
abbrev S4x16x40x128x256 : Shape := ⟨5, ![4, 16, 40, 128, 256]⟩
abbrev S16384x1024 : Shape := ⟨2, ![16384, 1024]⟩
abbrev S4x16x1024x256 : Shape := ⟨4, ![4, 16, 1024, 256]⟩
abbrev S16384 : Shape := ⟨1, ![16384]⟩
abbrev S16384x1 : Shape := ⟨2, ![16384, 1]⟩
abbrev S16384x7168 : Shape := ⟨2, ![16384, 7168]⟩
abbrev S16384x40x128 : Shape := ⟨3, ![16384, 40, 128]⟩
abbrev S16384x40x64x2 : Shape := ⟨4, ![16384, 40, 64, 2]⟩
abbrev S16384x40x64x1 : Shape := ⟨4, ![16384, 40, 64, 1]⟩
abbrev S16384x40x64 : Shape := ⟨3, ![16384, 40, 64]⟩
abbrev S16384x1x64 : Shape := ⟨3, ![16384, 1, 64]⟩
abbrev S16384x40 : Shape := ⟨2, ![16384, 40]⟩
abbrev S16384x40x1 : Shape := ⟨3, ![16384, 40, 1]⟩
abbrev S16384x8x128 : Shape := ⟨3, ![16384, 8, 128]⟩
abbrev S16384x8x64x2 : Shape := ⟨4, ![16384, 8, 64, 2]⟩
abbrev S16384x8x64x1 : Shape := ⟨4, ![16384, 8, 64, 1]⟩
abbrev S16384x8x64 : Shape := ⟨3, ![16384, 8, 64]⟩
abbrev S16384x8 : Shape := ⟨2, ![16384, 8]⟩
abbrev S16384x8x1 : Shape := ⟨3, ![16384, 8, 1]⟩
abbrev S4x16x256x40x128 : Shape := ⟨5, ![4, 16, 256, 40, 128]⟩
abbrev S4x16x256x1024 : Shape := ⟨4, ![4, 16, 256, 1024]⟩

abbrev nBuf : Space → Nat
  | .hbm => 17
  | .vmem => 12
  | .smem => 0
  | _ => 0

abbrev bufTy : (tb : Table) → Fin (tcTables nBuf tb) → BufTy
  | .hbm, ⟨0, _⟩ => ⟨S4x4096x5120, .bf16⟩
  | .hbm, ⟨1, _⟩ => ⟨S4x4096x64, .f32⟩
  | .hbm, ⟨2, _⟩ => ⟨S4x4096x64, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S16384x5120, .bf16⟩
  | .hbm, ⟨7, _⟩ => ⟨S1x5120, .f32⟩
  | .hbm, ⟨8, _⟩ => ⟨S1x7168, .f32⟩
  | .hbm, ⟨9, _⟩ => ⟨S16384x64, .f32⟩
  | .hbm, ⟨10, _⟩ => ⟨S16384x64, .f32⟩
  | .hbm, ⟨11, _⟩ => ⟨S16384x5120, .fp8e4m3⟩
  | .hbm, ⟨12, _⟩ => ⟨S64x1x256, .f32⟩
  | .hbm, ⟨13, _⟩ => ⟨S4x16x40x128x256, .bf16⟩
  | .hbm, ⟨14, _⟩ => ⟨S16384x1024, .bf16⟩
  | .hbm, ⟨15, _⟩ => ⟨S16384x1024, .bf16⟩
  | .hbm, ⟨16, _⟩ => ⟨S4x16x1024x256, .bf16⟩
  | .local _ .vmem, ⟨0, _⟩ => ⟨S16384x5120, .bf16⟩
  | .local _ .vmem, ⟨1, _⟩ => ⟨S1x5120, .f32⟩
  | .local _ .vmem, ⟨2, _⟩ => ⟨S5120x7168, .fp8e4m3⟩
  | .local _ .vmem, ⟨3, _⟩ => ⟨S1x7168, .f32⟩
  | .local _ .vmem, ⟨4, _⟩ => ⟨S16384x64, .f32⟩
  | .local _ .vmem, ⟨5, _⟩ => ⟨S16384x64, .f32⟩
  | .local _ .vmem, ⟨6, _⟩ => ⟨S16384x5120, .fp8e4m3⟩
  | .local _ .vmem, ⟨7, _⟩ => ⟨S64x1x256, .f32⟩
  | .local _ .vmem, ⟨8, _⟩ => ⟨S4x16x40x128x256, .bf16⟩
  | .local _ .vmem, ⟨9, _⟩ => ⟨S16384x1024, .bf16⟩
  | .local _ .vmem, ⟨10, _⟩ => ⟨S16384x1024, .bf16⟩
  | .local _ .vmem, ⟨11, _⟩ => ⟨S4x16x1024x256, .bf16⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16x40x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x16x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== LocalOut.lean ====
abbrev S16384x5120 : Shape := ⟨2, ![16384, 5120]⟩
abbrev S4x4096 : Shape := ⟨2, ![4, 4096]⟩
abbrev S4x4096x5120 : Shape := ⟨3, ![4, 4096, 5120]⟩
abbrev S40x128x5120 : Shape := ⟨3, ![40, 128, 5120]⟩
abbrev S5120 : Shape := ⟨1, ![5120]⟩
abbrev S64x1x256 : Shape := ⟨3, ![64, 1, 256]⟩
abbrev S5120x5120 : Shape := ⟨2, ![5120, 5120]⟩
abbrev S1x5120 : Shape := ⟨2, ![1, 5120]⟩
abbrev S256x5120 : Shape := ⟨2, ![256, 5120]⟩
abbrev S1x1x256 : Shape := ⟨3, ![1, 1, 256]⟩
abbrev S256x128 : Shape := ⟨2, ![256, 128]⟩
abbrev S1x256 : Shape := ⟨2, ![1, 256]⟩
abbrev S128x256 : Shape := ⟨2, ![128, 256]⟩
abbrev S256 : Shape := ⟨1, ![256]⟩
abbrev S256x1 : Shape := ⟨2, ![256, 1]⟩
abbrev S256x256 : Shape := ⟨2, ![256, 256]⟩
abbrev S5120x256 : Shape := ⟨2, ![5120, 256]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S16384x5120, .fp8e4m3⟩
  | .hbm, ⟨1, _⟩ => ⟨S4x4096, .f32⟩
  | .hbm, ⟨2, _⟩ => ⟨S4x4096x5120, .bf16⟩
  | .hbm, ⟨3, _⟩ => ⟨S40x128x5120, .fp8e4m3⟩
  | .hbm, ⟨4, _⟩ => ⟨S5120, .f32⟩
  | .hbm, ⟨5, _⟩ => ⟨S5120, .f32⟩
  | .hbm, ⟨6, _⟩ => ⟨S16384x5120, .bf16⟩
  | .hbm, ⟨7, _⟩ => ⟨S64x1x256, .f32⟩
  | .hbm, ⟨8, _⟩ => ⟨S5120x5120, .fp8e4m3⟩
  | .hbm, ⟨9, _⟩ => ⟨S1x5120, .f32⟩
  | .hbm, ⟨10, _⟩ => ⟨S1x5120, .f32⟩
  | .hbm, ⟨11, _⟩ => ⟨S16384x5120, .f32⟩
  | .hbm, ⟨12, _⟩ => ⟨S16384x5120, .fp8e4m3⟩
  | .hbm, ⟨13, _⟩ => ⟨S64x1x256, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S1x1x256, .f32⟩
  | .local _ .vmem, ⟨3, _⟩ => ⟨S1x1x256, .f32⟩
  | .local _ .vmem, ⟨4, _⟩ => ⟨S256x5120, .bf16⟩
  | .local _ .vmem, ⟨5, _⟩ => ⟨S256x5120, .bf16⟩
  | .local _ .vmem, ⟨6, _⟩ => ⟨S5120x5120, .fp8e4m3⟩
  | .local _ .vmem, ⟨7, _⟩ => ⟨S1x5120, .f32⟩
  | .local _ .vmem, ⟨8, _⟩ => ⟨S1x5120, .f32⟩
  | .local _ .vmem, ⟨9, _⟩ => ⟨S256x5120, .f32⟩
  | .local _ .vmem, ⟨10, _⟩ => ⟨S256x5120, .f32⟩
  | .local _ .vmem, ⟨11, _⟩ => ⟨S256x5120, .fp8e4m3⟩
  | .local _ .vmem, ⟨12, _⟩ => ⟨S256x5120, .fp8e4m3⟩
  | .local _ .vmem, ⟨13, _⟩ => ⟨S1x1x256, .f32⟩
  | .local _ .vmem, ⟨14, _⟩ => ⟨S1x1x256, .f32⟩
  | .local _ .vmem, ⟨15, _⟩ => ⟨S256x5120, .f32⟩
  | .local _ .vmem, ⟨16, _⟩ => ⟨S256x5120, .f32⟩
  | .local _ .vmem, ⟨17, _⟩ => ⟨S256x128, .f32⟩
  | .local _ .vmem, ⟨18, _⟩ => ⟨S256x128, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LocalOutIdeal.lean ====
variable {F : FTy → Type} [FloatOps F] [Named F]
def κ : String → Option EReal := fun
  | "inv_d" => some ((1 / 5120 : ℝ) : EReal)
  | _ => none
-- ==== LocalOutMathIdeal.lean ====
abbrev S16384x5120 : Shape := ⟨2, ![16384, 5120]⟩
abbrev S4x4096 : Shape := ⟨2, ![4, 4096]⟩
abbrev S4x4096x5120 : Shape := ⟨3, ![4, 4096, 5120]⟩
abbrev S40x128x5120 : Shape := ⟨3, ![40, 128, 5120]⟩
abbrev S5120 : Shape := ⟨1, ![5120]⟩
abbrev S16384x1 : Shape := ⟨2, ![16384, 1]⟩
abbrev S5120x5120 : Shape := ⟨2, ![5120, 5120]⟩
abbrev S1x5120 : Shape := ⟨2, ![1, 5120]⟩
abbrev S64x1x256 : Shape := ⟨3, ![64, 1, 256]⟩
abbrev S16384 : Shape := ⟨1, ![16384]⟩

abbrev nBuf : Space → Nat
  | .hbm => 14
  | .vmem => 9
  | .smem => 0
  | _ => 0

abbrev bufTy : (tb : Table) → Fin (tcTables nBuf tb) → BufTy
  | .hbm, ⟨0, _⟩ => ⟨S16384x5120, .fp8e4m3⟩
  | .hbm, ⟨1, _⟩ => ⟨S4x4096, .f32⟩
  | .hbm, ⟨2, _⟩ => ⟨S4x4096x5120, .bf16⟩
  | .hbm, ⟨3, _⟩ => ⟨S40x128x5120, .fp8e4m3⟩
  | .hbm, ⟨4, _⟩ => ⟨S5120, .f32⟩
  | .hbm, ⟨5, _⟩ => ⟨S5120, .f32⟩
  | .hbm, ⟨6, _⟩ => ⟨S16384x1, .f32⟩
  | .hbm, ⟨7, _⟩ => ⟨S16384x5120, .bf16⟩
  | .hbm, ⟨8, _⟩ => ⟨S5120x5120, .fp8e4m3⟩
  | .hbm, ⟨9, _⟩ => ⟨S1x5120, .f32⟩
  | .hbm, ⟨10, _⟩ => ⟨S1x5120, .f32⟩
  | .hbm, ⟨11, _⟩ => ⟨S16384x5120, .f32⟩
  | .hbm, ⟨12, _⟩ => ⟨S16384x5120, .fp8e4m3⟩
  | .hbm, ⟨13, _⟩ => ⟨S64x1x256, .f32⟩
  | .local _ .vmem, ⟨0, _⟩ => ⟨S16384x5120, .fp8e4m3⟩
  | .local _ .vmem, ⟨1, _⟩ => ⟨S16384x1, .f32⟩
  | .local _ .vmem, ⟨2, _⟩ => ⟨S16384x5120, .bf16⟩
  | .local _ .vmem, ⟨3, _⟩ => ⟨S5120x5120, .fp8e4m3⟩
  | .local _ .vmem, ⟨4, _⟩ => ⟨S1x5120, .f32⟩
  | .local _ .vmem, ⟨5, _⟩ => ⟨S1x5120, .f32⟩
  | .local _ .vmem, ⟨6, _⟩ => ⟨S16384x5120, .f32⟩
  | .local _ .vmem, ⟨7, _⟩ => ⟨S16384x5120, .fp8e4m3⟩
  | .local _ .vmem, ⟨8, _⟩ => ⟨S64x1x256, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.GlobalOutValue.lean ====
/- What the global output projection leaves in its result array, over the reals, as one function of its arguments. -/
module

public import proofs.«01_k».proof.Proof.Gen.GlobalOutIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GlobalOutIdeal.Blocks

open Cert.GlobalOutIdeal Cert.GlobalOutIdeal.Gen

variable (m : (ℓ : Loc nD τ sig) → Buf (Elt Ideal) ℓ)

/-- The result block as one function of the five input blocks: `h + (codes · w) · scale · weight scale`. -/
def G (x0 : Vec Ideal S256x5120 .fp8e4m3) (x1 : Vec Ideal S1x1x256 .f32) (x2 : Vec Ideal S256x5120 .f32)
    (x3 : Vec Ideal S5120x5120 .fp8e4m3) (x4 : Vec Ideal S1x5120 .f32) : Vec Ideal S256x5120 .bf16 := fun y =>
  x2 y + (∑ k : Fin 5120, x0 (ix2 (y 0) k) * x3 (ix2 k (y 1))) * x1 (ix3 0 0 (y 0)) * x4 (ix2 0 (y 1))

/-- `G` at one index. -/
theorem G_at (x0 : Vec Ideal S256x5120 .fp8e4m3) (x1 : Vec Ideal S1x1x256 .f32) (x2 : Vec Ideal S256x5120 .f32)
    (x3 : Vec Ideal S5120x5120 .fp8e4m3) (x4 : Vec Ideal S1x5120 .f32) (i : Fin 256) (j : Fin 5120) :
    G x0 x1 x2 x3 x4 (ix2 i j)
    = x2 (ix2 i j) + (∑ k : Fin 5120, x0 (ix2 i k) * x3 (ix2 k j)) * x1 (ix3 0 0 i) * x4 (ix2 0 j) := rfl

/-- The result: `h + (codes · w) · scale of the row · scale of the column`. -/
def REF (a : Vec Ideal S16384x5120 .fp8e4m3) (s : Vec Ideal S4x4096 .f32) (h : Vec Ideal S16384x5120 .f32)
    (w : Vec Ideal S40x128x5120 .fp8e4m3) (ws : Vec Ideal S5120 .f32) : Vec Ideal S16384x5120 .bf16 := fun y =>
  h y + (∑ k : Fin 5120, a (ix2 (y 0) k) * w (ix3 ⟨k.val / 128, by omega⟩ ⟨k.val % 128, by omega⟩ (y 1)))
    * s (ix2 ⟨(y 0).val / 4096, by have : (y 0).val < 16384 := (y 0).isLt; omega⟩ ⟨(y 0).val % 4096, by omega⟩) * ws (ix1 (y 1))

/-- The left half of a chunk of 256 columns. -/
theorem lo_at (s : Vec Ideal S1x1x256 .f32) (a : Vec Ideal S256x5120 .fp8e4m3) (w : Vec Ideal S5120x256 .fp8e4m3)
    (ws : Vec Ideal S1x128 .f32) (h : Vec Ideal S256x128 .f32) (i : Fin 256) (j : Fin 128) :
    k0_pay5 s a w ws h (ix2 i j) = h (ix2 i j) + (∑ k : Fin 5120, a (ix2 i k) * w (ix2 k ⟨j.val, by omega⟩)) * s (ix3 0 0 i) * ws (ix2 0 j) := by
  pointwise [k0_pay5, k0_pay4, k0_pay3]
  first | done | blk_point

/-- The right half of a chunk of 256 columns. -/
theorem hi_at (s : Vec Ideal S1x1x256 .f32) (a : Vec Ideal S256x5120 .fp8e4m3) (w : Vec Ideal S5120x256 .fp8e4m3)
    (ws : Vec Ideal S1x128 .f32) (h : Vec Ideal S256x128 .f32) (i : Fin 256) (j : Fin 128) :
    k0_pay6 s a w ws h (ix2 i j) = h (ix2 i j) + (∑ k : Fin 5120, a (ix2 i k) * w (ix2 k ⟨128 + j.val, by omega⟩)) * s (ix3 0 0 i) * ws (ix2 0 j) := by
  pointwise [k0_pay6, k0_pay4, k0_pay3]
  first | done | blk_point

/-- A left half of the chunk at column `off` is, where it's stored, the tile of `G`. -/
theorem piece_lo (x0 : Vec Ideal S256x5120 .fp8e4m3) (x1 : Vec Ideal S1x1x256 .f32) (x2 : Vec Ideal S256x5120 .f32)
    (x3 : Vec Ideal S5120x5120 .fp8e4m3) (x4 : Vec Ideal S1x5120 .f32) (off off' : ℕ) (ho : off' = off)
    (hw : ∀ a, (![0, off] : Fin 2 → ℕ) a + S5120x256.size a ≤ S5120x5120.size a)
    (hs : ∀ a, (![0, off'] : Fin 2 → ℕ) a + S1x128.size a ≤ S1x5120.size a)
    (hh : ∀ a, (![0, off'] : Fin 2 → ℕ) a + S256x128.size a ≤ S256x5120.size a) (x : S256x128.Idx) :
    k0_pay5 (View.ld x1 r0_0) (View.ld x0 r0_1) (View.ld x3 (Rect.unit (s := S5120x5120) ![0, off] S5120x256.size hw))
      (View.ld x4 (Rect.unit (s := S1x5120) ![0, off'] S1x128.size hs)) (View.ld x2 (Rect.unit (s := S256x5120) ![0, off'] S256x128.size hh)) x
    = G x0 x1 x2 x3 x4 ((Rect.unit (s := S256x5120) ![0, off'] S256x128.size hh).emb x) := by
  subst ho
  obtain ⟨i, j, rfl⟩ : ∃ (i : Fin 256) (j : Fin 128), x = ix2 i j := ⟨x 0, x 1, by ext a; fin_cases a <;> rfl⟩
  have hj := hh 1
  have he : (Rect.unit (s := S256x5120) ![0, off'] S256x128.size hh).emb (ix2 i j) = ix2 i ⟨off' + j.val, by have := j.isLt; simp at hj; omega⟩ :=
    funext fun a => Fin.ext (by
      refine (Rect.idx_unit_val _ _ _ _ _).trans ?_
      fin_cases a <;> simp [ix2])
  rw [lo_at, he]
  unfold G
  blk_point
  all_goals
    refine View.ld_unit_apply_of _ _ _ _ _ _ fun a => ?_
    fin_cases a <;> simp [ix2, ix3, Rect.emb_apply, Rect.unit] <;> omega

/-- A right half of the chunk at column `off` is, where it's stored, the tile of `G`. -/
theorem piece_hi (x0 : Vec Ideal S256x5120 .fp8e4m3) (x1 : Vec Ideal S1x1x256 .f32) (x2 : Vec Ideal S256x5120 .f32)
    (x3 : Vec Ideal S5120x5120 .fp8e4m3) (x4 : Vec Ideal S1x5120 .f32) (off off' : ℕ) (ho : off' = off + 128)
    (hw : ∀ a, (![0, off] : Fin 2 → ℕ) a + S5120x256.size a ≤ S5120x5120.size a)
    (hs : ∀ a, (![0, off'] : Fin 2 → ℕ) a + S1x128.size a ≤ S1x5120.size a)
    (hh : ∀ a, (![0, off'] : Fin 2 → ℕ) a + S256x128.size a ≤ S256x5120.size a) (x : S256x128.Idx) :
    k0_pay6 (View.ld x1 r0_0) (View.ld x0 r0_1) (View.ld x3 (Rect.unit (s := S5120x5120) ![0, off] S5120x256.size hw))
      (View.ld x4 (Rect.unit (s := S1x5120) ![0, off'] S1x128.size hs)) (View.ld x2 (Rect.unit (s := S256x5120) ![0, off'] S256x128.size hh)) x
    = G x0 x1 x2 x3 x4 ((Rect.unit (s := S256x5120) ![0, off'] S256x128.size hh).emb x) := by
  subst ho
  obtain ⟨i, j, rfl⟩ : ∃ (i : Fin 256) (j : Fin 128), x = ix2 i j := ⟨x 0, x 1, by ext a; fin_cases a <;> rfl⟩
  have hj := hh 1
  have he : (Rect.unit (s := S256x5120) ![0, off + 128] S256x128.size hh).emb (ix2 i j) = ix2 i ⟨off + 128 + j.val, by have := j.isLt; simp at hj; omega⟩ :=
    funext fun a => Fin.ext (by
      refine (Rect.idx_unit_val _ _ _ _ _).trans ?_
      fin_cases a <;> simp [ix2])
  rw [hi_at, he]
  unfold G
  blk_point
  all_goals
    refine View.ld_unit_apply_of _ _ _ _ _ _ fun a => ?_
    fin_cases a <;> simp [ix2, ix3, Rect.emb_apply, Rect.unit] <;> omega

set_option maxHeartbeats 4000000 in
/-- What the body leaves in the result's buffer is `G` of the input blocks. -/
theorem out_eq (x0 : Vec Ideal S256x5120 .fp8e4m3) (x1 : Vec Ideal S1x1x256 .f32) (x2 : Vec Ideal S256x5120 .f32)
    (x3 : Vec Ideal S5120x5120 .fp8e4m3) (x4 : Vec Ideal S1x5120 .f32) (y : S256x5120.Idx) :
    out0_5 x0 x1 x2 x3 x4 y = G x0 x1 x2 x3 x4 y := by
  unfold out0_5
  refine View.canon_apply_of_pieces (G x0 x1 x2 x3 x4) _ ?_ y (cover0_5 _ _ _ _ _ _ _ _ _ _ _ _ _ _ _ _ _ _ _ _ _ _ _ _ _ _ _ _ _ _ _ _ _ _ _ _ _ _ _ _ y)
  simp only [List.forall_mem_cons]
  exact ⟨piece_hi x0 x1 x2 x3 x4 4864 4992 rfl _ _ _,
    piece_lo x0 x1 x2 x3 x4 4864 4864 rfl _ _ _,
    piece_hi x0 x1 x2 x3 x4 4608 4736 rfl _ _ _,
    piece_lo x0 x1 x2 x3 x4 4608 4608 rfl _ _ _,
    piece_hi x0 x1 x2 x3 x4 4352 4480 rfl _ _ _,
    piece_lo x0 x1 x2 x3 x4 4352 4352 rfl _ _ _,
    piece_hi x0 x1 x2 x3 x4 4096 4224 rfl _ _ _,
    piece_lo x0 x1 x2 x3 x4 4096 4096 rfl _ _ _,
    piece_hi x0 x1 x2 x3 x4 3840 3968 rfl _ _ _,
    piece_lo x0 x1 x2 x3 x4 3840 3840 rfl _ _ _,
    piece_hi x0 x1 x2 x3 x4 3584 3712 rfl _ _ _,
    piece_lo x0 x1 x2 x3 x4 3584 3584 rfl _ _ _,
    piece_hi x0 x1 x2 x3 x4 3328 3456 rfl _ _ _,
    piece_lo x0 x1 x2 x3 x4 3328 3328 rfl _ _ _,
    piece_hi x0 x1 x2 x3 x4 3072 3200 rfl _ _ _,
    piece_lo x0 x1 x2 x3 x4 3072 3072 rfl _ _ _,
    piece_hi x0 x1 x2 x3 x4 2816 2944 rfl _ _ _,
    piece_lo x0 x1 x2 x3 x4 2816 2816 rfl _ _ _,
    piece_hi x0 x1 x2 x3 x4 2560 2688 rfl _ _ _,
    piece_lo x0 x1 x2 x3 x4 2560 2560 rfl _ _ _,
    piece_hi x0 x1 x2 x3 x4 2304 2432 rfl _ _ _,
    piece_lo x0 x1 x2 x3 x4 2304 2304 rfl _ _ _,
    piece_hi x0 x1 x2 x3 x4 2048 2176 rfl _ _ _,
    piece_lo x0 x1 x2 x3 x4 2048 2048 rfl _ _ _,
    piece_hi x0 x1 x2 x3 x4 1792 1920 rfl _ _ _,
    piece_lo x0 x1 x2 x3 x4 1792 1792 rfl _ _ _,
    piece_hi x0 x1 x2 x3 x4 1536 1664 rfl _ _ _,
    piece_lo x0 x1 x2 x3 x4 1536 1536 rfl _ _ _,
    piece_hi x0 x1 x2 x3 x4 1280 1408 rfl _ _ _,
    piece_lo x0 x1 x2 x3 x4 1280 1280 rfl _ _ _,
    piece_hi x0 x1 x2 x3 x4 1024 1152 rfl _ _ _,
    piece_lo x0 x1 x2 x3 x4 1024 1024 rfl _ _ _,
    piece_hi x0 x1 x2 x3 x4 768 896 rfl _ _ _,
    piece_lo x0 x1 x2 x3 x4 768 768 rfl _ _ _,
    piece_hi x0 x1 x2 x3 x4 512 640 rfl _ _ _,
    piece_lo x0 x1 x2 x3 x4 512 512 rfl _ _ _,
    piece_hi x0 x1 x2 x3 x4 256 384 rfl _ _ _,
    piece_lo x0 x1 x2 x3 x4 256 256 rfl _ _ _,
    piece_hi x0 x1 x2 x3 x4 0 128 rfl _ _ _,
    piece_lo x0 x1 x2 x3 x4 0 0 rfl _ _ _,
    fun _ h => absurd h List.not_mem_nil⟩

end Cert.GlobalOutIdeal.Blocks

end
-- ==== Proof.GlobalOutArray.lean ====
/- The global output projection's whole result array, over the reals, as one function of its arguments. -/
module

public import proofs.«01_k».proof.Proof.GlobalOutValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlobalOutIdeal.Blocks

open Cert.GlobalOutIdeal Cert.GlobalOutIdeal.Gen

variable (m : (ℓ : Loc nD τ sig) → Buf (Elt Ideal) ℓ)

/-- Each window's block at each grid point. -/
theorem idx : ∀ t : Fin cfg0.N, win0_0.index t = ![t.val, 0] ∧ win0_1.index t = ![t.val, 0, 0] ∧ win0_2.index t = ![t.val, 0]
    ∧ win0_3.index t = ![0, 0] ∧ win0_4.index t = ![0, 0] ∧ win0_5.index t = ![t.val, 0] :=
  (by decide +kernel : ∀ t : Fin grid0.N, _)

/-- The codes' block at point `t`. -/
theorem b0 (c : Dev nD) (t : Fin cfg0.N) (i : Fin 256) (k : Fin 5120) :
    iblk m c 0 t (ix2 i k) = m ((c : Thread nD τ).loc main_arg0) (ix2 ⟨t.val * 256 + i.val, by have : t.val < 64 := t.isLt; omega⟩ k) := by
  blk_ext [iblk, V, idx t]

/-- The scales' block at point `t`. -/
theorem b1 (c : Dev nD) (t : Fin cfg0.N) (i : Fin 256) :
    iblk m c 1 t (ix3 0 0 i) = m ((c : Thread nD τ).loc main_arg1) (ix2 ⟨(t.val * 256 + i.val) / 4096, by have : t.val < 64 := t.isLt; omega⟩ ⟨(t.val * 256 + i.val) % 4096, by omega⟩) := by
  show V m c main_v0 _ = _
  entry_read
  pointwise
  blk_ext [idx t]

/-- The addend's block at point `t`. -/
theorem b2 (c : Dev nD) (t : Fin cfg0.N) (i : Fin 256) (k : Fin 5120) :
    iblk m c 2 t (ix2 i k) = m ((c : Thread nD τ).loc main_arg2) (ix2 ⟨t.val * 256 + i.val, by have : t.val < 64 := t.isLt; omega⟩ k) := by
  blk_ext [iblk, V, idx t]

/-- The weight at point `t`, its two leading axes merged. -/
theorem b3 (c : Dev nD) (t : Fin cfg0.N) (k : Fin 5120) (j : Fin 5120) :
    iblk m c 3 t (ix2 k j) = m ((c : Thread nD τ).loc main_arg3) (ix3 ⟨k.val / 128, by omega⟩ ⟨k.val % 128, by omega⟩ j) := by
  show V m c main_v1 _ = _
  entry_read
  pointwise
  blk_ext [idx t]

/-- The weight's scales at point `t`. -/
theorem b4 (c : Dev nD) (t : Fin cfg0.N) (j : Fin 5120) :
    iblk m c 4 t (ix2 0 j) = m ((c : Thread nD τ).loc main_arg4) (ix1 j) := by
  show V m c main_v2 _ = _
  entry_read
  pointwise
  blk_ext [idx t]

/-- The result array after the run. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, out_eq]
  have ht : t.val < 64 := t.isLt
  obtain ⟨i, j, rfl⟩ : ∃ (i : Fin 256) (j : Fin 5120), y = ix2 i j := ⟨y 0, y 1, by ext a; fin_cases a <;> rfl⟩
  have hy : ((cfg0.win 5).blk t).view.emb (ix2 i j) = ix2 ⟨t.val * 256 + i.val, by omega⟩ j := by blk_ext [idx t]
  refine Eq.trans ?_ (congrArg (REF _ _ _ _ _) hy.symm)
  refine (G_at _ _ _ _ _ i j).trans ?_
  rw [b2, b1, b4]
  simp only [b0, b3]
  rfl

end Cert.GlobalOutIdeal.Blocks

end
-- ==== Proof.GlobalOutMath.lean ====
/- The plain statement of the global output projection: its result array, over the reals, as one function of its arguments. -/
module

public import proofs.«01_k».proof.Proof.Gen.GlobalOutMathIdeal.Value
public import proofs.«01_k».proof.Proof.GlobalOutValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlobalOutMathIdeal.Blocks

open Cert.GlobalOutMathIdeal Cert.GlobalOutMathIdeal.Gen

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- What the body stores, at one index. -/
theorem pay_at (a : Vec Ideal S16384x5120 .fp8e4m3) (w : Vec Ideal S5120x5120 .fp8e4m3) (h : Vec Ideal S16384x5120 .f32)
    (s : Vec Ideal S16384x1 .f32) (ws : Vec Ideal S1x5120 .f32) (i : Fin 16384) (j : Fin 5120) :
    k0_pay1 a w h s ws (ix2 i j) = h (ix2 i j) + (∑ k : Fin 5120, a (ix2 i k) * w (ix2 k j)) * s (ix2 i 0) * ws (ix2 0 j) := by
  pointwise [k0_pay1]
  first | done | blk_point

/-- The codes. -/
theorem b0 (c : Dev nD) (t : Fin cfg0.N) (i : Fin 16384) (k : Fin 5120) :
    iblk m c 0 t (ix2 i k) = m ((c : Thread nD τ).loc main_arg0) (ix2 i k) := by
  blk_ext [iblk, V, idx t]

/-- The scales, a column. -/
theorem b1 (c : Dev nD) (t : Fin cfg0.N) (i : Fin 16384) :
    iblk m c 1 t (ix2 i 0) = m ((c : Thread nD τ).loc main_arg1) (ix2 ⟨i.val / 4096, by omega⟩ ⟨i.val % 4096, by omega⟩) := by
  show V m c main_v0 _ = _
  entry_read
  pointwise
  blk_ext [idx t]

/-- The addend. -/
theorem b2 (c : Dev nD) (t : Fin cfg0.N) (i : Fin 16384) (k : Fin 5120) :
    iblk m c 2 t (ix2 i k) = m ((c : Thread nD τ).loc main_arg2) (ix2 i k) := by
  blk_ext [iblk, V, idx t]

/-- The weight, its two leading axes merged. -/
theorem b3 (c : Dev nD) (t : Fin cfg0.N) (k : Fin 5120) (j : Fin 5120) :
    iblk m c 3 t (ix2 k j) = m ((c : Thread nD τ).loc main_arg3) (ix3 ⟨k.val / 128, by omega⟩ ⟨k.val % 128, by omega⟩ j) := by
  show V m c main_v1 _ = _
  entry_read
  pointwise
  blk_ext [idx t]

/-- The weight's scales, a row. -/
theorem b4 (c : Dev nD) (t : Fin cfg0.N) (j : Fin 5120) :
    iblk m c 4 t (ix2 0 j) = m ((c : Thread nD τ).loc main_arg4) (ix1 j) := by
  show V m c main_v2 _ = _
  entry_read
  pointwise
  blk_ext [idx t]

/-- The result array after the run: the same function of the arguments as the kernel's. -/
theorem final (c : Dev nD) : (dats m 0 c).arrAt 5 cfg0.N
    = Cert.GlobalOutIdeal.Blocks.REF (m ((c : Thread nD τ).loc main_arg0)) (m ((c : Thread nD τ).loc main_arg1)) (m ((c : Thread nD τ).loc main_arg2))
        (m ((c : Thread nD τ).loc main_arg3)) (m ((c : Thread nD τ).loc main_arg4)) := by
  have h : (dats m 0 c).arrAt 5 cfg0.N = out0_5 (iblk m c 0 t0_0) (iblk m c 1 t0_0) (iblk m c 2 t0_0) (iblk m c 3 t0_0) (iblk m c 4 t0_0) := by
    refine (dats m 0 c).arrAt_eq_of_after_last 5 t0_0 (by decide +kernel) _ fun y => ?_
    blk_simp
    rw [after0_5]
    blk_ext [idx t0_0]
  rw [h]
  frame_out
  funext y
  obtain ⟨i, j, rfl⟩ : ∃ (i : Fin 16384) (j : Fin 5120), y = ix2 i j := ⟨y 0, y 1, by ext a; fin_cases a <;> rfl⟩
  rw [pay_at, b2, b1, b4]
  simp only [b0, b3]
  rfl

end Cert.GlobalOutMathIdeal.Blocks

end
-- ==== Proof.GlobalOutClaim.lean ====
/- The claims about the global output projection. -/
module

public import proofs.«01_k».proof.Defs
public import proofs.«01_k».proof.Proof.Gen.GlobalOut.Frame
public import proofs.«01_k».proof.Proof.GlobalOutArray
public import proofs.«01_k».proof.Proof.GlobalOutMath
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Over the reals the global output projection and its plain statement leave the same array. -/
theorem global_out : algebraic_GlobalOutIdeal_GlobalOutMathIdeal (hGlobalOutIdeal := Cert.GlobalOutIdeal.Gen.facts) (hGlobalOutMathIdeal := Cert.GlobalOutMathIdeal.Gen.facts) := by
  intro m g m' g' _ hagree
  refine ⟨fun c => (Cert.GlobalOutIdeal.Gen.dats m 0 c).arrAt 5 Cert.GlobalOutIdeal.cfg0.N,
    (θ_run _ _ _).mono (fun r h c => h c) (Cert.GlobalOutIdeal.Value.run_blocks m g),
    (θ_run _ _ _).mono (fun r h c => ⟨(h c).1.trans ((Cert.GlobalOutMathIdeal.Blocks.final m' c).trans ?_), (h c).2⟩) (Cert.GlobalOutMathIdeal.Value.run_blocks m' g')⟩
  obtain ⟨h0, h1, h2, h3, h4⟩ := hagree c
  rw [h0, h1, h2, h3, h4]
  exact (Cert.GlobalOutIdeal.Blocks.final m c).symm

end Cert.Proof

end
-- ==== Proof.Common.lean ====
/- Scalar functions that the statements about several calls share: the quantiser, a projection's column range. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Common

/-- The largest magnitude among the values `f`. -/
def AMAX {n : ℕ} (f : Fin n → EReal) : EReal :=
  Finset.fold max (Ideal.ofBits .f32 0xFF800000#32) (fun x => FloatOps.absf (F := Ideal) (φ := .f32) (f x)) Finset.univ

/-- The quantiser's scale of the values `f`: their largest magnitude over 448, or 1 where that's 0. -/
def SC {n : ℕ} (f : Fin n → EReal) : EReal :=
  if AMAX f = 0 then 1 else Ideal.div (AMAX f) (Ideal.ofBits .f32 0x43E00000#32)

/-- The quantiser's code of a value `v` at scale `s`: `v / s` kept within ±448. -/
def CODE (s v : EReal) : EReal :=
  min (Ideal.ofBits .f32 0x43E00000#32) (max (Ideal.ofBits .f32 0xC3E00000#32) (Ideal.div v s))

/-- Columns `o` to `o + 1024` of a projection's rows. -/
def PL {R : ℕ} (o : ℕ) (ho : o + 1024 ≤ 7168) (T : Fin R → Fin 7168 → EReal) (i : Fin R) (j : Fin 1024) : EReal :=
  T i ⟨o + j.val, by omega⟩

/-- The scale of head `h` among those columns, 128 to a head. -/
def PS {R : ℕ} (o : ℕ) (ho : o + 1024 ≤ 7168) (T : Fin R → Fin 7168 → EReal) (i : Fin R) (h : Fin 8) : EReal :=
  SC fun l : Fin 128 => T i ⟨o + h.val * 128 + l.val, by omega⟩

/-- The codes of those columns, each head at its scale. -/
def PC {R : ℕ} (o : ℕ) (ho : o + 1024 ≤ 7168) (T : Fin R → Fin 7168 → EReal) (i : Fin R) (j : Fin 1024) : EReal :=
  CODE (PS o ho T i ⟨j.val / 128, by omega⟩) (PL o ho T i j)

/-- Two projections agreeing on a row have the same columns there. -/
theorem PL_congr {R R' : ℕ} (o : ℕ) (ho : o + 1024 ≤ 7168) {T : Fin R → Fin 7168 → EReal} {T' : Fin R' → Fin 7168 → EReal} {i : Fin R} {r : Fin R'}
    (h : T i = T' r) (j : Fin 1024) : PL o ho T i j = PL o ho T' r j := by
  unfold PL
  rw [h]

/-- Two projections agreeing on a row have the same scales there. -/
theorem PS_congr {R R' : ℕ} (o : ℕ) (ho : o + 1024 ≤ 7168) {T : Fin R → Fin 7168 → EReal} {T' : Fin R' → Fin 7168 → EReal} {i : Fin R} {r : Fin R'}
    (h : T i = T' r) (n : Fin 8) : PS o ho T i n = PS o ho T' r n := by
  unfold PS
  rw [h]

/-- Two projections agreeing on a row have the same codes there. -/
theorem PC_congr {R R' : ℕ} (o : ℕ) (ho : o + 1024 ≤ 7168) {T : Fin R → Fin 7168 → EReal} {T' : Fin R' → Fin 7168 → EReal} {i : Fin R} {r : Fin R'}
    (h : T i = T' r) (j : Fin 1024) : PC o ho T i j = PC o ho T' r j := by
  unfold PC
  rw [PS_congr o ho h, PL_congr o ho h]

end Cert.Common

end
-- ==== Proof.GlobalQkvTiles.lean ====
/- What the global query/key/value projection leaves in its blocks, over the reals, as functions of its input blocks. -/
module

public import proofs.«01_k».proof.Proof.Gen.GlobalQkvIdeal.Value
public import proofs.«01_k».proof.Proof.Common

@[expose] public section

set_option maxRecDepth 16384

noncomputable section

open Idealize.ShloMosaic Idealize.ShloMosaic.TcCoe Idealize.SL.Sem
open Idealize.ShloMosaic.Pipeline (Dat)
open Cert.Common

namespace Cert.GlobalQkvIdeal.Blocks

open Cert.GlobalQkvIdeal Cert.GlobalQkvIdeal.Gen

/-- A row of the projection: `(codes · w) · row scale · column scale`. -/
def T (x0 : Vec Ideal S256x5120 .fp8e4m3) (x1 : Vec Ideal S1x1x256 .f32) (x3 : Vec Ideal S5120x7168 .fp8e4m3)
    (x4 : Vec Ideal S1x7168 .f32) (i : Fin 256) (j : Fin 7168) : EReal :=
  (∑ k : Fin 5120, x0 (ix2 i k) * x3 (ix2 k j)) * x1 (ix3 0 0 i) * x4 (ix2 0 j)

/-- The same with the row scale times the row's temperature. -/
def TQ (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (i : Fin 256) (j : Fin 7168) : EReal :=
  (∑ k : Fin 5120, x0 (ix2 i k) * x3 (ix2 k j)) * (x1 (ix3 0 0 i) * x2 (ix3 0 0 i)) * x4 (ix2 0 j)

/-- The 128 columns of `f` from `off` on, as a tile. -/
def tileOf (f : Fin 256 → Fin 7168 → EReal) (off : ℕ) (h : off + 128 ≤ 7168) : FVec Ideal S256x128 .f32 :=
  fun y => f (y 0) ⟨off + (y 1).val, by have : (y 1).val < 128 := (y 1).isLt; omega⟩

/-- `tileOf` at one index. -/
theorem tileOf_at (f : Fin 256 → Fin 7168 → EReal) (off : ℕ) (h : off + 128 ≤ 7168) (i : Fin 256) (j : Fin 128) :
    tileOf f off h (ix2 i j) = f i ⟨off + j.val, by omega⟩ := rfl

/-- A left half of a chunk of 256 columns. -/
theorem lo_at (s : Vec Ideal S1x1x256 .f32) (a : Vec Ideal S256x5120 .fp8e4m3) (w : Vec Ideal S5120x256 .fp8e4m3)
    (ws : Vec Ideal S1x128 .f32) (i : Fin 256) (j : Fin 128) :
    k0_pay114 (k0_pay2 s) a w ws (ix2 i j) = (∑ k : Fin 5120, a (ix2 i k) * w (ix2 k ⟨j.val, by omega⟩)) * s (ix3 0 0 i) * ws (ix2 0 j) := by
  pointwise [k0_pay114, k0_pay121, k0_pay113, k0_pay66, k0_pay65, k0_pay71, k0_pay69, k0_pay3, k0_pay2]
  first | done | blk_point

/-- A right half of a chunk of 256 columns. -/
theorem hi_at (s : Vec Ideal S1x1x256 .f32) (a : Vec Ideal S256x5120 .fp8e4m3) (w : Vec Ideal S5120x256 .fp8e4m3)
    (ws : Vec Ideal S1x128 .f32) (i : Fin 256) (j : Fin 128) :
    k0_pay121 (k0_pay2 s) (k0_pay113 a w) ws (ix2 i j) = (∑ k : Fin 5120, a (ix2 i k) * w (ix2 k ⟨128 + j.val, by omega⟩)) * s (ix3 0 0 i) * ws (ix2 0 j) := by
  pointwise [k0_pay114, k0_pay121, k0_pay113, k0_pay66, k0_pay65, k0_pay71, k0_pay69, k0_pay3, k0_pay2]
  first | done | blk_point

/-- A left half of a chunk of 256 columns of the queries. -/
theorem loq_at (s : Vec Ideal S1x1x256 .f32) (u : Vec Ideal S1x1x256 .f32) (a : Vec Ideal S256x5120 .fp8e4m3) (w : Vec Ideal S5120x256 .fp8e4m3)
    (ws : Vec Ideal S1x128 .f32) (i : Fin 256) (j : Fin 128) :
    k0_pay114 (k0_pay3 s u) a w ws (ix2 i j) = (∑ k : Fin 5120, a (ix2 i k) * w (ix2 k ⟨j.val, by omega⟩)) * (s (ix3 0 0 i) * u (ix3 0 0 i)) * ws (ix2 0 j) := by
  pointwise [k0_pay114, k0_pay121, k0_pay113, k0_pay66, k0_pay65, k0_pay71, k0_pay69, k0_pay3, k0_pay2]
  first | done | blk_point

/-- A right half of a chunk of 256 columns of the queries. -/
theorem hiq_at (s : Vec Ideal S1x1x256 .f32) (u : Vec Ideal S1x1x256 .f32) (a : Vec Ideal S256x5120 .fp8e4m3) (w : Vec Ideal S5120x256 .fp8e4m3)
    (ws : Vec Ideal S1x128 .f32) (i : Fin 256) (j : Fin 128) :
    k0_pay121 (k0_pay3 s u) (k0_pay113 a w) ws (ix2 i j) = (∑ k : Fin 5120, a (ix2 i k) * w (ix2 k ⟨128 + j.val, by omega⟩)) * (s (ix3 0 0 i) * u (ix3 0 0 i)) * ws (ix2 0 j) := by
  pointwise [k0_pay114, k0_pay121, k0_pay113, k0_pay66, k0_pay65, k0_pay71, k0_pay69, k0_pay3, k0_pay2]
  first | done | blk_point

/-- The left half of the chunk at column `off`, from the blocks. -/
theorem tile_lo (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    k0_pay114 (k0_pay2 (View.ld x1 r0_0)) (View.ld x0 r0_1) (View.ld x3 (Rect.unit (s := S5120x7168) ![0, off] S5120x256.size hw)) (View.ld x4 (Rect.unit (s := S1x7168) ![0, off'] S1x128.size hs))
    = tileOf (T x0 x1 x3 x4) off' h := by
  subst ho
  funext y
  obtain ⟨i, j, rfl⟩ : ∃ (i : Fin 256) (j : Fin 128), y = ix2 i j := ⟨y 0, y 1, by ext a; fin_cases a <;> rfl⟩
  rw [lo_at, tileOf_at]
  unfold T
  blk_point
  all_goals
    refine View.ld_unit_apply_of _ _ _ _ _ _ fun a => ?_
    fin_cases a <;> simp [ix2, ix3, Rect.emb_apply, Rect.unit] <;> omega

/-- The right half of the chunk at column `off`, from the blocks. -/
theorem tile_hi (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    k0_pay121 (k0_pay2 (View.ld x1 r0_0)) (k0_pay113 (View.ld x0 r0_1) (View.ld x3 (Rect.unit (s := S5120x7168) ![0, off] S5120x256.size hw))) (View.ld x4 (Rect.unit (s := S1x7168) ![0, off'] S1x128.size hs))
    = tileOf (T x0 x1 x3 x4) off' h := by
  subst ho
  funext y
  obtain ⟨i, j, rfl⟩ : ∃ (i : Fin 256) (j : Fin 128), y = ix2 i j := ⟨y 0, y 1, by ext a; fin_cases a <;> rfl⟩
  rw [hi_at, tileOf_at]
  unfold T
  blk_point
  all_goals
    refine View.ld_unit_apply_of _ _ _ _ _ _ fun a => ?_
    fin_cases a <;> simp [ix2, ix3, Rect.emb_apply, Rect.unit] <;> omega

/-- The left half of the chunk at column `off` of the queries, from the blocks. -/
theorem tile_loq (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    k0_pay114 (k0_pay3 (View.ld x1 r0_0) (View.ld x2 r0_0)) (View.ld x0 r0_1) (View.ld x3 (Rect.unit (s := S5120x7168) ![0, off] S5120x256.size hw)) (View.ld x4 (Rect.unit (s := S1x7168) ![0, off'] S1x128.size hs))
    = tileOf (TQ x0 x1 x2 x3 x4) off' h := by
  subst ho
  funext y
  obtain ⟨i, j, rfl⟩ : ∃ (i : Fin 256) (j : Fin 128), y = ix2 i j := ⟨y 0, y 1, by ext a; fin_cases a <;> rfl⟩
  rw [loq_at, tileOf_at]
  unfold TQ
  blk_point
  all_goals
    refine View.ld_unit_apply_of _ _ _ _ _ _ fun a => ?_
    fin_cases a <;> simp [ix2, ix3, Rect.emb_apply, Rect.unit] <;> omega

/-- The right half of the chunk at column `off` of the queries, from the blocks. -/
theorem tile_hiq (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    k0_pay121 (k0_pay3 (View.ld x1 r0_0) (View.ld x2 r0_0)) (k0_pay113 (View.ld x0 r0_1) (View.ld x3 (Rect.unit (s := S5120x7168) ![0, off] S5120x256.size hw))) (View.ld x4 (Rect.unit (s := S1x7168) ![0, off'] S1x128.size hs))
    = tileOf (TQ x0 x1 x2 x3 x4) off' h := by
  subst ho
  funext y
  obtain ⟨i, j, rfl⟩ : ∃ (i : Fin 256) (j : Fin 128), y = ix2 i j := ⟨y 0, y 1, by ext a; fin_cases a <;> rfl⟩
  rw [hiq_at, tileOf_at]
  unfold TQ
  blk_point
  all_goals
    refine View.ld_unit_apply_of _ _ _ _ _ _ fun a => ?_
    fin_cases a <;> simp [ix2, ix3, Rect.emb_apply, Rect.unit] <;> omega

/-- The scale column of a tile. -/
theorem sc_at (t : FVec Ideal S256x128 .f32) (i : Fin 256) : k0_pay109 t (ix2 i 0) = SC fun l : Fin 128 => t (ix2 i l) := by
  pointwise [k0_pay109]
  rfl

/-- A tile's codes. -/
theorem code_at (t : FVec Ideal S256x128 .f32) (i : Fin 256) (j : Fin 128) :
    k0_pay110 t (ix2 i j) = CODE (SC fun l : Fin 128 => t (ix2 i l)) (t (ix2 i j)) := by
  rw [← sc_at]
  pointwise [k0_pay110]
  rfl

/-- A tile of the queries, turned. -/
theorem q_at (t : FVec Ideal S256x128 .f32) (i : Fin 256) (j : Fin 128) : k0_pay72 t (ix5 0 0 0 j i) = t (ix2 i j) := by
  pointwise [k0_pay72]

/-- A tile of the keys. -/
theorem k_at (t : FVec Ideal S256x128 .f32) (i : Fin 256) (j : Fin 128) : k0_pay112 t (ix2 i j) = t (ix2 i j) := by
  pointwise [k0_pay112]

/-- A tile of the values, turned. -/
theorem v_at (t : FVec Ideal S256x128 .f32) (i : Fin 256) (j : Fin 128) : k0_pay161 t (ix4 0 0 j i) = t (ix2 i j) := by
  pointwise [k0_pay161]

/-- Lane `n` of the scales set to a tile's scale column, the other lanes kept. -/
def SEL (n : BitVec 32) (prev t : FVec Ideal S256x128 .f32) : FVec Ideal S256x128 .f32 :=
  select (cmpi .eq (iota .tc S256x128 32 [1] iota_S256x128_d1_w32) (broadcast S256x128 n))
    (broadcastTo S256x128 (shapeCast S256x1 (k0_pay109 t) shapeCasts_S256x1_S256x1) broadcasts_S256x1_S256x128) prev

/-- `SEL` at one index. -/
theorem sel_at (n : ℕ) (hn : n < 128) (prev t : FVec Ideal S256x128 .f32) (i : Fin 256) (j : Fin 128) :
    SEL (BitVec.ofNat 32 n) prev t (ix2 i j) = if j.val = n then SC (fun l : Fin 128 => t (ix2 i l)) else prev (ix2 i j) := by
  rw [← sc_at]
  have e : IntOp.cmpi .eq (BitVec.ofNat 32 j.val) (BitVec.ofNat 32 n) = BitVec.ofBool (decide (j.val = n)) :=
    WordCmp.cmpi_eq_ofNat (by have := j.isLt; norm_num; omega) (by norm_num; omega)
  pointwise [SEL]
  rw [e]
  unfold Scalar.select
  by_cases hj : j.val = n <;> simp [hj]

/-- Stored at head `n`, a turned tile of the queries is the queries' block there. -/
theorem q_piece (f : Fin 256 → Fin 7168 → EReal) (off n : ℕ) (hn : off = 128 * n) (h : off + 128 ≤ 7168)
    (hh : ∀ a, (![0, 0, n, 0, 0] : Fin 5 → ℕ) a + S1x1x1x128x256.size a ≤ S1x1x40x128x256.size a) (x : S1x1x1x128x256.Idx) :
    k0_pay72 (tileOf f off h) x
    = (fun y : S1x1x40x128x256.Idx => f (y 4) ⟨128 * (y 2).val + (y 3).val, by have : (y 2).val < 40 := (y 2).isLt; have : (y 3).val < 128 := (y 3).isLt; omega⟩)
        ((Rect.unit (s := S1x1x40x128x256) ![0, 0, n, 0, 0] S1x1x1x128x256.size hh).emb x) := by
  subst hn
  obtain ⟨i, j, rfl⟩ : ∃ (j : Fin 128) (i : Fin 256), x = ix5 0 0 0 j i :=
    ⟨x 3, x 4, by ext a; fin_cases a <;> first | rfl | exact congrArg Fin.val (Subsingleton.elim (α := Fin 1) _ _)⟩
  have h2 := hh 2
  have he : (Rect.unit (s := S1x1x40x128x256) ![0, 0, n, 0, 0] S1x1x1x128x256.size hh).emb (ix5 0 0 0 i j) = ix5 0 0 ⟨n, by simp at h2; omega⟩ i j :=
    funext fun a => Fin.ext (by
      refine (Rect.idx_unit_val _ _ _ _ _).trans ?_
      fin_cases a <;> simp [ix5])
  rw [he, q_at, tileOf_at]
  rfl

/-- Stored at column `m`, a tile is the block of the columns from `o` on. -/
theorem k_piece (T : Fin 256 → Fin 7168 → EReal) (o : ℕ) (ho : o + 1024 ≤ 7168) (off m : ℕ) (hm : off = o + m) (h : off + 128 ≤ 7168)
    (hh : ∀ a, (![0, m] : Fin 2 → ℕ) a + S256x128.size a ≤ S256x1024.size a) (x : S256x128.Idx) :
    k0_pay112 (tileOf T off h) x
    = (fun y : S256x1024.Idx => PL o ho T (y 0) (y 1)) ((Rect.unit (s := S256x1024) ![0, m] S256x128.size hh).emb x) := by
  subst hm
  obtain ⟨i, j, rfl⟩ : ∃ (i : Fin 256) (j : Fin 128), x = ix2 i j := ⟨x 0, x 1, by ext a; fin_cases a <;> rfl⟩
  have h1 := hh 1
  have he : (Rect.unit (s := S256x1024) ![0, m] S256x128.size hh).emb (ix2 i j) = ix2 i ⟨m + j.val, by have := j.isLt; simp at h1; omega⟩ :=
    funext fun a => Fin.ext (by
      refine (Rect.idx_unit_val _ _ _ _ _).trans ?_
      fin_cases a <;> simp [ix2])
  rw [he, k_at, tileOf_at]
  exact congrArg (T i) (Fin.ext (by show o + m + j.val = o + (m + j.val); omega))

/-- Stored at column `m`, a tile's codes are the block of the codes of the columns from `o` on. -/
theorem c_piece (T : Fin 256 → Fin 7168 → EReal) (o : ℕ) (ho : o + 1024 ≤ 7168) (off m : ℕ) (hm : off = o + m) (hd : m % 128 = 0) (h : off + 128 ≤ 7168)
    (hh : ∀ a, (![0, m] : Fin 2 → ℕ) a + S256x128.size a ≤ S256x1024.size a) (x : S256x128.Idx) :
    k0_pay110 (tileOf T off h) x
    = (fun y : S256x1024.Idx => PC o ho T (y 0) (y 1)) ((Rect.unit (s := S256x1024) ![0, m] S256x128.size hh).emb x) := by
  subst hm
  obtain ⟨i, j, rfl⟩ : ∃ (i : Fin 256) (j : Fin 128), x = ix2 i j := ⟨x 0, x 1, by ext a; fin_cases a <;> rfl⟩
  have h1 := hh 1
  have he : (Rect.unit (s := S256x1024) ![0, m] S256x128.size hh).emb (ix2 i j) = ix2 i ⟨m + j.val, by have := j.isLt; simp at h1; omega⟩ :=
    funext fun a => Fin.ext (by
      refine (Rect.idx_unit_val _ _ _ _ _).trans ?_
      fin_cases a <;> simp [ix2])
  rw [he, code_at]
  simp only [tileOf_at]
  show _ = CODE (SC fun l : Fin 128 => T i ⟨o + (m + j.val) / 128 * 128 + l.val, _⟩) (T i ⟨o + (m + j.val), _⟩)
  congr 1
  · congr 1
    funext l
    exact congrArg (T i) (Fin.ext (by show o + m + l.val = o + (m + j.val) / 128 * 128 + l.val; omega))
  · exact congrArg (T i) (Fin.ext (by show o + m + j.val = o + (m + j.val); omega))

/-- Stored at row `m`, a turned tile is the turned block of the columns from `o` on. -/
theorem v_piece (T : Fin 256 → Fin 7168 → EReal) (o : ℕ) (ho : o + 1024 ≤ 7168) (off m : ℕ) (hm : off = o + m) (h : off + 128 ≤ 7168)
    (hh : ∀ a, (![0, 0, m, 0] : Fin 4 → ℕ) a + S1x1x128x256.size a ≤ S1x1x1024x256.size a) (x : S1x1x128x256.Idx) :
    k0_pay161 (tileOf T off h) x
    = (fun y : S1x1x1024x256.Idx => PL o ho T (y 3) (y 2)) ((Rect.unit (s := S1x1x1024x256) ![0, 0, m, 0] S1x1x128x256.size hh).emb x) := by
  subst hm
  obtain ⟨i, j, rfl⟩ : ∃ (j : Fin 128) (i : Fin 256), x = ix4 0 0 j i :=
    ⟨x 2, x 3, by ext a; fin_cases a <;> first | rfl | exact congrArg Fin.val (Subsingleton.elim (α := Fin 1) _ _)⟩
  have h2 := hh 2
  have he : (Rect.unit (s := S1x1x1024x256) ![0, 0, m, 0] S1x1x128x256.size hh).emb (ix4 0 0 i j) = ix4 0 0 ⟨m + i.val, by have := i.isLt; simp at h2; omega⟩ j :=
    funext fun a => Fin.ext (by
      refine (Rect.idx_unit_val _ _ _ _ _).trans ?_
      fin_cases a <;> simp [ix4])
  rw [he, v_at, tileOf_at]
  exact congrArg (T j) (Fin.ext (by show o + m + i.val = o + (m + i.val); omega))

/-- The scales of eight tiles, one lane to a tile, are the scales of the columns from `o` on. -/
theorem s_block (T : Fin 256 → Fin 7168 → EReal) (o : ℕ) (ho : o + 1024 ≤ 7168) (i : Fin 256) (n : Fin 8) :
    k0_pay175 (SEL 7#32 (SEL 6#32 (SEL 5#32 (SEL 4#32 (SEL 3#32 (SEL 2#32 (SEL 1#32 (SEL 0#32 (k0_pay4 (F := Ideal))
      (tileOf T (o + 0) (by omega))) (tileOf T (o + 128) (by omega))) (tileOf T (o + 256) (by omega))) (tileOf T (o + 384) (by omega)))
      (tileOf T (o + 512) (by omega))) (tileOf T (o + 640) (by omega))) (tileOf T (o + 768) (by omega))) (tileOf T (o + 896) (by omega))) (ix2 i n)
    = PS o ho T i n := by
  have e : ∀ t : FVec Ideal S256x128 .f32, k0_pay175 t (ix2 i n) = t (ix2 i ⟨n.val, by omega⟩) := fun t => by pointwise [k0_pay175]
  rw [e, sel_at 7 (by norm_num), sel_at 6 (by norm_num), sel_at 5 (by norm_num), sel_at 4 (by norm_num), sel_at 3 (by norm_num), sel_at 2 (by norm_num),
    sel_at 1 (by norm_num), sel_at 0 (by norm_num)]
  simp only [tileOf_at]
  unfold PS
  fin_cases n <;> rfl

end Cert.GlobalQkvIdeal.Blocks

end
-- ==== Proof.GlobalQkvBlocks.lean ====
/- The seven result blocks of the global query/key/value projection as functions of its input blocks, over the reals. -/
module

public import proofs.«01_k».proof.Proof.GlobalQkvTiles

@[expose] public section

set_option maxRecDepth 16384

noncomputable section

open Idealize.ShloMosaic Idealize.ShloMosaic.TcCoe Idealize.SL.Sem
open Idealize.ShloMosaic.Pipeline (Dat)
open Cert.Common

namespace Cert.GlobalQkvIdeal.Blocks

open Cert.GlobalQkvIdeal Cert.GlobalQkvIdeal.Gen

/-- A stored left half chunk (q), from the blocks. -/
theorem q_lo (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (n : ℕ) (hn : off' = 128 * n) (hh : ∀ a, (![0, 0, n, 0, 0] : Fin 5 → ℕ) a + S1x1x1x128x256.size a ≤ S1x1x40x128x256.size a) (x : S1x1x1x128x256.Idx) :
    k0_pay72 (k0_pay114 (k0_pay3 (View.ld x1 r0_0) (View.ld x2 r0_0)) (View.ld x0 r0_1) (View.ld x3 (Rect.unit (s := S5120x7168) ![0, off] S5120x256.size hw)) (View.ld x4 (Rect.unit (s := S1x7168) ![0, off'] S1x128.size hs))) x
    = (fun y : S1x1x40x128x256.Idx => TQ x0 x1 x2 x3 x4 (y 4) ⟨128 * (y 2).val + (y 3).val, by have : (y 2).val < 40 := (y 2).isLt; have : (y 3).val < 128 := (y 3).isLt; omega⟩) ((Rect.unit (s := S1x1x40x128x256) ![0, 0, n, 0, 0] S1x1x1x128x256.size hh).emb x) := by
  rw [tile_loq x0 x1 x2 x3 x4 off off' ho hw hs h]
  exact q_piece _ _ n hn _ hh x

/-- A stored left half chunk (k), from the blocks. -/
theorem k_lo (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hd : m % 128 = 0) (hh : ∀ a, (![0, m] : Fin 2 → ℕ) a + S256x128.size a ≤ S256x1024.size a) (x : S256x128.Idx) :
    k0_pay112 (k0_pay114 (k0_pay2 (View.ld x1 r0_0)) (View.ld x0 r0_1) (View.ld x3 (Rect.unit (s := S5120x7168) ![0, off] S5120x256.size hw)) (View.ld x4 (Rect.unit (s := S1x7168) ![0, off'] S1x128.size hs))) x
    = (fun y : S256x1024.Idx => PL o hO (T x0 x1 x3 x4) (y 0) (y 1)) ((Rect.unit (s := S256x1024) ![0, m] S256x128.size hh).emb x) := by
  rw [tile_lo x0 x1 x2 x3 x4 off off' ho hw hs h]
  exact k_piece _ o hO _ m hm _ hh x

/-- A stored left half chunk (c), from the blocks. -/
theorem c_lo (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hd : m % 128 = 0) (hh : ∀ a, (![0, m] : Fin 2 → ℕ) a + S256x128.size a ≤ S256x1024.size a) (x : S256x128.Idx) :
    k0_pay110 (k0_pay114 (k0_pay2 (View.ld x1 r0_0)) (View.ld x0 r0_1) (View.ld x3 (Rect.unit (s := S5120x7168) ![0, off] S5120x256.size hw)) (View.ld x4 (Rect.unit (s := S1x7168) ![0, off'] S1x128.size hs))) x
    = (fun y : S256x1024.Idx => PC o hO (T x0 x1 x3 x4) (y 0) (y 1)) ((Rect.unit (s := S256x1024) ![0, m] S256x128.size hh).emb x) := by
  rw [tile_lo x0 x1 x2 x3 x4 off off' ho hw hs h]
  exact c_piece _ o hO _ m hm hd _ hh x

/-- A stored left half chunk (v), from the blocks. -/
theorem v_lo (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hh : ∀ a, (![0, 0, m, 0] : Fin 4 → ℕ) a + S1x1x128x256.size a ≤ S1x1x1024x256.size a) (x : S1x1x128x256.Idx) :
    k0_pay161 (k0_pay114 (k0_pay2 (View.ld x1 r0_0)) (View.ld x0 r0_1) (View.ld x3 (Rect.unit (s := S5120x7168) ![0, off] S5120x256.size hw)) (View.ld x4 (Rect.unit (s := S1x7168) ![0, off'] S1x128.size hs))) x
    = (fun y : S1x1x1024x256.Idx => PL o hO (T x0 x1 x3 x4) (y 3) (y 2)) ((Rect.unit (s := S1x1x1024x256) ![0, 0, m, 0] S1x1x128x256.size hh).emb x) := by
  rw [tile_lo x0 x1 x2 x3 x4 off off' ho hw hs h]
  exact v_piece _ o hO _ m hm _ hh x

/-- A stored right half chunk (q), from the blocks. -/
theorem q_hi (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (n : ℕ) (hn : off' = 128 * n) (hh : ∀ a, (![0, 0, n, 0, 0] : Fin 5 → ℕ) a + S1x1x1x128x256.size a ≤ S1x1x40x128x256.size a) (x : S1x1x1x128x256.Idx) :
    k0_pay72 (k0_pay121 (k0_pay3 (View.ld x1 r0_0) (View.ld x2 r0_0)) (k0_pay113 (View.ld x0 r0_1) (View.ld x3 (Rect.unit (s := S5120x7168) ![0, off] S5120x256.size hw))) (View.ld x4 (Rect.unit (s := S1x7168) ![0, off'] S1x128.size hs))) x
    = (fun y : S1x1x40x128x256.Idx => TQ x0 x1 x2 x3 x4 (y 4) ⟨128 * (y 2).val + (y 3).val, by have : (y 2).val < 40 := (y 2).isLt; have : (y 3).val < 128 := (y 3).isLt; omega⟩) ((Rect.unit (s := S1x1x40x128x256) ![0, 0, n, 0, 0] S1x1x1x128x256.size hh).emb x) := by
  rw [tile_hiq x0 x1 x2 x3 x4 off off' ho hw hs h]
  exact q_piece _ _ n hn _ hh x

/-- A stored right half chunk (k), from the blocks. -/
theorem k_hi (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hd : m % 128 = 0) (hh : ∀ a, (![0, m] : Fin 2 → ℕ) a + S256x128.size a ≤ S256x1024.size a) (x : S256x128.Idx) :
    k0_pay112 (k0_pay121 (k0_pay2 (View.ld x1 r0_0)) (k0_pay113 (View.ld x0 r0_1) (View.ld x3 (Rect.unit (s := S5120x7168) ![0, off] S5120x256.size hw))) (View.ld x4 (Rect.unit (s := S1x7168) ![0, off'] S1x128.size hs))) x
    = (fun y : S256x1024.Idx => PL o hO (T x0 x1 x3 x4) (y 0) (y 1)) ((Rect.unit (s := S256x1024) ![0, m] S256x128.size hh).emb x) := by
  rw [tile_hi x0 x1 x2 x3 x4 off off' ho hw hs h]
  exact k_piece _ o hO _ m hm _ hh x

/-- A stored right half chunk (c), from the blocks. -/
theorem c_hi (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hd : m % 128 = 0) (hh : ∀ a, (![0, m] : Fin 2 → ℕ) a + S256x128.size a ≤ S256x1024.size a) (x : S256x128.Idx) :
    k0_pay110 (k0_pay121 (k0_pay2 (View.ld x1 r0_0)) (k0_pay113 (View.ld x0 r0_1) (View.ld x3 (Rect.unit (s := S5120x7168) ![0, off] S5120x256.size hw))) (View.ld x4 (Rect.unit (s := S1x7168) ![0, off'] S1x128.size hs))) x
    = (fun y : S256x1024.Idx => PC o hO (T x0 x1 x3 x4) (y 0) (y 1)) ((Rect.unit (s := S256x1024) ![0, m] S256x128.size hh).emb x) := by
  rw [tile_hi x0 x1 x2 x3 x4 off off' ho hw hs h]
  exact c_piece _ o hO _ m hm hd _ hh x

/-- A stored right half chunk (v), from the blocks. -/
theorem v_hi (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (off off' : ℕ) (ho : off' = off + 128)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (o : ℕ) (hO : o + 1024 ≤ 7168) (m : ℕ) (hm : off' = o + m) (hh : ∀ a, (![0, 0, m, 0] : Fin 4 → ℕ) a + S1x1x128x256.size a ≤ S1x1x1024x256.size a) (x : S1x1x128x256.Idx) :
    k0_pay161 (k0_pay121 (k0_pay2 (View.ld x1 r0_0)) (k0_pay113 (View.ld x0 r0_1) (View.ld x3 (Rect.unit (s := S5120x7168) ![0, off] S5120x256.size hw))) (View.ld x4 (Rect.unit (s := S1x7168) ![0, off'] S1x128.size hs))) x
    = (fun y : S1x1x1024x256.Idx => PL o hO (T x0 x1 x3 x4) (y 3) (y 2)) ((Rect.unit (s := S1x1x1024x256) ![0, 0, m, 0] S1x1x128x256.size hh).emb x) := by
  rw [tile_hi x0 x1 x2 x3 x4 off off' ho hw hs h]
  exact v_piece _ o hO _ m hm _ hh x

/-- Result window 5's block. -/
def B5 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S1x1x40x128x256 .bf16 :=
  (fun y : S1x1x40x128x256.Idx => TQ x0 x1 x2 x3 x4 (y 4) ⟨128 * (y 2).val + (y 3).val, by have : (y 2).val < 40 := (y 2).isLt; have : (y 3).val < 128 := (y 3).isLt; omega⟩)

set_option maxHeartbeats 4000000 in
/-- Result window 5's block after the body. -/
theorem out5 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S1x1x40x128x256.Idx) :
    out0_5 x0 x1 x2 x3 x4 y = B5 x0 x1 x2 x3 x4 y := by
  unfold out0_5
  refine View.canon_apply_of_pieces (B5 x0 x1 x2 x3 x4) _ ?_ y (cover0_5 _ _ _ _ _ _ _ _ _ _ _ _ _ _ _ _ _ _ _ _ _ _ _ _ _ _ _ _ _ _ _ _ _ _ _ _ _ _ _ _ y)
  simp only [List.forall_mem_cons]
  exact ⟨q_hi x0 x1 x2 x3 x4 4864 4992 rfl _ _ (by norm_num) 39 rfl _,
    q_lo x0 x1 x2 x3 x4 4864 4864 rfl _ _ (by norm_num) 38 rfl _,
    q_hi x0 x1 x2 x3 x4 4608 4736 rfl _ _ (by norm_num) 37 rfl _,
    q_lo x0 x1 x2 x3 x4 4608 4608 rfl _ _ (by norm_num) 36 rfl _,
    q_hi x0 x1 x2 x3 x4 4352 4480 rfl _ _ (by norm_num) 35 rfl _,
    q_lo x0 x1 x2 x3 x4 4352 4352 rfl _ _ (by norm_num) 34 rfl _,
    q_hi x0 x1 x2 x3 x4 4096 4224 rfl _ _ (by norm_num) 33 rfl _,
    q_lo x0 x1 x2 x3 x4 4096 4096 rfl _ _ (by norm_num) 32 rfl _,
    q_hi x0 x1 x2 x3 x4 3840 3968 rfl _ _ (by norm_num) 31 rfl _,
    q_lo x0 x1 x2 x3 x4 3840 3840 rfl _ _ (by norm_num) 30 rfl _,
    q_hi x0 x1 x2 x3 x4 3584 3712 rfl _ _ (by norm_num) 29 rfl _,
    q_lo x0 x1 x2 x3 x4 3584 3584 rfl _ _ (by norm_num) 28 rfl _,
    q_hi x0 x1 x2 x3 x4 3328 3456 rfl _ _ (by norm_num) 27 rfl _,
    q_lo x0 x1 x2 x3 x4 3328 3328 rfl _ _ (by norm_num) 26 rfl _,
    q_hi x0 x1 x2 x3 x4 3072 3200 rfl _ _ (by norm_num) 25 rfl _,
    q_lo x0 x1 x2 x3 x4 3072 3072 rfl _ _ (by norm_num) 24 rfl _,
    q_hi x0 x1 x2 x3 x4 2816 2944 rfl _ _ (by norm_num) 23 rfl _,
    q_lo x0 x1 x2 x3 x4 2816 2816 rfl _ _ (by norm_num) 22 rfl _,
    q_hi x0 x1 x2 x3 x4 2560 2688 rfl _ _ (by norm_num) 21 rfl _,
    q_lo x0 x1 x2 x3 x4 2560 2560 rfl _ _ (by norm_num) 20 rfl _,
    q_hi x0 x1 x2 x3 x4 2304 2432 rfl _ _ (by norm_num) 19 rfl _,
    q_lo x0 x1 x2 x3 x4 2304 2304 rfl _ _ (by norm_num) 18 rfl _,
    q_hi x0 x1 x2 x3 x4 2048 2176 rfl _ _ (by norm_num) 17 rfl _,
    q_lo x0 x1 x2 x3 x4 2048 2048 rfl _ _ (by norm_num) 16 rfl _,
    q_hi x0 x1 x2 x3 x4 1792 1920 rfl _ _ (by norm_num) 15 rfl _,
    q_lo x0 x1 x2 x3 x4 1792 1792 rfl _ _ (by norm_num) 14 rfl _,
    q_hi x0 x1 x2 x3 x4 1536 1664 rfl _ _ (by norm_num) 13 rfl _,
    q_lo x0 x1 x2 x3 x4 1536 1536 rfl _ _ (by norm_num) 12 rfl _,
    q_hi x0 x1 x2 x3 x4 1280 1408 rfl _ _ (by norm_num) 11 rfl _,
    q_lo x0 x1 x2 x3 x4 1280 1280 rfl _ _ (by norm_num) 10 rfl _,
    q_hi x0 x1 x2 x3 x4 1024 1152 rfl _ _ (by norm_num) 9 rfl _,
    q_lo x0 x1 x2 x3 x4 1024 1024 rfl _ _ (by norm_num) 8 rfl _,
    q_hi x0 x1 x2 x3 x4 768 896 rfl _ _ (by norm_num) 7 rfl _,
    q_lo x0 x1 x2 x3 x4 768 768 rfl _ _ (by norm_num) 6 rfl _,
    q_hi x0 x1 x2 x3 x4 512 640 rfl _ _ (by norm_num) 5 rfl _,
    q_lo x0 x1 x2 x3 x4 512 512 rfl _ _ (by norm_num) 4 rfl _,
    q_hi x0 x1 x2 x3 x4 256 384 rfl _ _ (by norm_num) 3 rfl _,
    q_lo x0 x1 x2 x3 x4 256 256 rfl _ _ (by norm_num) 2 rfl _,
    q_hi x0 x1 x2 x3 x4 0 128 rfl _ _ (by norm_num) 1 rfl _,
    q_lo x0 x1 x2 x3 x4 0 0 rfl _ _ (by norm_num) 0 rfl _,
    fun _ h => absurd h List.not_mem_nil⟩

/-- Result window 6's block. -/
def B6 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S256x1024 .bf16 :=
  (fun y : S256x1024.Idx => PL 5120 (by norm_num) (T x0 x1 x3 x4) (y 0) (y 1))

set_option maxHeartbeats 4000000 in
/-- Result window 6's block after the body. -/
theorem out6 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S256x1024.Idx) :
    out0_6 x0 x1 x2 x3 x4 y = B6 x0 x1 x2 x3 x4 y := by
  unfold out0_6
  refine View.canon_apply_of_pieces (B6 x0 x1 x2 x3 x4) _ ?_ y (cover0_6 _ _ _ _ _ _ _ _ y)
  simp only [List.forall_mem_cons]
  exact ⟨k_hi x0 x1 x2 x3 x4 5888 6016 rfl _ _ (by norm_num) 5120 (by norm_num) 896 rfl rfl _,
    k_lo x0 x1 x2 x3 x4 5888 5888 rfl _ _ (by norm_num) 5120 (by norm_num) 768 rfl rfl _,
    k_hi x0 x1 x2 x3 x4 5632 5760 rfl _ _ (by norm_num) 5120 (by norm_num) 640 rfl rfl _,
    k_lo x0 x1 x2 x3 x4 5632 5632 rfl _ _ (by norm_num) 5120 (by norm_num) 512 rfl rfl _,
    k_hi x0 x1 x2 x3 x4 5376 5504 rfl _ _ (by norm_num) 5120 (by norm_num) 384 rfl rfl _,
    k_lo x0 x1 x2 x3 x4 5376 5376 rfl _ _ (by norm_num) 5120 (by norm_num) 256 rfl rfl _,
    k_hi x0 x1 x2 x3 x4 5120 5248 rfl _ _ (by norm_num) 5120 (by norm_num) 128 rfl rfl _,
    k_lo x0 x1 x2 x3 x4 5120 5120 rfl _ _ (by norm_num) 5120 (by norm_num) 0 rfl rfl _,
    fun _ h => absurd h List.not_mem_nil⟩

/-- Result window 7's block. -/
def B7 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S256x1024 .fp8e4m3 :=
  (fun y : S256x1024.Idx => PC 5120 (by norm_num) (T x0 x1 x3 x4) (y 0) (y 1))

set_option maxHeartbeats 4000000 in
/-- Result window 7's block after the body. -/
theorem out7 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S256x1024.Idx) :
    out0_7 x0 x1 x2 x3 x4 y = B7 x0 x1 x2 x3 x4 y := by
  unfold out0_7
  refine View.canon_apply_of_pieces (B7 x0 x1 x2 x3 x4) _ ?_ y (cover0_7 _ _ _ _ _ _ _ _ y)
  simp only [List.forall_mem_cons]
  exact ⟨c_hi x0 x1 x2 x3 x4 5888 6016 rfl _ _ (by norm_num) 5120 (by norm_num) 896 rfl rfl _,
    c_lo x0 x1 x2 x3 x4 5888 5888 rfl _ _ (by norm_num) 5120 (by norm_num) 768 rfl rfl _,
    c_hi x0 x1 x2 x3 x4 5632 5760 rfl _ _ (by norm_num) 5120 (by norm_num) 640 rfl rfl _,
    c_lo x0 x1 x2 x3 x4 5632 5632 rfl _ _ (by norm_num) 5120 (by norm_num) 512 rfl rfl _,
    c_hi x0 x1 x2 x3 x4 5376 5504 rfl _ _ (by norm_num) 5120 (by norm_num) 384 rfl rfl _,
    c_lo x0 x1 x2 x3 x4 5376 5376 rfl _ _ (by norm_num) 5120 (by norm_num) 256 rfl rfl _,
    c_hi x0 x1 x2 x3 x4 5120 5248 rfl _ _ (by norm_num) 5120 (by norm_num) 128 rfl rfl _,
    c_lo x0 x1 x2 x3 x4 5120 5120 rfl _ _ (by norm_num) 5120 (by norm_num) 0 rfl rfl _,
    fun _ h => absurd h List.not_mem_nil⟩

/-- Result window 9's block. -/
def B9 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S1x1x1024x256 .bf16 :=
  (fun y : S1x1x1024x256.Idx => PL 6144 (by norm_num) (T x0 x1 x3 x4) (y 3) (y 2))

set_option maxHeartbeats 4000000 in
/-- Result window 9's block after the body. -/
theorem out9 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S1x1x1024x256.Idx) :
    out0_9 x0 x1 x2 x3 x4 y = B9 x0 x1 x2 x3 x4 y := by
  unfold out0_9
  refine View.canon_apply_of_pieces (B9 x0 x1 x2 x3 x4) _ ?_ y (cover0_9 _ _ _ _ _ _ _ _ y)
  simp only [List.forall_mem_cons]
  exact ⟨v_hi x0 x1 x2 x3 x4 6912 7040 rfl _ _ (by norm_num) 6144 (by norm_num) 896 rfl _,
    v_lo x0 x1 x2 x3 x4 6912 6912 rfl _ _ (by norm_num) 6144 (by norm_num) 768 rfl _,
    v_hi x0 x1 x2 x3 x4 6656 6784 rfl _ _ (by norm_num) 6144 (by norm_num) 640 rfl _,
    v_lo x0 x1 x2 x3 x4 6656 6656 rfl _ _ (by norm_num) 6144 (by norm_num) 512 rfl _,
    v_hi x0 x1 x2 x3 x4 6400 6528 rfl _ _ (by norm_num) 6144 (by norm_num) 384 rfl _,
    v_lo x0 x1 x2 x3 x4 6400 6400 rfl _ _ (by norm_num) 6144 (by norm_num) 256 rfl _,
    v_hi x0 x1 x2 x3 x4 6144 6272 rfl _ _ (by norm_num) 6144 (by norm_num) 128 rfl _,
    v_lo x0 x1 x2 x3 x4 6144 6144 rfl _ _ (by norm_num) 6144 (by norm_num) 0 rfl _,
    fun _ h => absurd h List.not_mem_nil⟩

/-- Result window 10's block. -/
def B10 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S256x1024 .fp8e4m3 :=
  (fun y : S256x1024.Idx => PC 6144 (by norm_num) (T x0 x1 x3 x4) (y 0) (y 1))

set_option maxHeartbeats 4000000 in
/-- Result window 10's block after the body. -/
theorem out10 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S256x1024.Idx) :
    out0_10 x0 x1 x2 x3 x4 y = B10 x0 x1 x2 x3 x4 y := by
  unfold out0_10
  refine View.canon_apply_of_pieces (B10 x0 x1 x2 x3 x4) _ ?_ y (cover0_10 _ _ _ _ _ _ _ _ y)
  simp only [List.forall_mem_cons]
  exact ⟨c_hi x0 x1 x2 x3 x4 6912 7040 rfl _ _ (by norm_num) 6144 (by norm_num) 896 rfl rfl _,
    c_lo x0 x1 x2 x3 x4 6912 6912 rfl _ _ (by norm_num) 6144 (by norm_num) 768 rfl rfl _,
    c_hi x0 x1 x2 x3 x4 6656 6784 rfl _ _ (by norm_num) 6144 (by norm_num) 640 rfl rfl _,
    c_lo x0 x1 x2 x3 x4 6656 6656 rfl _ _ (by norm_num) 6144 (by norm_num) 512 rfl rfl _,
    c_hi x0 x1 x2 x3 x4 6400 6528 rfl _ _ (by norm_num) 6144 (by norm_num) 384 rfl rfl _,
    c_lo x0 x1 x2 x3 x4 6400 6400 rfl _ _ (by norm_num) 6144 (by norm_num) 256 rfl rfl _,
    c_hi x0 x1 x2 x3 x4 6144 6272 rfl _ _ (by norm_num) 6144 (by norm_num) 128 rfl rfl _,
    c_lo x0 x1 x2 x3 x4 6144 6144 rfl _ _ (by norm_num) 6144 (by norm_num) 0 rfl rfl _,
    fun _ h => absurd h List.not_mem_nil⟩

/-- Result window 8's block. -/
def B8 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S256x8 .f32 :=
  fun y : S256x8.Idx => PS 5120 (by norm_num) (T x0 x1 x3 x4) (y 0) (y 1)

set_option maxHeartbeats 4000000 in
/-- Result window 8's block after the body: the scales. -/
theorem out8 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S256x8.Idx) :
    out0_8 x0 x1 x2 x3 x4 y = B8 x0 x1 x2 x3 x4 y := by
  obtain ⟨i, n, rfl⟩ : ∃ (i : Fin 256) (n : Fin 8), y = ix2 i n := ⟨y 0, y 1, by ext a; fin_cases a <;> rfl⟩
  have e : out0_8 x0 x1 x2 x3 x4 = k0_pay175 (SEL 7#32 (SEL 6#32 (SEL 5#32 (SEL 4#32 (SEL 3#32 (SEL 2#32 (SEL 1#32 (SEL 0#32 (k0_pay4 (F := Ideal))
      (k0_pay114 (k0_pay2 (View.ld x1 r0_0)) (View.ld x0 r0_1) (View.ld x3 (Rect.unit (s := S5120x7168) ![0, 5120] S5120x256.size inb_S5120x7168_S5120x256_0_5120)) (View.ld x4 (Rect.unit (s := S1x7168) ![0, 5120] S1x128.size inb_S1x7168_S1x128_0_5120))))
      (k0_pay121 (k0_pay2 (View.ld x1 r0_0)) (k0_pay113 (View.ld x0 r0_1) (View.ld x3 (Rect.unit (s := S5120x7168) ![0, 5120] S5120x256.size inb_S5120x7168_S5120x256_0_5120))) (View.ld x4 (Rect.unit (s := S1x7168) ![0, 5248] S1x128.size inb_S1x7168_S1x128_0_5248))))
      (k0_pay114 (k0_pay2 (View.ld x1 r0_0)) (View.ld x0 r0_1) (View.ld x3 (Rect.unit (s := S5120x7168) ![0, 5376] S5120x256.size inb_S5120x7168_S5120x256_0_5376)) (View.ld x4 (Rect.unit (s := S1x7168) ![0, 5376] S1x128.size inb_S1x7168_S1x128_0_5376))))
      (k0_pay121 (k0_pay2 (View.ld x1 r0_0)) (k0_pay113 (View.ld x0 r0_1) (View.ld x3 (Rect.unit (s := S5120x7168) ![0, 5376] S5120x256.size inb_S5120x7168_S5120x256_0_5376))) (View.ld x4 (Rect.unit (s := S1x7168) ![0, 5504] S1x128.size inb_S1x7168_S1x128_0_5504))))
      (k0_pay114 (k0_pay2 (View.ld x1 r0_0)) (View.ld x0 r0_1) (View.ld x3 (Rect.unit (s := S5120x7168) ![0, 5632] S5120x256.size inb_S5120x7168_S5120x256_0_5632)) (View.ld x4 (Rect.unit (s := S1x7168) ![0, 5632] S1x128.size inb_S1x7168_S1x128_0_5632))))
      (k0_pay121 (k0_pay2 (View.ld x1 r0_0)) (k0_pay113 (View.ld x0 r0_1) (View.ld x3 (Rect.unit (s := S5120x7168) ![0, 5632] S5120x256.size inb_S5120x7168_S5120x256_0_5632))) (View.ld x4 (Rect.unit (s := S1x7168) ![0, 5760] S1x128.size inb_S1x7168_S1x128_0_5760))))
      (k0_pay114 (k0_pay2 (View.ld x1 r0_0)) (View.ld x0 r0_1) (View.ld x3 (Rect.unit (s := S5120x7168) ![0, 5888] S5120x256.size inb_S5120x7168_S5120x256_0_5888)) (View.ld x4 (Rect.unit (s := S1x7168) ![0, 5888] S1x128.size inb_S1x7168_S1x128_0_5888))))
      (k0_pay121 (k0_pay2 (View.ld x1 r0_0)) (k0_pay113 (View.ld x0 r0_1) (View.ld x3 (Rect.unit (s := S5120x7168) ![0, 5888] S5120x256.size inb_S5120x7168_S5120x256_0_5888))) (View.ld x4 (Rect.unit (s := S1x7168) ![0, 6016] S1x128.size inb_S1x7168_S1x128_0_6016)))) := by
    refine Eq.trans ?_ (View.canon_cons_unit_zero (S := S256x8) (off := ![0, 0]) (by funext a; fin_cases a <;> rfl) inb_S256x8_S256x8_0_0 _ [])
    rfl
  rw [e, tile_lo x0 x1 x2 x3 x4 5120 5120 rfl _ _ (by norm_num), tile_hi x0 x1 x2 x3 x4 5120 5248 rfl _ _ (by norm_num), tile_lo x0 x1 x2 x3 x4 5376 5376 rfl _ _ (by norm_num), tile_hi x0 x1 x2 x3 x4 5376 5504 rfl _ _ (by norm_num), tile_lo x0 x1 x2 x3 x4 5632 5632 rfl _ _ (by norm_num), tile_hi x0 x1 x2 x3 x4 5632 5760 rfl _ _ (by norm_num), tile_lo x0 x1 x2 x3 x4 5888 5888 rfl _ _ (by norm_num), tile_hi x0 x1 x2 x3 x4 5888 6016 rfl _ _ (by norm_num)]
  exact s_block (T x0 x1 x3 x4) 5120 (by norm_num) i n

/-- Result window 11's block. -/
def B11 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) : Vec Ideal S256x8 .f32 :=
  fun y : S256x8.Idx => PS 6144 (by norm_num) (T x0 x1 x3 x4) (y 0) (y 1)

set_option maxHeartbeats 4000000 in
/-- Result window 11's block after the body: the scales. -/
theorem out11 (x0 : Vec Ideal S256x5120 .fp8e4m3) (x1 : Vec Ideal S1x1x256 .f32) (x2 : Vec Ideal S1x1x256 .f32)
    (x3 : Vec Ideal S5120x7168 .fp8e4m3) (x4 : Vec Ideal S1x7168 .f32) (y : S256x8.Idx) :
    out0_11 x0 x1 x2 x3 x4 y = B11 x0 x1 x2 x3 x4 y := by
  obtain ⟨i, n, rfl⟩ : ∃ (i : Fin 256) (n : Fin 8), y = ix2 i n := ⟨y 0, y 1, by ext a; fin_cases a <;> rfl⟩
  have e : out0_11 x0 x1 x2 x3 x4 = k0_pay175 (SEL 7#32 (SEL 6#32 (SEL 5#32 (SEL 4#32 (SEL 3#32 (SEL 2#32 (SEL 1#32 (SEL 0#32 (k0_pay4 (F := Ideal))
      (k0_pay114 (k0_pay2 (View.ld x1 r0_0)) (View.ld x0 r0_1) (View.ld x3 (Rect.unit (s := S5120x7168) ![0, 6144] S5120x256.size inb_S5120x7168_S5120x256_0_6144)) (View.ld x4 (Rect.unit (s := S1x7168) ![0, 6144] S1x128.size inb_S1x7168_S1x128_0_6144))))
      (k0_pay121 (k0_pay2 (View.ld x1 r0_0)) (k0_pay113 (View.ld x0 r0_1) (View.ld x3 (Rect.unit (s := S5120x7168) ![0, 6144] S5120x256.size inb_S5120x7168_S5120x256_0_6144))) (View.ld x4 (Rect.unit (s := S1x7168) ![0, 6272] S1x128.size inb_S1x7168_S1x128_0_6272))))
      (k0_pay114 (k0_pay2 (View.ld x1 r0_0)) (View.ld x0 r0_1) (View.ld x3 (Rect.unit (s := S5120x7168) ![0, 6400] S5120x256.size inb_S5120x7168_S5120x256_0_6400)) (View.ld x4 (Rect.unit (s := S1x7168) ![0, 6400] S1x128.size inb_S1x7168_S1x128_0_6400))))
      (k0_pay121 (k0_pay2 (View.ld x1 r0_0)) (k0_pay113 (View.ld x0 r0_1) (View.ld x3 (Rect.unit (s := S5120x7168) ![0, 6400] S5120x256.size inb_S5120x7168_S5120x256_0_6400))) (View.ld x4 (Rect.unit (s := S1x7168) ![0, 6528] S1x128.size inb_S1x7168_S1x128_0_6528))))
      (k0_pay114 (k0_pay2 (View.ld x1 r0_0)) (View.ld x0 r0_1) (View.ld x3 (Rect.unit (s := S5120x7168) ![0, 6656] S5120x256.size inb_S5120x7168_S5120x256_0_6656)) (View.ld x4 (Rect.unit (s := S1x7168) ![0, 6656] S1x128.size inb_S1x7168_S1x128_0_6656))))
      (k0_pay121 (k0_pay2 (View.ld x1 r0_0)) (k0_pay113 (View.ld x0 r0_1) (View.ld x3 (Rect.unit (s := S5120x7168) ![0, 6656] S5120x256.size inb_S5120x7168_S5120x256_0_6656))) (View.ld x4 (Rect.unit (s := S1x7168) ![0, 6784] S1x128.size inb_S1x7168_S1x128_0_6784))))
      (k0_pay114 (k0_pay2 (View.ld x1 r0_0)) (View.ld x0 r0_1) (View.ld x3 (Rect.unit (s := S5120x7168) ![0, 6912] S5120x256.size inb_S5120x7168_S5120x256_0_6912)) (View.ld x4 (Rect.unit (s := S1x7168) ![0, 6912] S1x128.size inb_S1x7168_S1x128_0_6912))))
      (k0_pay121 (k0_pay2 (View.ld x1 r0_0)) (k0_pay113 (View.ld x0 r0_1) (View.ld x3 (Rect.unit (s := S5120x7168) ![0, 6912] S5120x256.size inb_S5120x7168_S5120x256_0_6912))) (View.ld x4 (Rect.unit (s := S1x7168) ![0, 7040] S1x128.size inb_S1x7168_S1x128_0_7040)))) := by
    refine Eq.trans ?_ (View.canon_cons_unit_zero (S := S256x8) (off := ![0, 0]) (by funext a; fin_cases a <;> rfl) inb_S256x8_S256x8_0_0 _ [])
    rfl
  rw [e, tile_lo x0 x1 x2 x3 x4 6144 6144 rfl _ _ (by norm_num), tile_hi x0 x1 x2 x3 x4 6144 6272 rfl _ _ (by norm_num), tile_lo x0 x1 x2 x3 x4 6400 6400 rfl _ _ (by norm_num), tile_hi x0 x1 x2 x3 x4 6400 6528 rfl _ _ (by norm_num), tile_lo x0 x1 x2 x3 x4 6656 6656 rfl _ _ (by norm_num), tile_hi x0 x1 x2 x3 x4 6656 6784 rfl _ _ (by norm_num), tile_lo x0 x1 x2 x3 x4 6912 6912 rfl _ _ (by norm_num), tile_hi x0 x1 x2 x3 x4 6912 7040 rfl _ _ (by norm_num)]
  exact s_block (T x0 x1 x3 x4) 6144 (by norm_num) i n

end Cert.GlobalQkvIdeal.Blocks

end
-- ==== Proof.GlobalQkvArray.lean ====
/- The global query/key/value projection's seven result arrays, over the reals, as functions of its arguments. -/
module

public import proofs.«01_k».proof.Proof.GlobalQkvBlocks
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Common

namespace Cert.GlobalQkvIdeal.Blocks

open Cert.GlobalQkvIdeal Cert.GlobalQkvIdeal.Gen

variable (m : (ℓ : Loc nD τ sig) → Buf (Elt Ideal) ℓ)

/-- The projection: codes times weight, times the row's scale, times the column's scale. -/
def AT (x : Vec Ideal S16384x5120 .fp8e4m3) (s : Vec Ideal S64x1x256 .f32) (tm : Vec Ideal S4x4096 .f32) (w : Vec Ideal S5120x7168 .fp8e4m3) (ws : Vec Ideal S7168 .f32) (r : Fin 16384) (j : Fin 7168) : EReal :=
  (∑ k : Fin 5120, x (ix2 r k) * w (ix2 k j)) * s (ix3 ⟨r.val / 256, by omega⟩ 0 ⟨r.val % 256, by omega⟩) * ws (ix1 j)

/-- The queries' projection: the row's scale times the row's temperature. -/
def ATQ (x : Vec Ideal S16384x5120 .fp8e4m3) (s : Vec Ideal S64x1x256 .f32) (tm : Vec Ideal S4x4096 .f32) (w : Vec Ideal S5120x7168 .fp8e4m3) (ws : Vec Ideal S7168 .f32) (r : Fin 16384) (j : Fin 7168) : EReal :=
  (∑ k : Fin 5120, x (ix2 r k) * w (ix2 k j))
    * (s (ix3 ⟨r.val / 256, by omega⟩ 0 ⟨r.val % 256, by omega⟩) * tm (ix2 ⟨r.val / 4096, by omega⟩ ⟨r.val % 4096, by omega⟩)) * ws (ix1 j)

/-- The row of a token in a turned array: 4096 rows to a batch, 256 to a block. -/
def rowOf (a : Fin 4) (b : Fin 16) (i : Fin 256) : Fin 16384 := ⟨a.val * 4096 + b.val * 256 + i.val, by omega⟩

/-- Result 1. -/
def REF5 (x : Vec Ideal S16384x5120 .fp8e4m3) (s : Vec Ideal S64x1x256 .f32) (tm : Vec Ideal S4x4096 .f32) (w : Vec Ideal S5120x7168 .fp8e4m3) (ws : Vec Ideal S7168 .f32) : Vec Ideal S4x16x40x128x256 .bf16 :=
  fun y => ATQ x s tm w ws (rowOf (y 0) (y 1) (y 4)) ⟨128 * (y 2).val + (y 3).val, by have : (y 2).val < 40 := (y 2).isLt; have : (y 3).val < 128 := (y 3).isLt; omega⟩

/-- Result 2. -/
def REF6 (x : Vec Ideal S16384x5120 .fp8e4m3) (s : Vec Ideal S64x1x256 .f32) (tm : Vec Ideal S4x4096 .f32) (w : Vec Ideal S5120x7168 .fp8e4m3) (ws : Vec Ideal S7168 .f32) : Vec Ideal S16384x1024 .bf16 :=
  fun y => PL 5120 (by norm_num) (AT x s tm w ws) (y 0) (y 1)

/-- Result 3. -/
def REF7 (x : Vec Ideal S16384x5120 .fp8e4m3) (s : Vec Ideal S64x1x256 .f32) (tm : Vec Ideal S4x4096 .f32) (w : Vec Ideal S5120x7168 .fp8e4m3) (ws : Vec Ideal S7168 .f32) : Vec Ideal S16384x1024 .fp8e4m3 :=
  fun y => PC 5120 (by norm_num) (AT x s tm w ws) (y 0) (y 1)

/-- Result 4. -/
def REF8 (x : Vec Ideal S16384x5120 .fp8e4m3) (s : Vec Ideal S64x1x256 .f32) (tm : Vec Ideal S4x4096 .f32) (w : Vec Ideal S5120x7168 .fp8e4m3) (ws : Vec Ideal S7168 .f32) : Vec Ideal S16384x8 .f32 :=
  fun y => PS 5120 (by norm_num) (AT x s tm w ws) (y 0) (y 1)

/-- Result 5. -/
def REF9 (x : Vec Ideal S16384x5120 .fp8e4m3) (s : Vec Ideal S64x1x256 .f32) (tm : Vec Ideal S4x4096 .f32) (w : Vec Ideal S5120x7168 .fp8e4m3) (ws : Vec Ideal S7168 .f32) : Vec Ideal S4x16x1024x256 .bf16 :=
  fun y => PL 6144 (by norm_num) (AT x s tm w ws) (rowOf (y 0) (y 1) (y 3)) (y 2)

/-- Result 6. -/
def REF10 (x : Vec Ideal S16384x5120 .fp8e4m3) (s : Vec Ideal S64x1x256 .f32) (tm : Vec Ideal S4x4096 .f32) (w : Vec Ideal S5120x7168 .fp8e4m3) (ws : Vec Ideal S7168 .f32) : Vec Ideal S16384x1024 .fp8e4m3 :=
  fun y => PC 6144 (by norm_num) (AT x s tm w ws) (y 0) (y 1)

/-- Result 7. -/
def REF11 (x : Vec Ideal S16384x5120 .fp8e4m3) (s : Vec Ideal S64x1x256 .f32) (tm : Vec Ideal S4x4096 .f32) (w : Vec Ideal S5120x7168 .fp8e4m3) (ws : Vec Ideal S7168 .f32) : Vec Ideal S16384x8 .f32 :=
  fun y => PS 6144 (by norm_num) (AT x s tm w ws) (y 0) (y 1)

/-- `(p + 1) // 2048`, rounded down, position by position. -/
def FDIV (p : IVec S4x4096 32) : IVec S4x4096 32 :=
  have a := addi p (broadcastInDim S4x4096 ![] bcast_S_S4x4096 (constantI S_ 32 1#32))
  have n := broadcastInDim S4x4096 ![] bcast_S_S4x4096 (constantI S_ 32 2048#32)
  select (andi (cmpi .ne (signi a) (broadcastInDim S4x4096 ![] bcast_S_S4x4096 (signi (constantI S_ 32 2048#32))))
      (cmpi .ne (Host.remsi a n) (broadcastInDim S4x4096 ![] bcast_S_S4x4096 (constantI S_ 32 0#32))))
    (subi (Host.divsi a n) (broadcastInDim S4x4096 ![] bcast_S_S4x4096 (constantI S_ 32 1#32))) (Host.divsi a n)

/-- The temperature of every position: `1 + 0.1 log (1 + (p + 1) // 2048)`. -/
def TEMP (p : IVec S4x4096 32) : FVec Ideal S4x4096 .f32 :=
  addf (broadcastInDim S4x4096 ![] bcast_S_S4x4096 (constant S_ .f32 0x3F800000#32))
    (mulf (broadcastInDim S4x4096 ![] bcast_S_S4x4096 (constant S_ .f32 0x3DCCCCCD#32))
      (Host.log (addf (sitofp .f32 (FDIV p)) (broadcastInDim S4x4096 ![] bcast_S_S4x4096 (constant S_ .f32 0x3F800000#32)))))

/-- What the third window's array holds when the call starts: the temperatures. -/
theorem temp_eq (c : Dev nD) : V m c main_v11 = shapeCast S64x1x256 (TEMP (m ((c : Thread nD τ).loc main_arg2))) shapeCasts_S4x4096_S64x1x256 := by
  unfold V
  simp only [List.flatten, hostOps0, hostOps0_1, hostOps0_2, List.append_nil, List.cons_append, List.nil_append]
  after_reads_simp
  rfl

/-- What the fifth window's array holds when the call starts: the columns' scales. -/
theorem wscale_eq (c : Dev nD) : V m c main_v12 = shapeCast S1x7168 (m ((c : Thread nD τ).loc main_arg4)) shapeCasts_S7168_S1x7168 := by
  unfold V
  simp only [List.flatten, hostOps0, hostOps0_1, hostOps0_2, List.append_nil, List.cons_append, List.nil_append]
  after_reads_simp
  rfl

/-- The temperatures in blocks of 256. -/
theorem temp_cast (z : FVec Ideal S4x4096 .f32) (a : Fin 64) (i : Fin 256) : shapeCast S64x1x256 z shapeCasts_S4x4096_S64x1x256 (ix3 a 0 i)
    = z (ix2 ⟨(a.val * 256 + i.val) / 4096, by omega⟩ ⟨(a.val * 256 + i.val) % 4096, by omega⟩) := by
  pointwise
  exact congrArg z (congrArg₂ ix2 (Fin.ext (by show a.val / 16 = (a.val * 256 + i.val) / 4096; omega)) (Fin.ext (by show a.val % 16 * 256 + i.val = (a.val * 256 + i.val) % 4096; omega)))

/-- The columns' scales as a row. -/
theorem wscale_cast (z : FVec Ideal S7168 .f32) (j : Fin 7168) : shapeCast S1x7168 z shapeCasts_S7168_S1x7168 (ix2 0 j) = z (ix1 j) := by
  pointwise

/-- Each window's block at each grid point. -/
theorem idx : ∀ t : Fin cfg0.N, win0_0.index t = ![t.val, 0] ∧ win0_1.index t = ![t.val, 0, 0] ∧ win0_2.index t = ![t.val, 0, 0]
    ∧ win0_3.index t = ![0, 0] ∧ win0_4.index t = ![0, 0] ∧ win0_5.index t = ![t.val / 16, t.val % 16, 0, 0, 0]
    ∧ win0_6.index t = ![t.val, 0] ∧ win0_7.index t = ![t.val, 0] ∧ win0_8.index t = ![t.val, 0]
    ∧ win0_9.index t = ![t.val / 16, t.val % 16, 0, 0] ∧ win0_10.index t = ![t.val, 0] ∧ win0_11.index t = ![t.val, 0] :=
  (by decide +kernel : ∀ t : Fin grid0.N, _)

/-- The codes' block at point `t`. -/
theorem b0 (c : Dev nD) (t : Fin cfg0.N) (i : Fin 256) (k : Fin 5120) :
    iblk m c 0 t (ix2 i k) = m ((c : Thread nD τ).loc main_arg0) (ix2 ⟨t.val * 256 + i.val, by have : t.val < 64 := t.isLt; omega⟩ k) := by
  blk_ext [iblk, V, idx t]

/-- The scales' block at point `t`. -/
theorem b1 (c : Dev nD) (t : Fin cfg0.N) (i : Fin 256) :
    iblk m c 1 t (ix3 0 0 i) = m ((c : Thread nD τ).loc main_arg1) (ix3 ⟨(t.val * 256 + i.val) / 256, by have : t.val < 64 := t.isLt; omega⟩ 0 ⟨(t.val * 256 + i.val) % 256, by omega⟩) := by
  blk_ext [iblk, V, idx t]

/-- The temperatures' block at point `t`. -/
theorem b2 (c : Dev nD) (t : Fin cfg0.N) (i : Fin 256) :
    iblk m c 2 t (ix3 0 0 i) = TEMP (m ((c : Thread nD τ).loc main_arg2)) (ix2 ⟨(t.val * 256 + i.val) / 4096, by have : t.val < 64 := t.isLt; omega⟩ ⟨(t.val * 256 + i.val) % 4096, by omega⟩) := by
  have e : (iblk m c 2 t) (ix3 0 0 i) = V m c main_v11 (ix3 ⟨t.val, t.isLt⟩ 0 i) := by
    show V m c main_v11 _ = _
    blk_ext [idx t]
  rw [e, temp_eq, temp_cast]

/-- The weight at point `t`. -/
theorem b3 (c : Dev nD) (t : Fin cfg0.N) (k : Fin 5120) (j : Fin 7168) :
    iblk m c 3 t (ix2 k j) = m ((c : Thread nD τ).loc main_arg3) (ix2 k j) := by
  blk_ext [iblk, V, idx t]

/-- The weight's scales at point `t`. -/
theorem b4 (c : Dev nD) (t : Fin cfg0.N) (j : Fin 7168) :
    iblk m c 4 t (ix2 0 j) = m ((c : Thread nD τ).loc main_arg4) (ix1 j) := by
  have e : (iblk m c 4 t) (ix2 0 j) = V m c main_v12 (ix2 0 j) := by
    show V m c main_v12 _ = _
    blk_ext [idx t]
  rw [e, wscale_eq, wscale_cast]

/-- Row `i` of the block's projection is row `256 t + i` of the whole. -/
theorem T_row (c : Dev nD) (t : Fin cfg0.N) (i : Fin 256) :
    T (iblk m c 0 t) (iblk m c 1 t) (iblk m c 3 t) (iblk m c 4 t) i
    = AT (m ((c : Thread nD τ).loc main_arg0)) (m ((c : Thread nD τ).loc main_arg1)) (TEMP (m ((c : Thread nD τ).loc main_arg2)))
        (m ((c : Thread nD τ).loc main_arg3)) (m ((c : Thread nD τ).loc main_arg4)) ⟨t.val * 256 + i.val, by have : t.val < 64 := t.isLt; omega⟩ := by
  funext j
  unfold T
  rw [b1, b4]
  simp only [b0, b3]
  rfl

/-- The same for the queries' projection. -/
theorem TQ_row (c : Dev nD) (t : Fin cfg0.N) (i : Fin 256) :
    TQ (iblk m c 0 t) (iblk m c 1 t) (iblk m c 2 t) (iblk m c 3 t) (iblk m c 4 t) i
    = ATQ (m ((c : Thread nD τ).loc main_arg0)) (m ((c : Thread nD τ).loc main_arg1)) (TEMP (m ((c : Thread nD τ).loc main_arg2)))
        (m ((c : Thread nD τ).loc main_arg3)) (m ((c : Thread nD τ).loc main_arg4)) ⟨t.val * 256 + i.val, by have : t.val < 64 := t.isLt; omega⟩ := by
  funext j
  unfold TQ
  rw [b1, b2, b4]
  simp only [b0, b3]
  rfl

/-- Result 1 after the run. -/
theorem final5 (c : Dev nD) : (dats m 0 c).arrAt 5 cfg0.N
    = REF5 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 5 _ (by decide +kernel) fun t _ y => ?_
  blk_simp
  rw [after0_5, out5]
  have ht : t.val < 64 := t.isLt
  obtain ⟨h, l, i, rfl⟩ : ∃ (h : Fin 40) (l : Fin 128) (i : Fin 256), y = ix5 0 0 h l i :=
    ⟨y 2, y 3, y 4, by ext a; fin_cases a <;> first | rfl | exact congrArg Fin.val (Subsingleton.elim (α := Fin 1) _ _)⟩
  have hy : ((cfg0.win 5).blk t).view.emb (ix5 0 0 h l i) = ix5 ⟨t.val / 16, by omega⟩ ⟨t.val % 16, by omega⟩ h l i := by blk_ext [idx t]
  refine Eq.trans ?_ (congrArg (REF5 _ _ _ _ _) hy.symm)
  have hr : rowOf ⟨t.val / 16, by omega⟩ ⟨t.val % 16, by omega⟩ i = ⟨t.val * 256 + i.val, by omega⟩ :=
    Fin.ext (by show t.val / 16 * 4096 + t.val % 16 * 256 + i.val = t.val * 256 + i.val; omega)
  refine (congrFun (TQ_row m c t i) _).trans ?_
  rw [← hr]
  rfl

/-- Result 2 after the run. -/
theorem final6 (c : Dev nD) : (dats m 0 c).arrAt 6 cfg0.N
    = REF6 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 6 _ (by decide +kernel) fun t _ y => ?_
  blk_simp
  rw [after0_6, out6]
  have ht : t.val < 64 := t.isLt
  obtain ⟨i, j, rfl⟩ : ∃ (i : Fin 256) (j : Fin 1024), y = ix2 i j := ⟨y 0, y 1, by ext a; fin_cases a <;> rfl⟩
  have hy : ((cfg0.win 6).blk t).view.emb (ix2 i j) = ix2 ⟨t.val * 256 + i.val, by omega⟩ j := by blk_ext [idx t]
  refine Eq.trans ?_ (congrArg (REF6 _ _ _ _ _) hy.symm)
  exact PL_congr 5120 (by norm_num) (T_row m c t i) j

/-- Result 3 after the run. -/
theorem final7 (c : Dev nD) : (dats m 0 c).arrAt 7 cfg0.N
    = REF7 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 7 _ (by decide +kernel) fun t _ y => ?_
  blk_simp
  rw [after0_7, out7]
  have ht : t.val < 64 := t.isLt
  obtain ⟨i, j, rfl⟩ : ∃ (i : Fin 256) (j : Fin 1024), y = ix2 i j := ⟨y 0, y 1, by ext a; fin_cases a <;> rfl⟩
  have hy : ((cfg0.win 7).blk t).view.emb (ix2 i j) = ix2 ⟨t.val * 256 + i.val, by omega⟩ j := by blk_ext [idx t]
  refine Eq.trans ?_ (congrArg (REF7 _ _ _ _ _) hy.symm)
  exact PC_congr 5120 (by norm_num) (T_row m c t i) j

/-- Result 4 after the run. -/
theorem final8 (c : Dev nD) : (dats m 0 c).arrAt 8 cfg0.N
    = REF8 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 8 _ (by decide +kernel) fun t _ y => ?_
  blk_simp
  rw [after0_8, out8]
  have ht : t.val < 64 := t.isLt
  obtain ⟨i, j, rfl⟩ : ∃ (i : Fin 256) (j : Fin 8), y = ix2 i j := ⟨y 0, y 1, by ext a; fin_cases a <;> rfl⟩
  have hy : ((cfg0.win 8).blk t).view.emb (ix2 i j) = ix2 ⟨t.val * 256 + i.val, by omega⟩ j := by blk_ext [idx t]
  refine Eq.trans ?_ (congrArg (REF8 _ _ _ _ _) hy.symm)
  exact PS_congr 5120 (by norm_num) (T_row m c t i) j

/-- Result 5 after the run. -/
theorem final9 (c : Dev nD) : (dats m 0 c).arrAt 9 cfg0.N
    = REF9 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 9 _ (by decide +kernel) fun t _ y => ?_
  blk_simp
  rw [after0_9, out9]
  have ht : t.val < 64 := t.isLt
  obtain ⟨l, i, rfl⟩ : ∃ (l : Fin 1024) (i : Fin 256), y = ix4 0 0 l i :=
    ⟨y 2, y 3, by ext a; fin_cases a <;> first | rfl | exact congrArg Fin.val (Subsingleton.elim (α := Fin 1) _ _)⟩
  have hy : ((cfg0.win 9).blk t).view.emb (ix4 0 0 l i) = ix4 ⟨t.val / 16, by omega⟩ ⟨t.val % 16, by omega⟩ l i := by blk_ext [idx t]
  refine Eq.trans ?_ (congrArg (REF9 _ _ _ _ _) hy.symm)
  have hr : rowOf ⟨t.val / 16, by omega⟩ ⟨t.val % 16, by omega⟩ i = ⟨t.val * 256 + i.val, by omega⟩ :=
    Fin.ext (by show t.val / 16 * 4096 + t.val % 16 * 256 + i.val = t.val * 256 + i.val; omega)
  refine (PL_congr 6144 (by norm_num) ((T_row m c t i).trans (congrArg _ hr.symm)) l).trans ?_
  rfl

/-- Result 6 after the run. -/
theorem final10 (c : Dev nD) : (dats m 0 c).arrAt 10 cfg0.N
    = REF10 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 10 _ (by decide +kernel) fun t _ y => ?_
  blk_simp
  rw [after0_10, out10]
  have ht : t.val < 64 := t.isLt
  obtain ⟨i, j, rfl⟩ : ∃ (i : Fin 256) (j : Fin 1024), y = ix2 i j := ⟨y 0, y 1, by ext a; fin_cases a <;> rfl⟩
  have hy : ((cfg0.win 10).blk t).view.emb (ix2 i j) = ix2 ⟨t.val * 256 + i.val, by omega⟩ j := by blk_ext [idx t]
  refine Eq.trans ?_ (congrArg (REF10 _ _ _ _ _) hy.symm)
  exact PC_congr 6144 (by norm_num) (T_row m c t i) j

/-- Result 7 after the run. -/
theorem final11 (c : Dev nD) : (dats m 0 c).arrAt 11 cfg0.N
    = REF11 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  refine (dats m 0 c).arrAt_eq_of_covers 11 _ (by decide +kernel) fun t _ y => ?_
  blk_simp
  rw [after0_11, out11]
  have ht : t.val < 64 := t.isLt
  obtain ⟨i, j, rfl⟩ : ∃ (i : Fin 256) (j : Fin 8), y = ix2 i j := ⟨y 0, y 1, by ext a; fin_cases a <;> rfl⟩
  have hy : ((cfg0.win 11).blk t).view.emb (ix2 i j) = ix2 ⟨t.val * 256 + i.val, by omega⟩ j := by blk_ext [idx t]
  refine Eq.trans ?_ (congrArg (REF11 _ _ _ _ _) hy.symm)
  exact PS_congr 6144 (by norm_num) (T_row m c t i) j

end Cert.GlobalQkvIdeal.Blocks

end
-- ==== Proof.GlobalQkvMathPays.lean ====
/- What the plain statement of the global query/key/value projection stores, over the reals, at one index. -/
module

public import proofs.«01_k».proof.Proof.Gen.GlobalQkvMathIdeal.Value
public import proofs.«01_k».proof.Proof.GlobalQkvArray
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.GlobalQkvMathIdeal.Blocks

open Cert.GlobalQkvMathIdeal Cert.GlobalQkvMathIdeal.Gen

variable (m : (ℓ : Loc nD τ sig) → Buf (Elt Ideal) ℓ)

open Cert.GlobalQkvIdeal.Blocks (AT ATQ rowOf REF5 REF6 REF7 REF8 REF9 REF10 REF11 FDIV TEMP)

/-- The projection at one index. -/
def MT (a : Vec Ideal S16384x5120 .fp8e4m3) (w : Vec Ideal S5120x7168 .fp8e4m3) (s : Vec Ideal S16384x1 .f32) (ws : Vec Ideal S1x7168 .f32) (r : Fin 16384) (j : Fin 7168) : EReal :=
  (∑ k : Fin 5120, a (ix2 r k) * w (ix2 k j)) * s (ix2 r 0) * ws (ix2 0 j)

/-- The body's projection. -/
theorem pay1_at (a : Vec Ideal S16384x5120 .fp8e4m3) (w : Vec Ideal S5120x7168 .fp8e4m3) (s : Vec Ideal S16384x1 .f32) (ws : Vec Ideal S1x7168 .f32) (i : Fin 16384) (j : Fin 7168) : k0_pay1 a w s ws (ix2 i j) = MT a w s ws i j := by
  pointwise [k0_pay1]
  first | done | rfl

/-- The keys' columns. -/
theorem pay2_at (a : Vec Ideal S16384x5120 .fp8e4m3) (w : Vec Ideal S5120x7168 .fp8e4m3) (s : Vec Ideal S16384x1 .f32) (ws : Vec Ideal S1x7168 .f32) (i : Fin 16384) (j : Fin 1024) : k0_pay2 a w s ws (ix2 i j) = PL 5120 (by norm_num) (MT a w s ws) i j := by
  unfold k0_pay2 PL
  rw [← pay1_at]
  generalize k0_pay1 a w s ws = z
  pointwise
  first | done | blk_point

/-- The values' columns. -/
theorem pay3_at (a : Vec Ideal S16384x5120 .fp8e4m3) (w : Vec Ideal S5120x7168 .fp8e4m3) (s : Vec Ideal S16384x1 .f32) (ws : Vec Ideal S1x7168 .f32) (i : Fin 16384) (j : Fin 1024) : k0_pay3 a w s ws (ix2 i j) = PL 6144 (by norm_num) (MT a w s ws) i j := by
  unfold k0_pay3 PL
  rw [← pay1_at]
  generalize k0_pay1 a w s ws = z
  pointwise
  first | done | blk_point

/-- The queries, scaled by the temperature and turned. -/
theorem pay4_at (a : Vec Ideal S16384x5120 .fp8e4m3) (w : Vec Ideal S5120x7168 .fp8e4m3) (s : Vec Ideal S16384x1 .f32) (ws : Vec Ideal S1x7168 .f32) (tm : Vec Ideal S16384x1 .f32) (x : Fin 4) (y : Fin 16) (h : Fin 40) (l : Fin 128) (i : Fin 256) :
    k0_pay4 a w s ws tm (ix5 x y h l i) = MT a w s ws (rowOf x y i) ⟨128 * h.val + l.val, by omega⟩ * tm (ix2 (rowOf x y i) 0) := by
  unfold k0_pay4
  rw [← pay1_at]
  generalize k0_pay1 a w s ws = z
  pointwise [rowOf]
  first | done | blk_point

/-- The keys. -/
theorem pay5_at (a : Vec Ideal S16384x5120 .fp8e4m3) (w : Vec Ideal S5120x7168 .fp8e4m3) (s : Vec Ideal S16384x1 .f32) (ws : Vec Ideal S1x7168 .f32) (i : Fin 16384) (j : Fin 1024) : k0_pay5 a w s ws (ix2 i j) = PL 5120 (by norm_num) (MT a w s ws) i j := by
  rw [← pay2_at]
  pointwise [k0_pay5]

/-- The values, turned. -/
theorem pay6_at (a : Vec Ideal S16384x5120 .fp8e4m3) (w : Vec Ideal S5120x7168 .fp8e4m3) (s : Vec Ideal S16384x1 .f32) (ws : Vec Ideal S1x7168 .f32) (x : Fin 4) (y : Fin 16) (j : Fin 1024) (i : Fin 256) :
    k0_pay6 a w s ws (ix4 x y j i) = PL 6144 (by norm_num) (MT a w s ws) (rowOf x y i) j := by
  unfold k0_pay6
  rw [← pay3_at]
  generalize k0_pay3 a w s ws = z
  pointwise [rowOf]
  first | done | blk_point

/-- The heads' largest magnitudes among 1024 columns `v`, as the body computes them. -/
def V31 (v : FVec Ideal S16384x1024 .f32) : FVec Ideal S16384x8x1 .f32 :=
  shapeCast S16384x8x1 (multiReduction .maximumf [2] S16384x8 (absf (k0_pay13 v)) 0xFF800000#32 reduces_S16384x8x128_S16384x8 (.inl rfl) rfl) shapeCasts_S16384x8_S16384x8x1

/-- Columns by head. -/
theorem pay13_at (v : FVec Ideal S16384x1024 .f32) (i : Fin 16384) (h : Fin 8) (l : Fin 128) : k0_pay13 v (ix3 i h l) = v (ix2 i ⟨h.val * 128 + l.val, by omega⟩) := by
  pointwise [k0_pay13]

/-- A head's largest magnitude. -/
theorem amax_at (v : FVec Ideal S16384x8x128 .f32) (i : Fin 16384) (h : Fin 8) :
    multiReduction .maximumf [2] S16384x8 (absf v) 0xFF800000#32 reduces_S16384x8x128_S16384x8 (.inl rfl) rfl (ix2 i h) = AMAX fun l : Fin 128 => v (ix3 i h l) := by
  pointwise
  rfl

/-- A column of values to a head. -/
theorem cast31_at (z : FVec Ideal S16384x8 .f32) (i : Fin 16384) (h : Fin 8) : shapeCast S16384x8x1 z shapeCasts_S16384x8_S16384x8x1 (ix3 i h 0) = z (ix2 i h) := by
  pointwise

/-- The heads' largest magnitudes at one index. -/
theorem V31_at (v : FVec Ideal S16384x1024 .f32) (i : Fin 16384) (h : Fin 8) :
    V31 v (ix3 i h 0) = AMAX fun l : Fin 128 => v (ix2 i ⟨h.val * 128 + l.val, by omega⟩) := by
  unfold V31
  rw [cast31_at, amax_at]
  simp only [pay13_at]

/-- The scale of a largest magnitude. -/
theorem pay10_at (v : FVec Ideal S16384x8x1 .f32) (i : Fin 16384) (h : Fin 8) :
    k0_pay10 v (k0_pay9 (F := Ideal)) (ix3 i h 0) = if v (ix3 i h 0) = 0 then 1 else Ideal.div (v (ix3 i h 0)) (Ideal.ofBits .f32 0x43E00000#32) := by
  pointwise [k0_pay10, k0_pay9]

/-- The codes at their scales. -/
theorem pay11_at (u : FVec Ideal S16384x8x128 .f32) (v : FVec Ideal S16384x8x1 .f32) (i : Fin 16384) (j : Fin 1024) :
    k0_pay11 u v (k0_pay9 (F := Ideal)) (ix2 i j) = CODE (k0_pay10 v (k0_pay9 (F := Ideal)) (ix3 i ⟨j.val / 128, by omega⟩ 0)) (u (ix3 i ⟨j.val / 128, by omega⟩ ⟨j.val % 128, by omega⟩)) := by
  generalize k0_pay9 (F := Ideal) = z
  unfold k0_pay11
  generalize k0_pay10 v z = y
  pointwise
  rfl

/-- The scales, as they're stored. -/
theorem pay12_at (v : FVec Ideal S16384x8x1 .f32) (i : Fin 16384) (h : Fin 8) :
    k0_pay12 v (k0_pay9 (F := Ideal)) (ix2 i h) = k0_pay10 v (k0_pay9 (F := Ideal)) (ix3 i h 0) := by
  unfold k0_pay12
  generalize k0_pay10 v (k0_pay9 (F := Ideal)) = y
  pointwise

/-- The scales of a projection's columns from `o` on. -/
theorem scale_at (T : Fin 16384 → Fin 7168 → EReal) (v : FVec Ideal S16384x1024 .f32) (o : ℕ) (ho : o + 1024 ≤ 7168)
    (hv : ∀ i j, v (ix2 i j) = PL o ho T i j) (i : Fin 16384) (h : Fin 8) : k0_pay10 (V31 v) (k0_pay9 (F := Ideal)) (ix3 i h 0) = PS o ho T i h := by
  rw [pay10_at, V31_at]
  simp only [hv]
  unfold PS PL SC
  have e : ∀ l : Fin 128, (⟨o + (h.val * 128 + l.val), by omega⟩ : Fin 7168) = ⟨o + h.val * 128 + l.val, by omega⟩ := fun l => Fin.ext (by show o + (h.val * 128 + l.val) = o + h.val * 128 + l.val; omega)
  simp only [e]

/-- The stored scales of a projection's columns from `o` on. -/
theorem scales_at (T : Fin 16384 → Fin 7168 → EReal) (v : FVec Ideal S16384x1024 .f32) (o : ℕ) (ho : o + 1024 ≤ 7168)
    (hv : ∀ i j, v (ix2 i j) = PL o ho T i j) (i : Fin 16384) (h : Fin 8) : k0_pay12 (V31 v) (k0_pay9 (F := Ideal)) (ix2 i h) = PS o ho T i h := by
  rw [pay12_at, scale_at T v o ho hv]

/-- The codes of a projection's columns from `o` on. -/
theorem codes_at (T : Fin 16384 → Fin 7168 → EReal) (v : FVec Ideal S16384x1024 .f32) (o : ℕ) (ho : o + 1024 ≤ 7168)
    (hv : ∀ i j, v (ix2 i j) = PL o ho T i j) (i : Fin 16384) (j : Fin 1024) : k0_pay11 (k0_pay13 v) (V31 v) (k0_pay9 (F := Ideal)) (ix2 i j) = PC o ho T i j := by
  rw [pay11_at, scale_at T v o ho hv, pay13_at, hv]
  unfold PC
  have e : (⟨j.val / 128 * 128 + j.val % 128, by omega⟩ : Fin 1024) = j := Fin.ext (by show j.val / 128 * 128 + j.val % 128 = j.val; omega)
  rw [e]

/-- The values' codes are computed as the keys' are. -/
theorem pay15_eq (v : FVec Ideal S16384x1024 .f32) : k0_pay15 v = k0_pay11 (k0_pay13 v) (V31 v) (k0_pay9 (F := Ideal)) := rfl

/-- The values' scales are computed as the keys' are. -/
theorem pay16_eq (v : FVec Ideal S16384x1024 .f32) : k0_pay16 v = k0_pay12 (V31 v) (k0_pay9 (F := Ideal)) := rfl

/-- The keys' largest magnitudes are computed from the keys' columns. -/
theorem pay8_eq (a : Vec Ideal S16384x5120 .fp8e4m3) (w : Vec Ideal S5120x7168 .fp8e4m3) (s : Vec Ideal S16384x1 .f32) (ws : Vec Ideal S1x7168 .f32) : k0_pay8 a w s ws = V31 (k0_pay2 a w s ws) := rfl

/-- The keys by head are computed from the keys' columns. -/
theorem pay7_eq (a : Vec Ideal S16384x5120 .fp8e4m3) (w : Vec Ideal S5120x7168 .fp8e4m3) (s : Vec Ideal S16384x1 .f32) (ws : Vec Ideal S1x7168 .f32) : k0_pay7 a w s ws = k0_pay13 (k0_pay2 a w s ws) := rfl

/-- Two axes' zero offsets. -/
theorem off2 : (![0, 0] : Fin 2 → ℕ) = fun _ => 0 := by funext a; fin_cases a <;> rfl

/-- A block read whole is itself. -/
theorem ld0 (x : Vec Ideal S16384x5120 .fp8e4m3) : View.ld x r0_0 = x := View.ld_unit_zero (S := S16384x5120) off2 _ x
/-- A block read whole is itself. -/
theorem ld1 (x : Vec Ideal S5120x7168 .fp8e4m3) : View.ld x r0_1 = x := View.ld_unit_zero (S := S5120x7168) off2 _ x
/-- A block read whole is itself. -/
theorem ld2 (x : Vec Ideal S16384x1 .f32) : View.ld x r0_2 = x := View.ld_unit_zero (S := S16384x1) off2 _ x
/-- A block read whole is itself. -/
theorem ld3 (x : Vec Ideal S1x7168 .f32) : View.ld x r0_3 = x := View.ld_unit_zero (S := S1x7168) off2 _ x

/-- The value columns, from the blocks. -/
theorem pay17_eq (x0 : Vec Ideal S16384x5120 .fp8e4m3) (x1 x2 : Vec Ideal S16384x1 .f32) (x3 : Vec Ideal S5120x7168 .fp8e4m3) (x4 : Vec Ideal S1x7168 .f32) :
    k0_pay17 x0 x1 x2 x3 x4 = k0_pay3 x0 x3 x1 x4 := by
  unfold k0_pay17
  rw [ld0, ld1, ld2, ld3]

/-- The keys' largest magnitudes, from the blocks. -/
theorem pay18_eq (x0 : Vec Ideal S16384x5120 .fp8e4m3) (x1 x2 : Vec Ideal S16384x1 .f32) (x3 : Vec Ideal S5120x7168 .fp8e4m3) (x4 : Vec Ideal S1x7168 .f32) :
    k0_pay18 x0 x1 x2 x3 x4 = V31 (k0_pay2 x0 x3 x1 x4) := by
  unfold k0_pay18
  rw [ld0, ld1, ld2, ld3, pay8_eq]

/-- The zero the magnitudes are compared with. -/
theorem pay19_eq (x0 : Vec Ideal S16384x5120 .fp8e4m3) (x1 x2 : Vec Ideal S16384x1 .f32) (x3 : Vec Ideal S5120x7168 .fp8e4m3) (x4 : Vec Ideal S1x7168 .f32) :
    k0_pay19 x0 x1 x2 x3 x4 = k0_pay9 (F := Ideal) := rfl

end Cert.GlobalQkvMathIdeal.Blocks

end
-- ==== Proof.GlobalQkvMath.lean ====
/- The plain statement of the global query/key/value projection: its seven result arrays, over the reals, are the same functions of the arguments. -/
module

public import proofs.«01_k».proof.Proof.GlobalQkvMathPays
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Common

namespace Cert.GlobalQkvMathIdeal.Blocks

open Cert.GlobalQkvMathIdeal Cert.GlobalQkvMathIdeal.Gen

variable (m : (ℓ : Loc nD τ sig) → Buf (Elt Ideal) ℓ)

open Cert.GlobalQkvIdeal.Blocks (AT ATQ rowOf REF5 REF6 REF7 REF8 REF9 REF10 REF11 FDIV TEMP)

/-- What the second window's array holds when the call starts: the scales, a column. -/
theorem scale_eq (c : Dev nD) : V m c main_v11 = shapeCast S16384x1 (m ((c : Thread nD τ).loc main_arg1)) shapeCasts_S64x1x256_S16384x1 := by
  unfold V
  simp only [List.flatten, hostOps0, hostOps0_1, hostOps0_2, List.append_nil, List.cons_append, List.nil_append]
  after_reads_simp
  rfl

/-- What the third window's array holds when the call starts: the temperatures, a column. -/
theorem temp_eq (c : Dev nD) : V m c main_v12 = shapeCast S16384x1 (TEMP (m ((c : Thread nD τ).loc main_arg2))) shapeCasts_S4x4096_S16384x1 := by
  unfold V
  simp only [List.flatten, hostOps0, hostOps0_1, hostOps0_2, List.append_nil, List.cons_append, List.nil_append]
  after_reads_simp
  rfl

/-- What the fifth window's array holds when the call starts: the columns' scales. -/
theorem wscale_eq (c : Dev nD) : V m c main_v13 = shapeCast S1x7168 (m ((c : Thread nD τ).loc main_arg4)) shapeCasts_S7168_S1x7168 := by
  unfold V
  simp only [List.flatten, hostOps0, hostOps0_1, hostOps0_2, List.append_nil, List.cons_append, List.nil_append]
  after_reads_simp
  rfl

/-- The scales as a column. -/
theorem scale_cast (z : FVec Ideal S64x1x256 .f32) (i : Fin 16384) : shapeCast S16384x1 z shapeCasts_S64x1x256_S16384x1 (ix2 i 0)
    = z (ix3 ⟨i.val / 256, by omega⟩ 0 ⟨i.val % 256, by omega⟩) := by
  pointwise

/-- The temperatures as a column. -/
theorem temp_cast (z : FVec Ideal S4x4096 .f32) (i : Fin 16384) : shapeCast S16384x1 z shapeCasts_S4x4096_S16384x1 (ix2 i 0)
    = z (ix2 ⟨i.val / 4096, by omega⟩ ⟨i.val % 4096, by omega⟩) := by
  pointwise

/-- The columns' scales as a row. -/
theorem wscale_cast (z : FVec Ideal S7168 .f32) (j : Fin 7168) : shapeCast S1x7168 z shapeCasts_S7168_S1x7168 (ix2 0 j) = z (ix1 j) := by
  pointwise

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0, 0, 0] ∧ win0_6.index t = ![0, 0]
    ∧ win0_7.index t = ![0, 0] ∧ win0_8.index t = ![0, 0] ∧ win0_9.index t = ![0, 0, 0, 0] ∧ win0_10.index t = ![0, 0] ∧ win0_11.index t = ![0, 0] :=
  (by decide +kernel : ∀ t : Fin grid0.N, _)

/-- The codes. -/
theorem b0 (c : Dev nD) (t : Fin cfg0.N) (i : Fin 16384) (k : Fin 5120) :
    iblk m c 0 t (ix2 i k) = m ((c : Thread nD τ).loc main_arg0) (ix2 i k) := by
  blk_ext [iblk, V, idx t]

/-- The scales. -/
theorem b1 (c : Dev nD) (t : Fin cfg0.N) (i : Fin 16384) :
    iblk m c 1 t (ix2 i 0) = m ((c : Thread nD τ).loc main_arg1) (ix3 ⟨i.val / 256, by omega⟩ 0 ⟨i.val % 256, by omega⟩) := by
  have e : (iblk m c 1 t) (ix2 i 0) = V m c main_v11 (ix2 i 0) := by
    show V m c main_v11 _ = _
    blk_ext [idx t]
  rw [e, scale_eq, scale_cast]

/-- The temperatures. -/
theorem b2 (c : Dev nD) (t : Fin cfg0.N) (i : Fin 16384) :
    iblk m c 2 t (ix2 i 0) = TEMP (m ((c : Thread nD τ).loc main_arg2)) (ix2 ⟨i.val / 4096, by omega⟩ ⟨i.val % 4096, by omega⟩) := by
  have e : (iblk m c 2 t) (ix2 i 0) = V m c main_v12 (ix2 i 0) := by
    show V m c main_v12 _ = _
    blk_ext [idx t]
  rw [e, temp_eq, temp_cast]

/-- The weight. -/
theorem b3 (c : Dev nD) (t : Fin cfg0.N) (k : Fin 5120) (j : Fin 7168) :
    iblk m c 3 t (ix2 k j) = m ((c : Thread nD τ).loc main_arg3) (ix2 k j) := by
  blk_ext [iblk, V, idx t]

/-- The weight's scales. -/
theorem b4 (c : Dev nD) (t : Fin cfg0.N) (j : Fin 7168) :
    iblk m c 4 t (ix2 0 j) = m ((c : Thread nD τ).loc main_arg4) (ix1 j) := by
  have e : (iblk m c 4 t) (ix2 0 j) = V m c main_v13 (ix2 0 j) := by
    show V m c main_v13 _ = _
    blk_ext [idx t]
  rw [e, wscale_eq, wscale_cast]

/-- The body's projection is the kernel's. -/
theorem MT_eq (c : Dev nD) : MT (iblk m c 0 t0_0) (iblk m c 3 t0_0) (iblk m c 1 t0_0) (iblk m c 4 t0_0)
    = AT (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  funext r j
  unfold MT
  rw [b1, b4]
  simp only [b0, b3]
  rfl

/-- The queries times the temperature are the kernel's queries: the temperature multiplies the row's scale there. -/
theorem MTQ_eq (c : Dev nD) (r : Fin 16384) (j : Fin 7168) : MT (iblk m c 0 t0_0) (iblk m c 3 t0_0) (iblk m c 1 t0_0) (iblk m c 4 t0_0) r j * (iblk m c 2 t0_0 : FVec Ideal S16384x1 .f32) (ix2 r 0)
    = ATQ (m ((c : Thread nD τ).loc main_arg0)) (m ((c : Thread nD τ).loc main_arg1)) (TEMP (m ((c : Thread nD τ).loc main_arg2)))
        (m ((c : Thread nD τ).loc main_arg3)) (m ((c : Thread nD τ).loc main_arg4)) r j := by
  rw [MT_eq, b2]
  show AT (m ((c : Thread nD τ).loc main_arg0)) (m ((c : Thread nD τ).loc main_arg1)) (TEMP (m ((c : Thread nD τ).loc main_arg2)))
        (m ((c : Thread nD τ).loc main_arg3)) (m ((c : Thread nD τ).loc main_arg4)) r j * TEMP (m ((c : Thread nD τ).loc main_arg2)) (ix2 ⟨r.val / 4096, by omega⟩ ⟨r.val % 4096, by omega⟩) = _
  unfold AT ATQ
  generalize (∑ k : Fin 5120, _ : EReal) = A
  rw [mul_right_comm, mul_assoc A]

/-- Result 1 after the run. -/
theorem final5 (c : Dev nD) : (dats m 0 c).arrAt 5 cfg0.N
    = REF5 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 5 cfg0.N = out0_5 (iblk m c 0 t0_0) (iblk m c 1 t0_0) (iblk m c 2 t0_0) (iblk m c 3 t0_0) (iblk m c 4 t0_0) := by
    refine (dats m 0 c).arrAt_eq_of_after_last 5 t0_0 (by decide +kernel) _ fun y => ?_
    blk_simp
    rw [after0_5]
    blk_ext [idx t0_0]
  rw [h]
  frame_out
  funext y
  obtain ⟨a, b, h, l, i, rfl⟩ : ∃ (a : Fin 4) (b : Fin 16) (h : Fin 40) (l : Fin 128) (i : Fin 256), y = ix5 a b h l i :=
    ⟨y 0, y 1, y 2, y 3, y 4, by ext a; fin_cases a <;> rfl⟩
  rw [pay4_at, MTQ_eq]
  rfl

/-- Result 2 after the run. -/
theorem final6 (c : Dev nD) : (dats m 0 c).arrAt 6 cfg0.N
    = REF6 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 6 cfg0.N = out0_6 (iblk m c 0 t0_0) (iblk m c 1 t0_0) (iblk m c 2 t0_0) (iblk m c 3 t0_0) (iblk m c 4 t0_0) := by
    refine (dats m 0 c).arrAt_eq_of_after_last 6 t0_0 (by decide +kernel) _ fun y => ?_
    blk_simp
    rw [after0_6]
    blk_ext [idx t0_0]
  rw [h]
  frame_out
  funext y
  obtain ⟨i, j, rfl⟩ : ∃ (i : Fin 16384) (j : Fin 1024), y = ix2 i j := ⟨y 0, y 1, by ext a; fin_cases a <;> rfl⟩
  rw [pay5_at, MT_eq]
  rfl

/-- Result 3 after the run. -/
theorem final7 (c : Dev nD) : (dats m 0 c).arrAt 7 cfg0.N
    = REF7 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 7 cfg0.N = out0_7 (iblk m c 0 t0_0) (iblk m c 1 t0_0) (iblk m c 2 t0_0) (iblk m c 3 t0_0) (iblk m c 4 t0_0) := by
    refine (dats m 0 c).arrAt_eq_of_after_last 7 t0_0 (by decide +kernel) _ fun y => ?_
    blk_simp
    rw [after0_7]
    blk_ext [idx t0_0]
  rw [h]
  frame_out
  rw [pay7_eq, pay18_eq, pay19_eq]
  funext y
  obtain ⟨i, j, rfl⟩ : ∃ (i : Fin 16384) (j : Fin 1024), y = ix2 i j := ⟨y 0, y 1, by ext a; fin_cases a <;> rfl⟩
  refine (codes_at (MT (iblk m c 0 t0_0) (iblk m c 3 t0_0) (iblk m c 1 t0_0) (iblk m c 4 t0_0)) (k0_pay2 (iblk m c 0 t0_0) (iblk m c 3 t0_0) (iblk m c 1 t0_0) (iblk m c 4 t0_0)) 5120 (by norm_num) (fun i j => pay2_at _ _ _ _ i j) i j).trans ?_
  rw [MT_eq]
  rfl

/-- Result 4 after the run. -/
theorem final8 (c : Dev nD) : (dats m 0 c).arrAt 8 cfg0.N
    = REF8 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 8 cfg0.N = out0_8 (iblk m c 0 t0_0) (iblk m c 1 t0_0) (iblk m c 2 t0_0) (iblk m c 3 t0_0) (iblk m c 4 t0_0) := by
    refine (dats m 0 c).arrAt_eq_of_after_last 8 t0_0 (by decide +kernel) _ fun y => ?_
    blk_simp
    rw [after0_8]
    blk_ext [idx t0_0]
  rw [h]
  frame_out
  rw [pay18_eq, pay19_eq]
  funext y
  obtain ⟨i, j, rfl⟩ : ∃ (i : Fin 16384) (j : Fin 8), y = ix2 i j := ⟨y 0, y 1, by ext a; fin_cases a <;> rfl⟩
  refine (scales_at (MT (iblk m c 0 t0_0) (iblk m c 3 t0_0) (iblk m c 1 t0_0) (iblk m c 4 t0_0)) (k0_pay2 (iblk m c 0 t0_0) (iblk m c 3 t0_0) (iblk m c 1 t0_0) (iblk m c 4 t0_0)) 5120 (by norm_num) (fun i j => pay2_at _ _ _ _ i j) i j).trans ?_
  rw [MT_eq]
  rfl

/-- Result 5 after the run. -/
theorem final9 (c : Dev nD) : (dats m 0 c).arrAt 9 cfg0.N
    = REF9 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 9 cfg0.N = out0_9 (iblk m c 0 t0_0) (iblk m c 1 t0_0) (iblk m c 2 t0_0) (iblk m c 3 t0_0) (iblk m c 4 t0_0) := by
    refine (dats m 0 c).arrAt_eq_of_after_last 9 t0_0 (by decide +kernel) _ fun y => ?_
    blk_simp
    rw [after0_9]
    blk_ext [idx t0_0]
  rw [h]
  frame_out
  funext y
  obtain ⟨a, b, j, i, rfl⟩ : ∃ (a : Fin 4) (b : Fin 16) (j : Fin 1024) (i : Fin 256), y = ix4 a b j i :=
    ⟨y 0, y 1, y 2, y 3, by ext a; fin_cases a <;> rfl⟩
  rw [pay6_at, MT_eq]
  rfl

/-- Result 6 after the run. -/
theorem final10 (c : Dev nD) : (dats m 0 c).arrAt 10 cfg0.N
    = REF10 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 10 cfg0.N = out0_10 (iblk m c 0 t0_0) (iblk m c 1 t0_0) (iblk m c 2 t0_0) (iblk m c 3 t0_0) (iblk m c 4 t0_0) := by
    refine (dats m 0 c).arrAt_eq_of_after_last 10 t0_0 (by decide +kernel) _ fun y => ?_
    blk_simp
    rw [after0_10]
    blk_ext [idx t0_0]
  rw [h]
  frame_out
  rw [pay17_eq, pay15_eq]
  funext y
  obtain ⟨i, j, rfl⟩ : ∃ (i : Fin 16384) (j : Fin 1024), y = ix2 i j := ⟨y 0, y 1, by ext a; fin_cases a <;> rfl⟩
  refine (codes_at (MT (iblk m c 0 t0_0) (iblk m c 3 t0_0) (iblk m c 1 t0_0) (iblk m c 4 t0_0)) (k0_pay3 (iblk m c 0 t0_0) (iblk m c 3 t0_0) (iblk m c 1 t0_0) (iblk m c 4 t0_0)) 6144 (by norm_num) (fun i j => pay3_at _ _ _ _ i j) i j).trans ?_
  rw [MT_eq]
  rfl

/-- Result 7 after the run. -/
theorem final11 (c : Dev nD) : (dats m 0 c).arrAt 11 cfg0.N
    = REF11 (m ((c : Thread nD τ).loc main_arg0)) (m ((c : Thread nD τ).loc main_arg1)) (TEMP (m ((c : Thread nD τ).loc main_arg2)))
        (m ((c : Thread nD τ).loc main_arg3)) (m ((c : Thread nD τ).loc main_arg4)) := by
  have h : (dats m 0 c).arrAt 11 cfg0.N = out0_11 (iblk m c 0 t0_0) (iblk m c 1 t0_0) (iblk m c 2 t0_0) (iblk m c 3 t0_0) (iblk m c 4 t0_0) := by
    refine (dats m 0 c).arrAt_eq_of_after_last 11 t0_0 (by decide +kernel) _ fun y => ?_
    blk_simp
    rw [after0_11]
    blk_ext [idx t0_0]
  rw [h]
  frame_out
  rw [pay17_eq, pay16_eq]
  funext y
  obtain ⟨i, j, rfl⟩ : ∃ (i : Fin 16384) (j : Fin 8), y = ix2 i j := ⟨y 0, y 1, by ext a; fin_cases a <;> rfl⟩
  refine (scales_at (MT (iblk m c 0 t0_0) (iblk m c 3 t0_0) (iblk m c 1 t0_0) (iblk m c 4 t0_0)) (k0_pay3 (iblk m c 0 t0_0) (iblk m c 3 t0_0) (iblk m c 1 t0_0) (iblk m c 4 t0_0)) 6144 (by norm_num) (fun i j => pay3_at _ _ _ _ i j) i j).trans ?_
  rw [MT_eq]
  rfl

end Cert.GlobalQkvMathIdeal.Blocks

end
-- ==== Proof.GlobalQkvClaim.lean ====
/- The claims about the global query/key/value projection. -/
module

public import proofs.«01_k».proof.Defs
public import proofs.«01_k».proof.Proof.Gen.GlobalQkv.Frame
public import proofs.«01_k».proof.Proof.GlobalQkvArray
public import proofs.«01_k».proof.Proof.GlobalQkvMath
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 4000000 in
/-- Over the reals the global query/key/value projection and its plain statement leave the same seven arrays. -/
theorem global_qkv : algebraic_GlobalQkvIdeal_GlobalQkvMathIdeal (hGlobalQkvIdeal := Cert.GlobalQkvIdeal.Gen.facts) (hGlobalQkvMathIdeal := Cert.GlobalQkvMathIdeal.Gen.facts) := by
  intro m g m' g' _ hagree
  refine ⟨fun c => (Cert.GlobalQkvIdeal.Gen.dats m 0 c).arrAt 5 Cert.GlobalQkvIdeal.cfg0.N, fun c => (Cert.GlobalQkvIdeal.Gen.dats m 0 c).arrAt 6 Cert.GlobalQkvIdeal.cfg0.N,
    fun c => (Cert.GlobalQkvIdeal.Gen.dats m 0 c).arrAt 7 Cert.GlobalQkvIdeal.cfg0.N, fun c => (Cert.GlobalQkvIdeal.Gen.dats m 0 c).arrAt 8 Cert.GlobalQkvIdeal.cfg0.N,
    fun c => (Cert.GlobalQkvIdeal.Gen.dats m 0 c).arrAt 9 Cert.GlobalQkvIdeal.cfg0.N, fun c => (Cert.GlobalQkvIdeal.Gen.dats m 0 c).arrAt 10 Cert.GlobalQkvIdeal.cfg0.N,
    fun c => (Cert.GlobalQkvIdeal.Gen.dats m 0 c).arrAt 11 Cert.GlobalQkvIdeal.cfg0.N,
    (θ_run _ _ _).mono (fun r h c => h c) (Cert.GlobalQkvIdeal.Value.run_blocks m g),
    (θ_run _ _ _).mono (fun r h c => ⟨(h c).1.trans ((Cert.GlobalQkvMathIdeal.Blocks.final5 m' c).trans ?_),
      (h c).2.1.trans ((Cert.GlobalQkvMathIdeal.Blocks.final6 m' c).trans ?_),
      (h c).2.2.1.trans ((Cert.GlobalQkvMathIdeal.Blocks.final7 m' c).trans ?_),
      (h c).2.2.2.1.trans ((Cert.GlobalQkvMathIdeal.Blocks.final8 m' c).trans ?_),
      (h c).2.2.2.2.1.trans ((Cert.GlobalQkvMathIdeal.Blocks.final9 m' c).trans ?_),
      (h c).2.2.2.2.2.1.trans ((Cert.GlobalQkvMathIdeal.Blocks.final10 m' c).trans ?_),
      (h c).2.2.2.2.2.2.1.trans ((Cert.GlobalQkvMathIdeal.Blocks.final11 m' c).trans ?_),
      (h c).2.2.2.2.2.2.2⟩) (Cert.GlobalQkvMathIdeal.Value.run_blocks m' g')⟩
  all_goals
    obtain ⟨h0, h1, h2, h3, h4⟩ := hagree c
    rw [h0, h1, h2, h3, h4]
  · exact (Cert.GlobalQkvIdeal.Blocks.final5 m c).symm
  · exact (Cert.GlobalQkvIdeal.Blocks.final6 m c).symm
  · exact (Cert.GlobalQkvIdeal.Blocks.final7 m c).symm
  · exact (Cert.GlobalQkvIdeal.Blocks.final8 m c).symm
  · exact (Cert.GlobalQkvIdeal.Blocks.final9 m c).symm
  · exact (Cert.GlobalQkvIdeal.Blocks.final10 m c).symm
  · exact (Cert.GlobalQkvIdeal.Blocks.final11 m c).symm

end Cert.Proof

end
-- ==== Proof.LocalCommon.lean ====
/- One row of the local layer's normalisation, projection and rotary turn, over the reals. -/
module

public import proofs.«01_k».proof.Proof.Common

@[expose] public section

noncomputable section

open Idealize.ShloMosaic

namespace Cert.Common

/-- A row over its root mean square, times the norm's weight. -/
def NRM (x nw : Fin 5120 → EReal) (j : Fin 5120) : EReal :=
  Ideal.div (x j) (Ideal.sqrt (Ideal.div (∑ k : Fin 5120, x k * x k) (Ideal.ofBits .f32 0x45A00000#32) + Ideal.ofBits .f32 0x3727C5AC#32)) * nw j

/-- The row's quantiser scale. -/
def NSC (x nw : Fin 5120 → EReal) : EReal := SC (NRM x nw)

/-- The row's codes. -/
def NCODE (x nw : Fin 5120 → EReal) (j : Fin 5120) : EReal := CODE (NSC x nw) (NRM x nw j)

/-- A projected row: codes times the weight, times the row's scale, times the column's scale. -/
def PROJ (cd : Fin 5120 → EReal) (s : EReal) (w : Fin 5120 → Fin 7168 → EReal) (ws : Fin 7168 → EReal) (j : Fin 7168) : EReal :=
  (∑ k : Fin 5120, cd k * w k j) * s * ws j

/-- The rotary turn of one head: lanes `2 p` and `2 p + 1` are turned by the angle whose cosine and sine are `c p` and `s p`. -/
def ROT (u : Fin 128 → EReal) (c s : Fin 64 → EReal) (j : Fin 128) : EReal :=
  if j.val % 2 = 0 then u j * c ⟨j.val / 2, by omega⟩ - u ⟨(j.val + 1) % 128, by omega⟩ * s ⟨j.val / 2, by omega⟩
  else u ⟨j.val - 1, by omega⟩ * s ⟨j.val / 2, by omega⟩ + u j * c ⟨j.val / 2, by omega⟩

/-- One head's row over its root mean square. -/
def HN (r : Fin 128 → EReal) (j : Fin 128) : EReal :=
  Ideal.div (r j) (Ideal.sqrt (Ideal.div (∑ k : Fin 128, r k * r k) (Ideal.ofBits .f32 0x43000000#32) + Ideal.ofBits .f32 0x358637BD#32))

/-- A head of queries or keys: columns `o` to `o + 128` of the projected row, turned and normalised. -/
def HEAD (p : Fin 7168 → EReal) (c s : Fin 64 → EReal) (o : ℕ) (h : o + 128 ≤ 7168) (j : Fin 128) : EReal :=
  HN (ROT (fun l => p ⟨o + l.val, by omega⟩) c s) j

end Cert.Common

end
-- ==== Proof.LocalQkvTiles.lean ====
/- Pieces of what the local query/key/value projection stores, over the reals, at one index. -/
module

public import proofs.«01_k».proof.Proof.Gen.LocalQkvIdeal.Value
public import proofs.«01_k».proof.Proof.LocalCommon

@[expose] public section

set_option maxRecDepth 16384

noncomputable section

open Idealize.ShloMosaic Idealize.ShloMosaic.TcCoe Idealize.SL.Sem
open Idealize.ShloMosaic.Pipeline (Dat)
open Cert.Common

namespace Cert.LocalQkvIdeal.Blocks

open Cert.LocalQkvIdeal Cert.LocalQkvIdeal.Gen

/-- A slice's rows over their root mean square, times the norm's weight. -/
theorem nrm_at (v : Vec Ideal S32x5120 .bf16) (nw : Vec Ideal S1x5120 .f32) (i : Fin 32) (j : Fin 5120) :
    k0_pay8 (F := Ideal) v nw (ix2 i j) = NRM (fun k => v (ix2 i k)) (fun k => nw (ix2 0 k)) j := by
  pointwise [k0_pay8, NRM]
  first | done | rfl | blk_point

/-- A slice's scales. -/
theorem sc_at (v : Vec Ideal S32x5120 .bf16) (nw : Vec Ideal S1x5120 .f32) (i : Fin 32) :
    k0_pay9 (F := Ideal) v nw (ix2 i 0) = NSC (fun k => v (ix2 i k)) (fun k => nw (ix2 0 k)) := by
  pointwise [k0_pay9, nrm_at]
  simp only [Scalar.select, NSC, SC, AMAX]
  by_cases h : Finset.fold max (Ideal.ofBits .f32 0xFF800000#32) (fun x : Fin 5120 => FloatOps.absf (F := Ideal) (φ := .f32) (NRM (fun k => v (ix2 i k)) (fun k => nw (ix2 0 k)) x)) Finset.univ = 0
  · simp [h]
  · simp [h]

/-- A slice's codes. -/
theorem code_at (v : Vec Ideal S32x5120 .bf16) (nw : Vec Ideal S1x5120 .f32) (i : Fin 32) (j : Fin 5120) :
    k0_pay10 (F := Ideal) v nw (ix2 i j) = NCODE (fun k => v (ix2 i k)) (fun k => nw (ix2 0 k)) j := by
  pointwise [k0_pay10, nrm_at, sc_at]
  rfl

/-- A slice's scales, on every lane. -/
theorem rs_at (v : Vec Ideal S32x5120 .bf16) (nw : Vec Ideal S1x5120 .f32) (i : Fin 32) (l : Fin 128) :
    k0_pay13 (F := Ideal) (k0_pay12 (F := Ideal) v nw) (ix2 i l) = NSC (fun k => v (ix2 i k)) (fun k => nw (ix2 0 k)) := by
  pointwise [k0_pay13, k0_pay12, sc_at]

/-- The lane next to each lane: 0 with 1, 2 with 3 and so on. -/
def XI : IVec S256x128 32 :=
  have v65 : IVec S256x128 32 := iota .tc S256x128 32 [1] iota_S256x128_d1_w32
  have v66 : IVec S256x128 32 := broadcast S256x128 1#32
  have v67 : IVec S256x128 32 := xori v65 v66
  have v68 : IVec S256x128 32 := broadcast S256x128 0#32
  have v69 : IVec S256x128 1 := cmpi .slt v67 v68
  have v70 : IVec S256x128 32 := broadcast S256x128 128#32
  have v71 : IVec S256x128 32 := addi v67 v70
  have v72 : IVec S256x128 32 := select v69 v71 v67
  have v73 : IVec S256x128x1 32 := shapeCast S256x128x1 v72 shapeCasts_S256x128_S256x128x1
  shapeCast S256x128 v73 shapeCasts_S256x128x1_S256x128

/-- Half of each lane's number. -/
def HI : IVec S256x128 32 :=
  have v51 : IVec S256x128x1 32 := shapeCast S256x128x1 k0_pay60 shapeCasts_S256x128_S256x128x1
  shapeCast S256x128 v51 shapeCasts_S256x128x1_S256x128

/-- That table at one index. -/
theorem XI_at (i : Fin 256) (j : Fin 128) : (XI (ix2 i j)).toNat % 128 = if j.val % 2 = 0 then j.val + 1 else j.val - 1 := by
  pointwise [XI]
  revert j
  decide +kernel

/-- That table at one index. -/
theorem HI_at (i : Fin 256) (j : Fin 128) : (HI (ix2 i j)).toNat % 128 = j.val / 2 := by
  pointwise [HI, k0_pay60, k0_pay56]
  revert j
  decide +kernel
/-- A gather along the lanes at one index. -/
theorem gather_at (x : FVec Ideal S256x128 .f32) (idx : IVec S256x128 32) (i : Fin 256) (j : Fin 128) (n : ℕ) (hn : n < 128)
    (h : (idx (ix2 i j)).toNat % 128 = n) : dynamicGather 1 x idx (ix2 i j) = x (ix2 i ⟨n, hn⟩) := by
  subst h
  refine congrArg x (funext fun a => ?_)
  fin_cases a <;> rfl

/-- The cosines on every lane: lane `j` has that of pair `j / 2`. -/
theorem cos_at (c : Vec Ideal S256x64 .f32) (i : Fin 256) (j : Fin 128) :
    k0_pay58 (F := Ideal) c (ix2 i j) = c (ix2 i ⟨j.val / 2, by omega⟩) := by
  have e : k0_pay58 (F := Ideal) c = dynamicGather 1 (concatenate S256x128 1 [⟨S256x64, shapeCast S256x64 c shapeCasts_S256x64_S256x64⟩,
      ⟨S256x64, shapeCast S256x64 c shapeCasts_S256x64_S256x64⟩] concatenates_S256x64_S256x64_S256x128_d1) HI := rfl
  rw [e]
  refine (gather_at _ HI i j (j.val / 2) (by omega) (HI_at i j)).trans ?_
  pointwise
  first | done | blk_point

/-- The sines on every lane, with a minus on the even ones. -/
theorem sin_at (s : Vec Ideal S256x64 .f32) (i : Fin 256) (j : Fin 128) :
    k0_pay61 (F := Ideal) k0_pay57 (k0_pay59 s) k0_pay60 (ix2 i j)
    = s (ix2 i ⟨j.val / 2, by omega⟩) * (if j.val % 2 = 0 then -1 else 1) := by
  refine congrArg₂ (fun a b : EReal => a * b) ((gather_at _ HI i j (j.val / 2) (by omega) (HI_at i j)).trans ?_) ?_
  · pointwise [k0_pay59]
    first | done | blk_point
  · pointwise [k0_pay57]
    simp only [Scalar.select]
    rw [show Ideal.ofBits .f32 3212836864#32 = -1 from IdealRules.sign_bit.ideal_negOnePat .f32]
    revert j
    have h : ∀ j : Fin 128, (IntOp.cmpi CmpIPredicate.eq (IntOp.andi (BitVec.ofNat 32 ↑j) 1#32) 0#32 = 1) ↔ j.val % 2 = 0 := by decide +kernel
    intro j
    simp only [h j]

/-- A head's rows turned by the rotary angles. -/
def RV (C S t : FVec Ideal S256x128 .f32) : FVec Ideal S256x128 .f32 :=
  addf (mulf t C) (mulf (dynamicGather 1 t XI) S)

/-- A head's rows over their root mean square. -/
def HV (v78 : FVec Ideal S256x128 .f32) : FVec Ideal S256x128 .bf16 :=
  have v79 : FVec Ideal S256x128 .f32 := mulf v78 v78
  have v80 : FVec Ideal S256 .f32 := multiReduction .add [1] S256 v79 0x00000000#32 reduces_S256x128_S256 (.inl rfl) rfl
  have v81 : FVec Ideal S256x1 .f32 := shapeCast S256x1 v80 shapeCasts_S256_S256x1
  have cst_38 : Ideal .f32 := Scalar.ofBits .f32 0x43000000#32
  have v82 : FVec Ideal S256x1 .f32 := broadcast S256x1 cst_38
  have v83 : FVec Ideal S256x1 .f32 := divf v81 v82
  have cst_39 : Ideal .f32 := Scalar.ofBits .f32 0x358637BD#32
  have v84 : FVec Ideal S256x1 .f32 := broadcast S256x1 cst_39
  have v85 : FVec Ideal S256x1 .f32 := addf v83 v84
  have v86 : FVec Ideal S256x1 .f32 := sqrt v85
  have v87 : FVec Ideal S256x128 .f32 := broadcastTo S256x128 v86 broadcasts_S256x1_S256x128
  have v88 : FVec Ideal S256x128 .f32 := divf v78 v87
  truncf .bf16 v88 bitsLt_bf16_f32

/-- That at one index. -/
theorem HV_at (r : FVec Ideal S256x128 .f32) (i : Fin 256) (j : Fin 128) : HV r (ix2 i j) = HN (fun l => r (ix2 i l)) j := by
  pointwise [HV, HN]

/-- That at one index. -/
theorem RV_at (c s : Vec Ideal S256x64 .f32) (t : FVec Ideal S256x128 .f32) (i : Fin 256) (j : Fin 128) :
    RV (k0_pay58 c) (k0_pay61 k0_pay57 (k0_pay59 s) k0_pay60) t (ix2 i j)
    = ROT (fun l => t (ix2 i l)) (fun p => c (ix2 i p)) (fun p => s (ix2 i p)) j := by
  have e : RV (k0_pay58 c) (k0_pay61 k0_pay57 (k0_pay59 s) k0_pay60) t (ix2 i j)
      = t (ix2 i j) * k0_pay58 (F := Ideal) c (ix2 i j) + dynamicGather 1 t XI (ix2 i j) * k0_pay61 (F := Ideal) k0_pay57 (k0_pay59 s) k0_pay60 (ix2 i j) := rfl
  rw [e, cos_at, sin_at]
  unfold ROT
  by_cases hp : j.val % 2 = 0
  · rw [gather_at t XI i j ((j.val + 1) % 128) (by omega) (by rw [XI_at, if_pos hp]; omega), if_pos hp, if_pos hp]
    rw [mul_neg, mul_one, mul_neg, sub_eq_add_neg]
  · rw [gather_at t XI i j (j.val - 1) (by omega) (by rw [XI_at, if_neg hp]), if_neg hp, if_neg hp]
    rw [mul_one, add_comm]

/-- A left half of a projected chunk of 256 columns: times the rows' scales, times the columns' scales. -/
def TLO (M : FVec Ideal S256x256 .f32) (rs : FVec Ideal S256x128 .f32) (ws : Vec Ideal S1x128 .f32) : FVec Ideal S256x128 .f32 :=
  mulf (mulf (extractStridedSlice S256x128 ![0, 0] M slices_S256x256_o0_0_S256x128) rs)
    (broadcastTo S256x128 (shapeCast S1x128 ws shapeCasts_S1x128_S1x128) broadcasts_S1x128_S256x128)

/-- A right half of such a chunk. -/
def THI (M : FVec Ideal S256x256 .f32) (rs : FVec Ideal S256x128 .f32) (ws : Vec Ideal S1x128 .f32) : FVec Ideal S256x128 .f32 :=
  mulf (mulf (extractStridedSlice S256x128 ![0, 128] M slices_S256x256_o0_128_S256x128) rs)
    (broadcastTo S256x128 (shapeCast S1x128 ws shapeCasts_S1x128_S1x128) broadcasts_S1x128_S256x128)

/-- That at one index. -/
theorem TLO_at (a : Vec Ideal S256x5120 .fp8e4m3) (w : Vec Ideal S5120x256 .fp8e4m3) (rs : FVec Ideal S256x128 .f32) (ws : Vec Ideal S1x128 .f32) (i : Fin 256) (j : Fin 128) :
    TLO (k0_pay62 (k0_pay54 a) w) (k0_pay55 rs) ws (ix2 i j) = (∑ k : Fin 5120, a (ix2 i k) * w (ix2 k ⟨j.val, by omega⟩)) * rs (ix2 i j) * ws (ix2 0 j) := by
  pointwise [TLO, k0_pay62, k0_pay54, k0_pay55]
  first | done | blk_point

/-- That at one index. -/
theorem THI_at (a : Vec Ideal S256x5120 .fp8e4m3) (w : Vec Ideal S5120x256 .fp8e4m3) (rs : FVec Ideal S256x128 .f32) (ws : Vec Ideal S1x128 .f32) (i : Fin 256) (j : Fin 128) :
    THI (k0_pay62 (k0_pay54 a) w) (k0_pay55 rs) ws (ix2 i j) = (∑ k : Fin 5120, a (ix2 i k) * w (ix2 k ⟨128 + j.val, by omega⟩)) * rs (ix2 i j) * ws (ix2 0 j) := by
  pointwise [THI, k0_pay62, k0_pay54, k0_pay55]
  first | done | blk_point

/-- A stored head of queries: the head turned to 128 by 256. -/
def QV (t : FVec Ideal S256x128 .bf16) : FVec Ideal S1x1x1x128x256 .bf16 :=
  shapeCast S1x1x1x128x256 (transpose S128x256 [1, 0] t transposes_S256x128_p1_0_S128x256) shapeCasts_S128x256_S1x1x1x128x256

/-- That at one index. -/
theorem QV_at (t : FVec Ideal S256x128 .bf16) (j : Fin 128) (i : Fin 256) : QV t (ix5 0 0 0 j i) = t (ix2 i j) := by
  pointwise [QV]

end Cert.LocalQkvIdeal.Blocks

end
-- ==== Proof.LocalQkvBlocks.lean ====
/- What the local query/key/value projection leaves in its blocks at one grid point, over the reals. -/
module

public import proofs.«01_k».proof.Proof.LocalQkvTiles

@[expose] public section

set_option maxRecDepth 16384

noncomputable section

open Idealize.ShloMosaic Idealize.ShloMosaic.TcCoe Idealize.SL.Sem
open Idealize.ShloMosaic.Pipeline (Dat)
open Cert.Common

namespace Cert.LocalQkvIdeal.Blocks

open Cert.LocalQkvIdeal Cert.LocalQkvIdeal.Gen

variable (m : (ℓ : Loc nD τ sig) → Buf (Elt Ideal) ℓ)

/-- A block's codes. -/
def CB (x0 : Vec Ideal S256x5120 .bf16) (x1 : Vec Ideal S1x5120 .f32) : Vec Ideal S256x5120 .fp8e4m3 :=
  fun y => NCODE (fun k => x0 (ix2 (y 0) k)) (fun k => x1 (ix2 0 k)) (y 1)

/-- A block's scales, on every lane. -/
def SB (x0 : Vec Ideal S256x5120 .bf16) (x1 : Vec Ideal S1x5120 .f32) : Vec Ideal S256x128 .f32 :=
  fun y => NSC (fun k => x0 (ix2 (y 0) k)) (fun k => x1 (ix2 0 k))

/-- A block's scales, as a row. -/
def SR (x0 : Vec Ideal S256x5120 .bf16) (x1 : Vec Ideal S1x5120 .f32) : Vec Ideal S1x1x256 .f32 :=
  fun y => NSC (fun k => x0 (ix2 (y 2) k)) (fun k => x1 (ix2 0 k))

/-- A row of a slice is a row of the block. -/
theorem ld_row (x0 : Vec Ideal S256x5120 .bf16) (o : ℕ) (hl : ∀ a, (![o, 0] : Fin 2 → ℕ) a + S32x5120.size a ≤ S256x5120.size a) (i : Fin 32) (k : Fin 5120) (n : Fin 256) (hn : n.val = o + i.val) :
    View.ld x0 (Rect.unit (s := S256x5120) ![o, 0] S32x5120.size hl) (ix2 i k) = x0 (ix2 n k) := by
  refine View.ld_unit_apply_of _ _ _ _ _ _ fun a => ?_
  fin_cases a <;> simp [ix2, Rect.emb_apply, Rect.unit] <;> omega

/-- A stored slice of codes, from the block. -/
theorem c_piece (x0 : Vec Ideal S256x5120 .bf16) (x1 : Vec Ideal S1x5120 .f32) (o : ℕ)
    (hl hh : ∀ a, (![o, 0] : Fin 2 → ℕ) a + S32x5120.size a ≤ S256x5120.size a) (x : S32x5120.Idx) :
    k0_pay10 (View.ld x0 (Rect.unit (s := S256x5120) ![o, 0] S32x5120.size hl)) x1 x
    = CB x0 x1 ((Rect.unit (s := S256x5120) ![o, 0] S32x5120.size hh).emb x) := by
  obtain ⟨i, j, rfl⟩ : ∃ (i : Fin 32) (j : Fin 5120), x = ix2 i j := ⟨x 0, x 1, by ext a; fin_cases a <;> rfl⟩
  have h0 := hh 0
  have he : (Rect.unit (s := S256x5120) ![o, 0] S32x5120.size hh).emb (ix2 i j) = ix2 ⟨o + i.val, by have := i.isLt; simp at h0; omega⟩ j :=
    funext fun a => Fin.ext (by
      refine (Rect.idx_unit_val _ _ _ _ _).trans ?_
      fin_cases a <;> simp [ix2])
  rw [he, code_at]
  simp only [fun k => ld_row x0 o hl i k ⟨o + i.val, by have := i.isLt; simp at h0; omega⟩ rfl]
  rfl

/-- A stored slice of scales, from the block. -/
theorem s_piece (x0 : Vec Ideal S256x5120 .bf16) (x1 : Vec Ideal S1x5120 .f32) (o : ℕ)
    (hl : ∀ a, (![o, 0] : Fin 2 → ℕ) a + S32x5120.size a ≤ S256x5120.size a) (hh : ∀ a, (![o, 0] : Fin 2 → ℕ) a + S32x128.size a ≤ S256x128.size a) (x : S32x128.Idx) :
    k0_pay13 (k0_pay12 (View.ld x0 (Rect.unit (s := S256x5120) ![o, 0] S32x5120.size hl)) x1) x
    = SB x0 x1 ((Rect.unit (s := S256x128) ![o, 0] S32x128.size hh).emb x) := by
  obtain ⟨i, j, rfl⟩ : ∃ (i : Fin 32) (j : Fin 128), x = ix2 i j := ⟨x 0, x 1, by ext a; fin_cases a <;> rfl⟩
  have h0 := hh 0
  have he : (Rect.unit (s := S256x128) ![o, 0] S32x128.size hh).emb (ix2 i j) = ix2 ⟨o + i.val, by have := i.isLt; simp at h0; omega⟩ j :=
    funext fun a => Fin.ext (by
      refine (Rect.idx_unit_val _ _ _ _ _).trans ?_
      fin_cases a <;> simp [ix2])
  rw [he, rs_at]
  simp only [fun k => ld_row x0 o hl i k ⟨o + i.val, by have := i.isLt; simp at h0; omega⟩ rfl]
  rfl

/-- A column of scales turned into a row. -/
theorem row_at (v : Vec Ideal S256x1 .f32) (i : Fin 256) : k0_pay7 v (ix3 0 0 i) = v (ix2 i 0) := by
  pointwise [k0_pay7]

/-- The same codes written through a cast to their own shape. -/
theorem c_same (v : Vec Ideal S32x5120 .bf16) (x1 : Vec Ideal S1x5120 .f32) : k0_pay11 v x1 = k0_pay10 (F := Ideal) v x1 := by
  funext x
  obtain ⟨i, j, rfl⟩ : ∃ (i : Fin 32) (j : Fin 5120), x = ix2 i j := ⟨x 0, x 1, by ext a; fin_cases a <;> rfl⟩
  pointwise [k0_pay11]

/-- A stored slice of codes for the next point, from the block. -/
theorem n_piece (x0 : Vec Ideal S256x5120 .bf16) (x1 : Vec Ideal S1x5120 .f32) (o : ℕ)
    (hl hh : ∀ a, (![o, 0] : Fin 2 → ℕ) a + S32x5120.size a ≤ S256x5120.size a) (x : S32x5120.Idx) :
    k0_pay11 (View.ld x0 (Rect.unit (s := S256x5120) ![o, 0] S32x5120.size hl)) x1 x
    = CB x0 x1 ((Rect.unit (s := S256x5120) ![o, 0] S32x5120.size hh).emb x) := by
  rw [c_same]
  exact c_piece x0 x1 o hl hh x

/-- The stored codes. -/
theorem outA_6 (c : Dev nD) (t : Fin cfg0.N) (h0 : t.val % 65 = 0) (h1 : ¬1 ≤ t.val) :
    (outsAt0 m c t.val t.isLt).1 = CB (iblk m c 0 t) (iblk m c 1 t) := by
  rw [outsAt0_A m c t h0 h1]
  frame_out
  funext y
  refine View.canon_apply_of_pieces (CB (iblk m c 0 t) (iblk m c 1 t)) _ ?_ y (View.cover_of_tiledL (s := S256x5120) _ S32x5120.size (by sl_kernel_rfl) y)
  simp only [List.forall_mem_cons]
  exact ⟨c_piece (iblk m c 0 t) (iblk m c 1 t) 224 _ _, c_piece (iblk m c 0 t) (iblk m c 1 t) 192 _ _, c_piece (iblk m c 0 t) (iblk m c 1 t) 160 _ _, c_piece (iblk m c 0 t) (iblk m c 1 t) 128 _ _, c_piece (iblk m c 0 t) (iblk m c 1 t) 96 _ _, c_piece (iblk m c 0 t) (iblk m c 1 t) 64 _ _, c_piece (iblk m c 0 t) (iblk m c 1 t) 32 _ _, c_piece (iblk m c 0 t) (iblk m c 1 t) 0 _ _,
    fun _ h => absurd h List.not_mem_nil⟩

/-- The codes kept for the next point. -/
theorem outA_s1 (c : Dev nD) (t : Fin cfg0.N) (h0 : t.val % 65 = 0) (h1 : ¬1 ≤ t.val) :
    (outsAt0 m c t.val t.isLt).2.2.2.2.2.2.1 = CB (iblk m c 0 t) (iblk m c 1 t) := by
  rw [outsAt0_A m c t h0 h1]
  frame_out
  funext y
  refine View.canon_apply_of_pieces (CB (iblk m c 0 t) (iblk m c 1 t)) _ ?_ y (View.cover_of_tiledL (s := S256x5120) _ S32x5120.size (by sl_kernel_rfl) y)
  simp only [List.forall_mem_cons]
  exact ⟨n_piece (iblk m c 0 t) (iblk m c 1 t) 224 _ _, n_piece (iblk m c 0 t) (iblk m c 1 t) 192 _ _, n_piece (iblk m c 0 t) (iblk m c 1 t) 160 _ _, n_piece (iblk m c 0 t) (iblk m c 1 t) 128 _ _, n_piece (iblk m c 0 t) (iblk m c 1 t) 96 _ _, n_piece (iblk m c 0 t) (iblk m c 1 t) 64 _ _, n_piece (iblk m c 0 t) (iblk m c 1 t) 32 _ _, n_piece (iblk m c 0 t) (iblk m c 1 t) 0 _ _,
    fun _ h => absurd h List.not_mem_nil⟩

/-- The scales kept for the next point. -/
theorem outA_s3 (c : Dev nD) (t : Fin cfg0.N) (h0 : t.val % 65 = 0) (h1 : ¬1 ≤ t.val) :
    (outsAt0 m c t.val t.isLt).2.2.2.2.2.2.2 = SB (iblk m c 0 t) (iblk m c 1 t) := by
  rw [outsAt0_A m c t h0 h1]
  frame_out
  funext y
  refine View.canon_apply_of_pieces (SB (iblk m c 0 t) (iblk m c 1 t)) _ ?_ y (View.cover_of_tiledL (s := S256x128) _ S32x128.size (by sl_kernel_rfl) y)
  simp only [List.forall_mem_cons]
  exact ⟨s_piece (iblk m c 0 t) (iblk m c 1 t) 224 _ _, s_piece (iblk m c 0 t) (iblk m c 1 t) 192 _ _, s_piece (iblk m c 0 t) (iblk m c 1 t) 160 _ _, s_piece (iblk m c 0 t) (iblk m c 1 t) 128 _ _, s_piece (iblk m c 0 t) (iblk m c 1 t) 96 _ _, s_piece (iblk m c 0 t) (iblk m c 1 t) 64 _ _, s_piece (iblk m c 0 t) (iblk m c 1 t) 32 _ _, s_piece (iblk m c 0 t) (iblk m c 1 t) 0 _ _,
    fun _ h => absurd h List.not_mem_nil⟩

/-- The stored row of scales. -/
theorem outA_7 (c : Dev nD) (t : Fin cfg0.N) (h0 : t.val % 65 = 0) (h1 : ¬1 ≤ t.val) :
    (outsAt0 m c t.val t.isLt).2.1 = SR (iblk m c 0 t) (iblk m c 1 t) := by
  rw [outsAt0_A m c t h0 h1]
  frame_out
  rw [View.readCov_eq_canon']
  funext y
  obtain ⟨i, rfl⟩ : ∃ i : Fin 256, y = ix3 0 0 i :=
    ⟨y 2, by ext a; fin_cases a <;> first | rfl | exact congrArg Fin.val (Subsingleton.elim (α := Fin 1) _ _)⟩
  rw [row_at]
  refine (View.canon_apply_of_pieces (SB (iblk m c 0 t) (iblk m c 1 t)) _ ?_ _ (View.cover_of_tiledL (s := S256x128) _ S32x128.size (by sl_kernel_rfl) _)).trans ?_
  · simp only [List.forall_mem_cons]
    exact ⟨s_piece (iblk m c 0 t) (iblk m c 1 t) 224 _ _, s_piece (iblk m c 0 t) (iblk m c 1 t) 192 _ _, s_piece (iblk m c 0 t) (iblk m c 1 t) 160 _ _, s_piece (iblk m c 0 t) (iblk m c 1 t) 128 _ _, s_piece (iblk m c 0 t) (iblk m c 1 t) 96 _ _, s_piece (iblk m c 0 t) (iblk m c 1 t) 64 _ _, s_piece (iblk m c 0 t) (iblk m c 1 t) 32 _ _, s_piece (iblk m c 0 t) (iblk m c 1 t) 0 _ _,
      fun _ h => absurd h List.not_mem_nil⟩
  · refine congrArg (fun n : Fin 256 => NSC (fun k => iblk m c 0 t (ix2 n k)) (fun k => iblk m c 1 t (ix2 0 k))) (Fin.ext ?_)
    refine (Rect.idx_unit_val _ _ _ _ _).trans ?_
    simp [ix2]

/-- The stored codes. -/
theorem outB_6 (c : Dev nD) (t : Fin cfg0.N) (h0 : ¬t.val % 65 = 0) (h1 : 1 ≤ t.val) :
    (outsAt0 m c t.val t.isLt).1 = CB (iblk m c 0 t) (iblk m c 1 t) := by
  rw [outsAt0_B m c t h0 h1]
  frame_out
  funext y
  refine View.canon_apply_of_pieces (CB (iblk m c 0 t) (iblk m c 1 t)) _ ?_ y (View.cover_of_tiledL (s := S256x5120) _ S32x5120.size (by sl_kernel_rfl) y)
  simp only [List.forall_mem_cons]
  exact ⟨c_piece (iblk m c 0 t) (iblk m c 1 t) 224 _ _, c_piece (iblk m c 0 t) (iblk m c 1 t) 192 _ _, c_piece (iblk m c 0 t) (iblk m c 1 t) 160 _ _, c_piece (iblk m c 0 t) (iblk m c 1 t) 128 _ _, c_piece (iblk m c 0 t) (iblk m c 1 t) 96 _ _, c_piece (iblk m c 0 t) (iblk m c 1 t) 64 _ _, c_piece (iblk m c 0 t) (iblk m c 1 t) 32 _ _, c_piece (iblk m c 0 t) (iblk m c 1 t) 0 _ _,
    fun _ h => absurd h List.not_mem_nil⟩

/-- The codes kept for the next point. -/
theorem outB_s1 (c : Dev nD) (t : Fin cfg0.N) (h0 : ¬t.val % 65 = 0) (h1 : 1 ≤ t.val) :
    (outsAt0 m c t.val t.isLt).2.2.2.2.2.2.1 = CB (iblk m c 0 t) (iblk m c 1 t) := by
  rw [outsAt0_B m c t h0 h1]
  frame_out
  funext y
  refine View.canon_apply_of_pieces (CB (iblk m c 0 t) (iblk m c 1 t)) _ ?_ y (View.cover_of_tiledL (s := S256x5120) _ S32x5120.size (by sl_kernel_rfl) y)
  simp only [List.forall_mem_cons]
  exact ⟨n_piece (iblk m c 0 t) (iblk m c 1 t) 224 _ _, n_piece (iblk m c 0 t) (iblk m c 1 t) 192 _ _, n_piece (iblk m c 0 t) (iblk m c 1 t) 160 _ _, n_piece (iblk m c 0 t) (iblk m c 1 t) 128 _ _, n_piece (iblk m c 0 t) (iblk m c 1 t) 96 _ _, n_piece (iblk m c 0 t) (iblk m c 1 t) 64 _ _, n_piece (iblk m c 0 t) (iblk m c 1 t) 32 _ _, n_piece (iblk m c 0 t) (iblk m c 1 t) 0 _ _,
    fun _ h => absurd h List.not_mem_nil⟩

/-- The scales kept for the next point. -/
theorem outB_s3 (c : Dev nD) (t : Fin cfg0.N) (h0 : ¬t.val % 65 = 0) (h1 : 1 ≤ t.val) :
    (outsAt0 m c t.val t.isLt).2.2.2.2.2.2.2 = SB (iblk m c 0 t) (iblk m c 1 t) := by
  rw [outsAt0_B m c t h0 h1]
  frame_out
  funext y
  refine View.canon_apply_of_pieces (SB (iblk m c 0 t) (iblk m c 1 t)) _ ?_ y (View.cover_of_tiledL (s := S256x128) _ S32x128.size (by sl_kernel_rfl) y)
  simp only [List.forall_mem_cons]
  exact ⟨s_piece (iblk m c 0 t) (iblk m c 1 t) 224 _ _, s_piece (iblk m c 0 t) (iblk m c 1 t) 192 _ _, s_piece (iblk m c 0 t) (iblk m c 1 t) 160 _ _, s_piece (iblk m c 0 t) (iblk m c 1 t) 128 _ _, s_piece (iblk m c 0 t) (iblk m c 1 t) 96 _ _, s_piece (iblk m c 0 t) (iblk m c 1 t) 64 _ _, s_piece (iblk m c 0 t) (iblk m c 1 t) 32 _ _, s_piece (iblk m c 0 t) (iblk m c 1 t) 0 _ _,
    fun _ h => absurd h List.not_mem_nil⟩

/-- The stored row of scales. -/
theorem outB_7 (c : Dev nD) (t : Fin cfg0.N) (h0 : ¬t.val % 65 = 0) (h1 : 1 ≤ t.val) :
    (outsAt0 m c t.val t.isLt).2.1 = SR (iblk m c 0 t) (iblk m c 1 t) := by
  rw [outsAt0_B m c t h0 h1]
  frame_out
  rw [View.readCov_eq_canon']
  funext y
  obtain ⟨i, rfl⟩ : ∃ i : Fin 256, y = ix3 0 0 i :=
    ⟨y 2, by ext a; fin_cases a <;> first | rfl | exact congrArg Fin.val (Subsingleton.elim (α := Fin 1) _ _)⟩
  rw [row_at]
  refine (View.canon_apply_of_pieces (SB (iblk m c 0 t) (iblk m c 1 t)) _ ?_ _ (View.cover_of_tiledL (s := S256x128) _ S32x128.size (by sl_kernel_rfl) _)).trans ?_
  · simp only [List.forall_mem_cons]
    exact ⟨s_piece (iblk m c 0 t) (iblk m c 1 t) 224 _ _, s_piece (iblk m c 0 t) (iblk m c 1 t) 192 _ _, s_piece (iblk m c 0 t) (iblk m c 1 t) 160 _ _, s_piece (iblk m c 0 t) (iblk m c 1 t) 128 _ _, s_piece (iblk m c 0 t) (iblk m c 1 t) 96 _ _, s_piece (iblk m c 0 t) (iblk m c 1 t) 64 _ _, s_piece (iblk m c 0 t) (iblk m c 1 t) 32 _ _, s_piece (iblk m c 0 t) (iblk m c 1 t) 0 _ _,
      fun _ h => absurd h List.not_mem_nil⟩
  · refine congrArg (fun n : Fin 256 => NSC (fun k => iblk m c 0 t (ix2 n k)) (fun k => iblk m c 1 t (ix2 0 k))) (Fin.ext ?_)
    refine (Rect.idx_unit_val _ _ _ _ _).trans ?_
    simp [ix2]

end Cert.LocalQkvIdeal.Blocks

end
-- ==== Proof.LocalQkvHeads.lean ====
/- The heads the local query/key/value projection leaves in its blocks at one grid point, over the reals. -/
module

public import proofs.«01_k».proof.Proof.LocalQkvBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Common

namespace Cert.LocalQkvIdeal.Blocks

open Cert.LocalQkvIdeal Cert.LocalQkvIdeal.Gen

variable (m : (ℓ : Loc nD τ sig) → Buf (Elt Ideal) ℓ)

/-- Row `i` of a block's projection: `cur` holds its codes, `rs` its scales on every lane. -/
def T (cur : Vec Ideal S256x5120 .fp8e4m3) (rs : Vec Ideal S256x128 .f32) (w : Vec Ideal S5120x7168 .fp8e4m3) (ws : Vec Ideal S1x7168 .f32) (i : Fin 256) (j : Fin 7168) : EReal :=
  (∑ k : Fin 5120, cur (ix2 i k) * w (ix2 k j)) * rs (ix2 i ⟨j.val % 128, by omega⟩) * ws (ix2 0 j)

/-- The 128 columns of `f` from `off` on, as a tile. -/
def tileOf (f : Fin 256 → Fin 7168 → EReal) (off : ℕ) (h : off + 128 ≤ 7168) : FVec Ideal S256x128 .f32 :=
  fun y => f (y 0) ⟨off + (y 1).val, by have : (y 1).val < 128 := (y 1).isLt; omega⟩

/-- `tileOf` at one index. -/
theorem tileOf_at (f : Fin 256 → Fin 7168 → EReal) (off : ℕ) (h : off + 128 ≤ 7168) (i : Fin 256) (j : Fin 128) :
    tileOf f off h (ix2 i j) = f i ⟨off + j.val, by omega⟩ := rfl

/-- A left half of a chunk of 256 columns is 128 columns of the projection. -/
theorem tile_lo (cur : Vec Ideal S256x5120 .fp8e4m3) (rs : Vec Ideal S256x128 .f32) (w : Vec Ideal S5120x7168 .fp8e4m3) (ws : Vec Ideal S1x7168 .f32) (off off' n : ℕ) (ho : off' = off) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    TLO (k0_pay62 (k0_pay54 cur) (View.ld w (Rect.unit (s := S5120x7168) ![0, off] S5120x256.size hw))) (k0_pay55 rs) (View.ld ws (Rect.unit (s := S1x7168) ![0, off'] S1x128.size hs))
    = tileOf (T cur rs w ws) off' h := by
  funext y
  obtain ⟨i, j, rfl⟩ : ∃ (i : Fin 256) (j : Fin 128), y = ix2 i j := ⟨y 0, y 1, by ext a; fin_cases a <;> rfl⟩
  rw [TLO_at, tileOf_at]
  unfold T
  have e1 : ∀ k : Fin 5120, View.ld w (Rect.unit (s := S5120x7168) ![0, off] S5120x256.size hw) (ix2 k ⟨j.val, by omega⟩) = w (ix2 k ⟨off' + j.val, by omega⟩) := fun k => by
    refine View.ld_unit_apply_of _ _ _ _ _ _ fun a => ?_
    fin_cases a <;> simp [ix2, Rect.emb_apply, Rect.unit] <;> omega
  have e2 : View.ld ws (Rect.unit (s := S1x7168) ![0, off'] S1x128.size hs) (ix2 0 j) = ws (ix2 0 ⟨off' + j.val, by omega⟩) := by
    refine View.ld_unit_apply_of _ _ _ _ _ _ fun a => ?_
    fin_cases a <;> simp [ix2, Rect.emb_apply, Rect.unit] <;> omega
  rw [e2]
  simp only [e1]
  exact congrArg (fun l : Fin 128 => (∑ k : Fin 5120, cur (ix2 i k) * w (ix2 k ⟨off' + j.val, by omega⟩)) * rs (ix2 i l) * ws (ix2 0 ⟨off' + j.val, by omega⟩))
    (Fin.ext (by show j.val = (off' + j.val) % 128; have := j.isLt; omega))

/-- A right half of a chunk of 256 columns is 128 columns of the projection. -/
theorem tile_hi (cur : Vec Ideal S256x5120 .fp8e4m3) (rs : Vec Ideal S256x128 .f32) (w : Vec Ideal S5120x7168 .fp8e4m3) (ws : Vec Ideal S1x7168 .f32) (off off' n : ℕ) (ho : off' = off + 128) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168) :
    THI (k0_pay62 (k0_pay54 cur) (View.ld w (Rect.unit (s := S5120x7168) ![0, off] S5120x256.size hw))) (k0_pay55 rs) (View.ld ws (Rect.unit (s := S1x7168) ![0, off'] S1x128.size hs))
    = tileOf (T cur rs w ws) off' h := by
  funext y
  obtain ⟨i, j, rfl⟩ : ∃ (i : Fin 256) (j : Fin 128), y = ix2 i j := ⟨y 0, y 1, by ext a; fin_cases a <;> rfl⟩
  rw [THI_at, tileOf_at]
  unfold T
  have e1 : ∀ k : Fin 5120, View.ld w (Rect.unit (s := S5120x7168) ![0, off] S5120x256.size hw) (ix2 k ⟨128 + j.val, by omega⟩) = w (ix2 k ⟨off' + j.val, by omega⟩) := fun k => by
    refine View.ld_unit_apply_of _ _ _ _ _ _ fun a => ?_
    fin_cases a <;> simp [ix2, Rect.emb_apply, Rect.unit] <;> omega
  have e2 : View.ld ws (Rect.unit (s := S1x7168) ![0, off'] S1x128.size hs) (ix2 0 j) = ws (ix2 0 ⟨off' + j.val, by omega⟩) := by
    refine View.ld_unit_apply_of _ _ _ _ _ _ fun a => ?_
    fin_cases a <;> simp [ix2, Rect.emb_apply, Rect.unit] <;> omega
  rw [e2]
  simp only [e1]
  exact congrArg (fun l : Fin 128 => (∑ k : Fin 5120, cur (ix2 i k) * w (ix2 k ⟨off' + j.val, by omega⟩)) * rs (ix2 i l) * ws (ix2 0 ⟨off' + j.val, by omega⟩))
    (Fin.ext (by show j.val = (off' + j.val) % 128; have := j.isLt; omega))

/-- Head `h` of a row's queries and keys, and its lane `d`: turned by the rotary angles and normalised. -/
def HB (cur : Vec Ideal S256x5120 .fp8e4m3) (rs : Vec Ideal S256x128 .f32) (w : Vec Ideal S5120x7168 .fp8e4m3) (ws : Vec Ideal S1x7168 .f32) (cs sn : Vec Ideal S256x64 .f32) (i : Fin 256) (h : Fin 48) (d : Fin 128) : EReal :=
  HEAD (T cur rs w ws i) (fun p => cs (ix2 i p)) (fun p => sn (ix2 i p)) (128 * h.val) (by omega) d

/-- A block's queries, each head turned. -/
def QB (cur : Vec Ideal S256x5120 .fp8e4m3) (rs : Vec Ideal S256x128 .f32) (w : Vec Ideal S5120x7168 .fp8e4m3) (ws : Vec Ideal S1x7168 .f32) (cs sn : Vec Ideal S256x64 .f32) : Vec Ideal S1x1x40x128x256 .bf16 :=
  fun y => HB cur rs w ws cs sn (y 4) ⟨(y 2).val, by have : (y 2).val < 40 := (y 2).isLt; omega⟩ (y 3)

/-- A block's keys. -/
def KB (cur : Vec Ideal S256x5120 .fp8e4m3) (rs : Vec Ideal S256x128 .f32) (w : Vec Ideal S5120x7168 .fp8e4m3) (ws : Vec Ideal S1x7168 .f32) (cs sn : Vec Ideal S256x64 .f32) : Vec Ideal S256x1024 .bf16 :=
  fun y => HB cur rs w ws cs sn (y 0) ⟨40 + (y 1).val / 128, by have : (y 1).val < 1024 := (y 1).isLt; omega⟩ ⟨(y 1).val % 128, by omega⟩

/-- A block's values. -/
def VB (cur : Vec Ideal S256x5120 .fp8e4m3) (rs : Vec Ideal S256x128 .f32) (w : Vec Ideal S5120x7168 .fp8e4m3) (ws : Vec Ideal S1x7168 .f32) : Vec Ideal S256x1024 .bf16 := fun y => PL 6144 (by norm_num) (T cur rs w ws) (y 0) (y 1)

/-- A block's values, turned. -/
def VTB (cur : Vec Ideal S256x5120 .fp8e4m3) (rs : Vec Ideal S256x128 .f32) (w : Vec Ideal S5120x7168 .fp8e4m3) (ws : Vec Ideal S1x7168 .f32) : Vec Ideal S1x1x1024x256 .bf16 := fun y => PL 6144 (by norm_num) (T cur rs w ws) (y 3) (y 2)

/-- A head at one index, from the projection's columns. -/
theorem head_at (cur : Vec Ideal S256x5120 .fp8e4m3) (rs : Vec Ideal S256x128 .f32) (w : Vec Ideal S5120x7168 .fp8e4m3) (ws : Vec Ideal S1x7168 .f32) (cs sn : Vec Ideal S256x64 .f32) (off n : ℕ) (hn : off = 128 * n) (hlt : n < 48) (h : off + 128 ≤ 7168) (i : Fin 256) (j : Fin 128) :
    HV (RV (k0_pay58 cs) (k0_pay61 k0_pay57 (k0_pay59 sn) k0_pay60) (tileOf (T cur rs w ws) off h)) (ix2 i j)
    = HB cur rs w ws cs sn i ⟨n, hlt⟩ j := by
  subst hn
  rw [HV_at]
  simp only [RV_at, tileOf_at]
  rfl

/-- A stored head of queries. -/
theorem q_piece (cur : Vec Ideal S256x5120 .fp8e4m3) (rs : Vec Ideal S256x128 .f32) (w : Vec Ideal S5120x7168 .fp8e4m3) (ws : Vec Ideal S1x7168 .f32) (cs sn : Vec Ideal S256x64 .f32) (off n : ℕ) (hn : off = 128 * n) (h : off + 128 ≤ 7168)
    (hh : ∀ a, (![0, 0, n, 0, 0] : Fin 5 → ℕ) a + S1x1x1x128x256.size a ≤ S1x1x40x128x256.size a) (x : S1x1x1x128x256.Idx) :
    QV (HV (RV (k0_pay58 cs) (k0_pay61 k0_pay57 (k0_pay59 sn) k0_pay60) (tileOf (T cur rs w ws) off h))) x
    = QB cur rs w ws cs sn ((Rect.unit (s := S1x1x40x128x256) ![0, 0, n, 0, 0] S1x1x1x128x256.size hh).emb x) := by
  obtain ⟨j, i, rfl⟩ : ∃ (j : Fin 128) (i : Fin 256), x = ix5 0 0 0 j i :=
    ⟨x 3, x 4, by ext a; fin_cases a <;> first | rfl | exact congrArg Fin.val (Subsingleton.elim (α := Fin 1) _ _)⟩
  have h2 := hh 2
  have he : (Rect.unit (s := S1x1x40x128x256) ![0, 0, n, 0, 0] S1x1x1x128x256.size hh).emb (ix5 0 0 0 j i) = ix5 0 0 ⟨n, by simp at h2; omega⟩ j i :=
    funext fun a => Fin.ext (by
      refine (Rect.idx_unit_val _ _ _ _ _).trans ?_
      fin_cases a <;> simp [ix5])
  rw [he, QV_at, head_at cur rs w ws cs sn off n hn (by simp at h2; omega) h]
  rfl

/-- A stored head of keys. -/
theorem k_piece (cur : Vec Ideal S256x5120 .fp8e4m3) (rs : Vec Ideal S256x128 .f32) (w : Vec Ideal S5120x7168 .fp8e4m3) (ws : Vec Ideal S1x7168 .f32) (cs sn : Vec Ideal S256x64 .f32) (off m n : ℕ) (hm : m = 128 * n) (hn : off = 5120 + m) (h : off + 128 ≤ 7168)
    (hh : ∀ a, (![0, m] : Fin 2 → ℕ) a + S256x128.size a ≤ S256x1024.size a) (x : S256x128.Idx) :
    HV (RV (k0_pay58 cs) (k0_pay61 k0_pay57 (k0_pay59 sn) k0_pay60) (tileOf (T cur rs w ws) off h)) x
    = KB cur rs w ws cs sn ((Rect.unit (s := S256x1024) ![0, m] S256x128.size hh).emb x) := by
  subst hm
  obtain ⟨i, j, rfl⟩ : ∃ (i : Fin 256) (j : Fin 128), x = ix2 i j := ⟨x 0, x 1, by ext a; fin_cases a <;> rfl⟩
  have h1 := hh 1
  have he : (Rect.unit (s := S256x1024) ![0, 128 * n] S256x128.size hh).emb (ix2 i j) = ix2 i ⟨128 * n + j.val, by have := j.isLt; simp at h1; omega⟩ :=
    funext fun a => Fin.ext (by
      refine (Rect.idx_unit_val _ _ _ _ _).trans ?_
      fin_cases a <;> simp [ix2])
  rw [he, head_at cur rs w ws cs sn off (40 + n) (by omega) (by simp at h1; omega) h]
  exact congrArg₂ (HB cur rs w ws cs sn i) (Fin.ext (by show 40 + n = 40 + (128 * n + j.val) / 128; have := j.isLt; omega))
    (Fin.ext (by show j.val = (128 * n + j.val) % 128; have := j.isLt; omega))

/-- A stored head of values. -/
theorem v_piece (cur : Vec Ideal S256x5120 .fp8e4m3) (rs : Vec Ideal S256x128 .f32) (w : Vec Ideal S5120x7168 .fp8e4m3) (ws : Vec Ideal S1x7168 .f32) (off m : ℕ) (hn : off = 6144 + m) (h : off + 128 ≤ 7168)
    (hh : ∀ a, (![0, m] : Fin 2 → ℕ) a + S256x128.size a ≤ S256x1024.size a) (x : S256x128.Idx) :
    (truncf .bf16 (tileOf (T cur rs w ws) off h) bitsLt_bf16_f32 : FVec Ideal S256x128 .bf16) x
    = VB cur rs w ws ((Rect.unit (s := S256x1024) ![0, m] S256x128.size hh).emb x) := by
  subst hn
  obtain ⟨i, j, rfl⟩ : ∃ (i : Fin 256) (j : Fin 128), x = ix2 i j := ⟨x 0, x 1, by ext a; fin_cases a <;> rfl⟩
  have h1 := hh 1
  have he : (Rect.unit (s := S256x1024) ![0, m] S256x128.size hh).emb (ix2 i j) = ix2 i ⟨m + j.val, by have := j.isLt; simp at h1; omega⟩ :=
    funext fun a => Fin.ext (by
      refine (Rect.idx_unit_val _ _ _ _ _).trans ?_
      fin_cases a <;> simp [ix2])
  rw [he]
  exact congrArg (T cur rs w ws i) (Fin.ext (by show 6144 + m + j.val = 6144 + (m + j.val); omega))

/-- A tile turned to 128 by 256. -/
def WV (t : FVec Ideal S256x128 .bf16) : FVec Ideal S1x1x128x256 .bf16 :=
  shapeCast S1x1x128x256 (transpose S128x256 [1, 0] t transposes_S256x128_p1_0_S128x256) shapeCasts_S128x256_S1x1x128x256

/-- That at one index. -/
theorem WV_at (t : FVec Ideal S256x128 .bf16) (j : Fin 128) (i : Fin 256) : WV t (ix4 0 0 j i) = t (ix2 i j) := by
  pointwise [WV]

/-- A stored head of values, turned. -/
theorem w_piece (cur : Vec Ideal S256x5120 .fp8e4m3) (rs : Vec Ideal S256x128 .f32) (w : Vec Ideal S5120x7168 .fp8e4m3) (ws : Vec Ideal S1x7168 .f32) (off m : ℕ) (hn : off = 6144 + m) (h : off + 128 ≤ 7168)
    (hh : ∀ a, (![0, 0, m, 0] : Fin 4 → ℕ) a + S1x1x128x256.size a ≤ S1x1x1024x256.size a) (x : S1x1x128x256.Idx) :
    WV (truncf .bf16 (tileOf (T cur rs w ws) off h) bitsLt_bf16_f32) x
    = VTB cur rs w ws ((Rect.unit (s := S1x1x1024x256) ![0, 0, m, 0] S1x1x128x256.size hh).emb x) := by
  subst hn
  obtain ⟨j, i, rfl⟩ : ∃ (j : Fin 128) (i : Fin 256), x = ix4 0 0 j i :=
    ⟨x 2, x 3, by ext a; fin_cases a <;> first | rfl | exact congrArg Fin.val (Subsingleton.elim (α := Fin 1) _ _)⟩
  have h2 := hh 2
  have he : (Rect.unit (s := S1x1x1024x256) ![0, 0, m, 0] S1x1x128x256.size hh).emb (ix4 0 0 j i) = ix4 0 0 ⟨m + j.val, by have := j.isLt; simp at h2; omega⟩ i :=
    funext fun a => Fin.ext (by
      refine (Rect.idx_unit_val _ _ _ _ _).trans ?_
      fin_cases a <;> simp [ix4])
  rw [he, WV_at]
  exact congrArg (T cur rs w ws i) (Fin.ext (by show 6144 + m + j.val = 6144 + (m + j.val); omega))

/-- A stored piece from a left half chunk (q). -/
theorem q_lo (cur : Vec Ideal S256x5120 .fp8e4m3) (rs : Vec Ideal S256x128 .f32) (w : Vec Ideal S5120x7168 .fp8e4m3) (ws : Vec Ideal S1x7168 .f32) (cs sn : Vec Ideal S256x64 .f32) (off off' n : ℕ) (ho : off' = off) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (hh : ∀ a, (![0, 0, n, 0, 0] : Fin 5 → ℕ) a + S1x1x1x128x256.size a ≤ S1x1x40x128x256.size a) (x : S1x1x1x128x256.Idx) :
    QV (HV (RV (k0_pay58 cs) (k0_pay61 k0_pay57 (k0_pay59 sn) k0_pay60) (TLO (k0_pay62 (k0_pay54 cur) (View.ld w (Rect.unit (s := S5120x7168) ![0, off] S5120x256.size hw))) (k0_pay55 rs) (View.ld ws (Rect.unit (s := S1x7168) ![0, off'] S1x128.size hs))))) x = QB cur rs w ws cs sn ((Rect.unit (s := S1x1x40x128x256) ![0, 0, n, 0, 0] S1x1x1x128x256.size hh).emb x) := by
  rw [tile_lo cur rs w ws off off' n ho hd hw hs h]
  exact q_piece cur rs w ws cs sn off' n hd h hh x

/-- A stored piece from a left half chunk (k). -/
theorem k_lo (cur : Vec Ideal S256x5120 .fp8e4m3) (rs : Vec Ideal S256x128 .f32) (w : Vec Ideal S5120x7168 .fp8e4m3) (ws : Vec Ideal S1x7168 .f32) (cs sn : Vec Ideal S256x64 .f32) (off off' n : ℕ) (ho : off' = off) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m p : ℕ) (hm : m = 128 * p) (hn : off' = 5120 + m) (hh : ∀ a, (![0, m] : Fin 2 → ℕ) a + S256x128.size a ≤ S256x1024.size a) (x : S256x128.Idx) :
    HV (RV (k0_pay58 cs) (k0_pay61 k0_pay57 (k0_pay59 sn) k0_pay60) (TLO (k0_pay62 (k0_pay54 cur) (View.ld w (Rect.unit (s := S5120x7168) ![0, off] S5120x256.size hw))) (k0_pay55 rs) (View.ld ws (Rect.unit (s := S1x7168) ![0, off'] S1x128.size hs)))) x = KB cur rs w ws cs sn ((Rect.unit (s := S256x1024) ![0, m] S256x128.size hh).emb x) := by
  rw [tile_lo cur rs w ws off off' n ho hd hw hs h]
  exact k_piece cur rs w ws cs sn off' m p hm hn h hh x

/-- A stored piece from a left half chunk (v). -/
theorem v_lo (cur : Vec Ideal S256x5120 .fp8e4m3) (rs : Vec Ideal S256x128 .f32) (w : Vec Ideal S5120x7168 .fp8e4m3) (ws : Vec Ideal S1x7168 .f32) (off off' n : ℕ) (ho : off' = off) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m : ℕ) (hn : off' = 6144 + m) (hh : ∀ a, (![0, m] : Fin 2 → ℕ) a + S256x128.size a ≤ S256x1024.size a) (x : S256x128.Idx) :
    (truncf .bf16 (TLO (k0_pay62 (k0_pay54 cur) (View.ld w (Rect.unit (s := S5120x7168) ![0, off] S5120x256.size hw))) (k0_pay55 rs) (View.ld ws (Rect.unit (s := S1x7168) ![0, off'] S1x128.size hs))) bitsLt_bf16_f32 : FVec Ideal S256x128 .bf16) x = VB cur rs w ws ((Rect.unit (s := S256x1024) ![0, m] S256x128.size hh).emb x) := by
  rw [tile_lo cur rs w ws off off' n ho hd hw hs h]
  exact v_piece cur rs w ws off' m hn h hh x

/-- A stored piece from a left half chunk (w). -/
theorem w_lo (cur : Vec Ideal S256x5120 .fp8e4m3) (rs : Vec Ideal S256x128 .f32) (w : Vec Ideal S5120x7168 .fp8e4m3) (ws : Vec Ideal S1x7168 .f32) (off off' n : ℕ) (ho : off' = off) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m : ℕ) (hn : off' = 6144 + m) (hh : ∀ a, (![0, 0, m, 0] : Fin 4 → ℕ) a + S1x1x128x256.size a ≤ S1x1x1024x256.size a) (x : S1x1x128x256.Idx) :
    WV (truncf .bf16 (TLO (k0_pay62 (k0_pay54 cur) (View.ld w (Rect.unit (s := S5120x7168) ![0, off] S5120x256.size hw))) (k0_pay55 rs) (View.ld ws (Rect.unit (s := S1x7168) ![0, off'] S1x128.size hs))) bitsLt_bf16_f32) x = VTB cur rs w ws ((Rect.unit (s := S1x1x1024x256) ![0, 0, m, 0] S1x1x128x256.size hh).emb x) := by
  rw [tile_lo cur rs w ws off off' n ho hd hw hs h]
  exact w_piece cur rs w ws off' m hn h hh x

/-- A stored piece from a right half chunk (q). -/
theorem q_hi (cur : Vec Ideal S256x5120 .fp8e4m3) (rs : Vec Ideal S256x128 .f32) (w : Vec Ideal S5120x7168 .fp8e4m3) (ws : Vec Ideal S1x7168 .f32) (cs sn : Vec Ideal S256x64 .f32) (off off' n : ℕ) (ho : off' = off + 128) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (hh : ∀ a, (![0, 0, n, 0, 0] : Fin 5 → ℕ) a + S1x1x1x128x256.size a ≤ S1x1x40x128x256.size a) (x : S1x1x1x128x256.Idx) :
    QV (HV (RV (k0_pay58 cs) (k0_pay61 k0_pay57 (k0_pay59 sn) k0_pay60) (THI (k0_pay62 (k0_pay54 cur) (View.ld w (Rect.unit (s := S5120x7168) ![0, off] S5120x256.size hw))) (k0_pay55 rs) (View.ld ws (Rect.unit (s := S1x7168) ![0, off'] S1x128.size hs))))) x = QB cur rs w ws cs sn ((Rect.unit (s := S1x1x40x128x256) ![0, 0, n, 0, 0] S1x1x1x128x256.size hh).emb x) := by
  rw [tile_hi cur rs w ws off off' n ho hd hw hs h]
  exact q_piece cur rs w ws cs sn off' n hd h hh x

/-- A stored piece from a right half chunk (k). -/
theorem k_hi (cur : Vec Ideal S256x5120 .fp8e4m3) (rs : Vec Ideal S256x128 .f32) (w : Vec Ideal S5120x7168 .fp8e4m3) (ws : Vec Ideal S1x7168 .f32) (cs sn : Vec Ideal S256x64 .f32) (off off' n : ℕ) (ho : off' = off + 128) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m p : ℕ) (hm : m = 128 * p) (hn : off' = 5120 + m) (hh : ∀ a, (![0, m] : Fin 2 → ℕ) a + S256x128.size a ≤ S256x1024.size a) (x : S256x128.Idx) :
    HV (RV (k0_pay58 cs) (k0_pay61 k0_pay57 (k0_pay59 sn) k0_pay60) (THI (k0_pay62 (k0_pay54 cur) (View.ld w (Rect.unit (s := S5120x7168) ![0, off] S5120x256.size hw))) (k0_pay55 rs) (View.ld ws (Rect.unit (s := S1x7168) ![0, off'] S1x128.size hs)))) x = KB cur rs w ws cs sn ((Rect.unit (s := S256x1024) ![0, m] S256x128.size hh).emb x) := by
  rw [tile_hi cur rs w ws off off' n ho hd hw hs h]
  exact k_piece cur rs w ws cs sn off' m p hm hn h hh x

/-- A stored piece from a right half chunk (v). -/
theorem v_hi (cur : Vec Ideal S256x5120 .fp8e4m3) (rs : Vec Ideal S256x128 .f32) (w : Vec Ideal S5120x7168 .fp8e4m3) (ws : Vec Ideal S1x7168 .f32) (off off' n : ℕ) (ho : off' = off + 128) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m : ℕ) (hn : off' = 6144 + m) (hh : ∀ a, (![0, m] : Fin 2 → ℕ) a + S256x128.size a ≤ S256x1024.size a) (x : S256x128.Idx) :
    (truncf .bf16 (THI (k0_pay62 (k0_pay54 cur) (View.ld w (Rect.unit (s := S5120x7168) ![0, off] S5120x256.size hw))) (k0_pay55 rs) (View.ld ws (Rect.unit (s := S1x7168) ![0, off'] S1x128.size hs))) bitsLt_bf16_f32 : FVec Ideal S256x128 .bf16) x = VB cur rs w ws ((Rect.unit (s := S256x1024) ![0, m] S256x128.size hh).emb x) := by
  rw [tile_hi cur rs w ws off off' n ho hd hw hs h]
  exact v_piece cur rs w ws off' m hn h hh x

/-- A stored piece from a right half chunk (w). -/
theorem w_hi (cur : Vec Ideal S256x5120 .fp8e4m3) (rs : Vec Ideal S256x128 .f32) (w : Vec Ideal S5120x7168 .fp8e4m3) (ws : Vec Ideal S1x7168 .f32) (off off' n : ℕ) (ho : off' = off + 128) (hd : off' = 128 * n)
    (hw : ∀ a, (![0, off] : Fin 2 → ℕ) a + S5120x256.size a ≤ S5120x7168.size a)
    (hs : ∀ a, (![0, off'] : Fin 2 → ℕ) a + S1x128.size a ≤ S1x7168.size a) (h : off' + 128 ≤ 7168)
    (m : ℕ) (hn : off' = 6144 + m) (hh : ∀ a, (![0, 0, m, 0] : Fin 4 → ℕ) a + S1x1x128x256.size a ≤ S1x1x1024x256.size a) (x : S1x1x128x256.Idx) :
    WV (truncf .bf16 (THI (k0_pay62 (k0_pay54 cur) (View.ld w (Rect.unit (s := S5120x7168) ![0, off] S5120x256.size hw))) (k0_pay55 rs) (View.ld ws (Rect.unit (s := S1x7168) ![0, off'] S1x128.size hs))) bitsLt_bf16_f32) x = VTB cur rs w ws ((Rect.unit (s := S1x1x1024x256) ![0, 0, m, 0] S1x1x128x256.size hh).emb x) := by
  rw [tile_hi cur rs w ws off off' n ho hd hw hs h]
  exact w_piece cur rs w ws off' m hn h hh x

/-- The codes the point before `t` left for it. -/
abbrev cur0 (c : Dev nD) (t : Fin cfg0.N) : Vec Ideal S256x5120 .fp8e4m3 := (outsAt0 m c (t.val - 1) (Nat.lt_of_le_of_lt (Nat.sub_le _ _) t.isLt)).2.2.2.2.2.2.1

/-- The scales the point before `t` left for it. -/
abbrev rs0 (c : Dev nD) (t : Fin cfg0.N) : Vec Ideal S256x128 .f32 := (outsAt0 m c (t.val - 1) (Nat.lt_of_le_of_lt (Nat.sub_le _ _) t.isLt)).2.2.2.2.2.2.2

set_option maxHeartbeats 4000000 in
/-- The stored queries. -/
theorem outB_8 (c : Dev nD) (t : Fin cfg0.N) (h0 : ¬t.val % 65 = 0) (h1 : 1 ≤ t.val) :
    (outsAt0 m c t.val t.isLt).2.2.1 = QB (cur0 m c t) (rs0 m c t) (iblk m c 2 t) (iblk m c 3 t) (iblk m c 4 t) (iblk m c 5 t) := by
  rw [outsAt0_B m c t h0 h1]
  frame_out
  simp only [read_unread_whole]
  funext y
  refine View.canon_apply_of_pieces (QB (cur0 m c t) (rs0 m c t) (iblk m c 2 t) (iblk m c 3 t) (iblk m c 4 t) (iblk m c 5 t)) _ ?_ y (View.cover_of_tiledL (s := S1x1x40x128x256) _ S1x1x1x128x256.size (by sl_kernel_rfl) y)
  simp only [List.forall_mem_cons]
  exact ⟨q_hi (cur0 m c t) (rs0 m c t) (iblk m c 2 t) (iblk m c 3 t) (iblk m c 4 t) (iblk m c 5 t) 4864 4992 39 rfl rfl _ _ (by norm_num) _,
    q_lo (cur0 m c t) (rs0 m c t) (iblk m c 2 t) (iblk m c 3 t) (iblk m c 4 t) (iblk m c 5 t) 4864 4864 38 rfl rfl _ _ (by norm_num) _,
    q_hi (cur0 m c t) (rs0 m c t) (iblk m c 2 t) (iblk m c 3 t) (iblk m c 4 t) (iblk m c 5 t) 4608 4736 37 rfl rfl _ _ (by norm_num) _,
    q_lo (cur0 m c t) (rs0 m c t) (iblk m c 2 t) (iblk m c 3 t) (iblk m c 4 t) (iblk m c 5 t) 4608 4608 36 rfl rfl _ _ (by norm_num) _,
    q_hi (cur0 m c t) (rs0 m c t) (iblk m c 2 t) (iblk m c 3 t) (iblk m c 4 t) (iblk m c 5 t) 4352 4480 35 rfl rfl _ _ (by norm_num) _,
    q_lo (cur0 m c t) (rs0 m c t) (iblk m c 2 t) (iblk m c 3 t) (iblk m c 4 t) (iblk m c 5 t) 4352 4352 34 rfl rfl _ _ (by norm_num) _,
    q_hi (cur0 m c t) (rs0 m c t) (iblk m c 2 t) (iblk m c 3 t) (iblk m c 4 t) (iblk m c 5 t) 4096 4224 33 rfl rfl _ _ (by norm_num) _,
    q_lo (cur0 m c t) (rs0 m c t) (iblk m c 2 t) (iblk m c 3 t) (iblk m c 4 t) (iblk m c 5 t) 4096 4096 32 rfl rfl _ _ (by norm_num) _,
    q_hi (cur0 m c t) (rs0 m c t) (iblk m c 2 t) (iblk m c 3 t) (iblk m c 4 t) (iblk m c 5 t) 3840 3968 31 rfl rfl _ _ (by norm_num) _,
    q_lo (cur0 m c t) (rs0 m c t) (iblk m c 2 t) (iblk m c 3 t) (iblk m c 4 t) (iblk m c 5 t) 3840 3840 30 rfl rfl _ _ (by norm_num) _,
    q_hi (cur0 m c t) (rs0 m c t) (iblk m c 2 t) (iblk m c 3 t) (iblk m c 4 t) (iblk m c 5 t) 3584 3712 29 rfl rfl _ _ (by norm_num) _,
    q_lo (cur0 m c t) (rs0 m c t) (iblk m c 2 t) (iblk m c 3 t) (iblk m c 4 t) (iblk m c 5 t) 3584 3584 28 rfl rfl _ _ (by norm_num) _,
    q_hi (cur0 m c t) (rs0 m c t) (iblk m c 2 t) (iblk m c 3 t) (iblk m c 4 t) (iblk m c 5 t) 3328 3456 27 rfl rfl _ _ (by norm_num) _,
    q_lo (cur0 m c t) (rs0 m c t) (iblk m c 2 t) (iblk m c 3 t) (iblk m c 4 t) (iblk m c 5 t) 3328 3328 26 rfl rfl _ _ (by norm_num) _,
    q_hi (cur0 m c t) (rs0 m c t) (iblk m c 2 t) (iblk m c 3 t) (iblk m c 4 t) (iblk m c 5 t) 3072 3200 25 rfl rfl _ _ (by norm_num) _,
    q_lo (cur0 m c t) (rs0 m c t) (iblk m c 2 t) (iblk m c 3 t) (iblk m c 4 t) (iblk m c 5 t) 3072 3072 24 rfl rfl _ _ (by norm_num) _,
    q_hi (cur0 m c t) (rs0 m c t) (iblk m c 2 t) (iblk m c 3 t) (iblk m c 4 t) (iblk m c 5 t) 2816 2944 23 rfl rfl _ _ (by norm_num) _,
    q_lo (cur0 m c t) (rs0 m c t) (iblk m c 2 t) (iblk m c 3 t) (iblk m c 4 t) (iblk m c 5 t) 2816 2816 22 rfl rfl _ _ (by norm_num) _,
    q_hi (cur0 m c t) (rs0 m c t) (iblk m c 2 t) (iblk m c 3 t) (iblk m c 4 t) (iblk m c 5 t) 2560 2688 21 rfl rfl _ _ (by norm_num) _,
    q_lo (cur0 m c t) (rs0 m c t) (iblk m c 2 t) (iblk m c 3 t) (iblk m c 4 t) (iblk m c 5 t) 2560 2560 20 rfl rfl _ _ (by norm_num) _,
    q_hi (cur0 m c t) (rs0 m c t) (iblk m c 2 t) (iblk m c 3 t) (iblk m c 4 t) (iblk m c 5 t) 2304 2432 19 rfl rfl _ _ (by norm_num) _,
    q_lo (cur0 m c t) (rs0 m c t) (iblk m c 2 t) (iblk m c 3 t) (iblk m c 4 t) (iblk m c 5 t) 2304 2304 18 rfl rfl _ _ (by norm_num) _,
    q_hi (cur0 m c t) (rs0 m c t) (iblk m c 2 t) (iblk m c 3 t) (iblk m c 4 t) (iblk m c 5 t) 2048 2176 17 rfl rfl _ _ (by norm_num) _,
    q_lo (cur0 m c t) (rs0 m c t) (iblk m c 2 t) (iblk m c 3 t) (iblk m c 4 t) (iblk m c 5 t) 2048 2048 16 rfl rfl _ _ (by norm_num) _,
    q_hi (cur0 m c t) (rs0 m c t) (iblk m c 2 t) (iblk m c 3 t) (iblk m c 4 t) (iblk m c 5 t) 1792 1920 15 rfl rfl _ _ (by norm_num) _,
    q_lo (cur0 m c t) (rs0 m c t) (iblk m c 2 t) (iblk m c 3 t) (iblk m c 4 t) (iblk m c 5 t) 1792 1792 14 rfl rfl _ _ (by norm_num) _,
    q_hi (cur0 m c t) (rs0 m c t) (iblk m c 2 t) (iblk m c 3 t) (iblk m c 4 t) (iblk m c 5 t) 1536 1664 13 rfl rfl _ _ (by norm_num) _,
    q_lo (cur0 m c t) (rs0 m c t) (iblk m c 2 t) (iblk m c 3 t) (iblk m c 4 t) (iblk m c 5 t) 1536 1536 12 rfl rfl _ _ (by norm_num) _,
    q_hi (cur0 m c t) (rs0 m c t) (iblk m c 2 t) (iblk m c 3 t) (iblk m c 4 t) (iblk m c 5 t) 1280 1408 11 rfl rfl _ _ (by norm_num) _,
    q_lo (cur0 m c t) (rs0 m c t) (iblk m c 2 t) (iblk m c 3 t) (iblk m c 4 t) (iblk m c 5 t) 1280 1280 10 rfl rfl _ _ (by norm_num) _,
    q_hi (cur0 m c t) (rs0 m c t) (iblk m c 2 t) (iblk m c 3 t) (iblk m c 4 t) (iblk m c 5 t) 1024 1152 9 rfl rfl _ _ (by norm_num) _,
    q_lo (cur0 m c t) (rs0 m c t) (iblk m c 2 t) (iblk m c 3 t) (iblk m c 4 t) (iblk m c 5 t) 1024 1024 8 rfl rfl _ _ (by norm_num) _,
    q_hi (cur0 m c t) (rs0 m c t) (iblk m c 2 t) (iblk m c 3 t) (iblk m c 4 t) (iblk m c 5 t) 768 896 7 rfl rfl _ _ (by norm_num) _,
    q_lo (cur0 m c t) (rs0 m c t) (iblk m c 2 t) (iblk m c 3 t) (iblk m c 4 t) (iblk m c 5 t) 768 768 6 rfl rfl _ _ (by norm_num) _,
    q_hi (cur0 m c t) (rs0 m c t) (iblk m c 2 t) (iblk m c 3 t) (iblk m c 4 t) (iblk m c 5 t) 512 640 5 rfl rfl _ _ (by norm_num) _,
    q_lo (cur0 m c t) (rs0 m c t) (iblk m c 2 t) (iblk m c 3 t) (iblk m c 4 t) (iblk m c 5 t) 512 512 4 rfl rfl _ _ (by norm_num) _,
    q_hi (cur0 m c t) (rs0 m c t) (iblk m c 2 t) (iblk m c 3 t) (iblk m c 4 t) (iblk m c 5 t) 256 384 3 rfl rfl _ _ (by norm_num) _,
    q_lo (cur0 m c t) (rs0 m c t) (iblk m c 2 t) (iblk m c 3 t) (iblk m c 4 t) (iblk m c 5 t) 256 256 2 rfl rfl _ _ (by norm_num) _,
    q_hi (cur0 m c t) (rs0 m c t) (iblk m c 2 t) (iblk m c 3 t) (iblk m c 4 t) (iblk m c 5 t) 0 128 1 rfl rfl _ _ (by norm_num) _,
    q_lo (cur0 m c t) (rs0 m c t) (iblk m c 2 t) (iblk m c 3 t) (iblk m c 4 t) (iblk m c 5 t) 0 0 0 rfl rfl _ _ (by norm_num) _,
    fun _ h => absurd h List.not_mem_nil⟩

set_option maxHeartbeats 4000000 in
/-- The stored keys. -/
theorem outB_9 (c : Dev nD) (t : Fin cfg0.N) (h0 : ¬t.val % 65 = 0) (h1 : 1 ≤ t.val) :
    (outsAt0 m c t.val t.isLt).2.2.2.1 = KB (cur0 m c t) (rs0 m c t) (iblk m c 2 t) (iblk m c 3 t) (iblk m c 4 t) (iblk m c 5 t) := by
  rw [outsAt0_B m c t h0 h1]
  frame_out
  simp only [read_unread_whole]
  funext y
  refine View.canon_apply_of_pieces (KB (cur0 m c t) (rs0 m c t) (iblk m c 2 t) (iblk m c 3 t) (iblk m c 4 t) (iblk m c 5 t)) _ ?_ y (View.cover_of_tiledL (s := S256x1024) _ S256x128.size (by sl_kernel_rfl) y)
  simp only [List.forall_mem_cons]
  exact ⟨k_hi (cur0 m c t) (rs0 m c t) (iblk m c 2 t) (iblk m c 3 t) (iblk m c 4 t) (iblk m c 5 t) 5888 6016 47 rfl rfl _ _ (by norm_num) 896 7 rfl rfl _,
    k_lo (cur0 m c t) (rs0 m c t) (iblk m c 2 t) (iblk m c 3 t) (iblk m c 4 t) (iblk m c 5 t) 5888 5888 46 rfl rfl _ _ (by norm_num) 768 6 rfl rfl _,
    k_hi (cur0 m c t) (rs0 m c t) (iblk m c 2 t) (iblk m c 3 t) (iblk m c 4 t) (iblk m c 5 t) 5632 5760 45 rfl rfl _ _ (by norm_num) 640 5 rfl rfl _,
    k_lo (cur0 m c t) (rs0 m c t) (iblk m c 2 t) (iblk m c 3 t) (iblk m c 4 t) (iblk m c 5 t) 5632 5632 44 rfl rfl _ _ (by norm_num) 512 4 rfl rfl _,
    k_hi (cur0 m c t) (rs0 m c t) (iblk m c 2 t) (iblk m c 3 t) (iblk m c 4 t) (iblk m c 5 t) 5376 5504 43 rfl rfl _ _ (by norm_num) 384 3 rfl rfl _,
    k_lo (cur0 m c t) (rs0 m c t) (iblk m c 2 t) (iblk m c 3 t) (iblk m c 4 t) (iblk m c 5 t) 5376 5376 42 rfl rfl _ _ (by norm_num) 256 2 rfl rfl _,
    k_hi (cur0 m c t) (rs0 m c t) (iblk m c 2 t) (iblk m c 3 t) (iblk m c 4 t) (iblk m c 5 t) 5120 5248 41 rfl rfl _ _ (by norm_num) 128 1 rfl rfl _,
    k_lo (cur0 m c t) (rs0 m c t) (iblk m c 2 t) (iblk m c 3 t) (iblk m c 4 t) (iblk m c 5 t) 5120 5120 40 rfl rfl _ _ (by norm_num) 0 0 rfl rfl _,
    fun _ h => absurd h List.not_mem_nil⟩

set_option maxHeartbeats 4000000 in
/-- The stored values. -/
theorem outB_10 (c : Dev nD) (t : Fin cfg0.N) (h0 : ¬t.val % 65 = 0) (h1 : 1 ≤ t.val) :
    (outsAt0 m c t.val t.isLt).2.2.2.2.1 = VB (cur0 m c t) (rs0 m c t) (iblk m c 2 t) (iblk m c 3 t) := by
  rw [outsAt0_B m c t h0 h1]
  frame_out
  simp only [read_unread_whole]
  funext y
  refine View.canon_apply_of_pieces (VB (cur0 m c t) (rs0 m c t) (iblk m c 2 t) (iblk m c 3 t)) _ ?_ y (View.cover_of_tiledL (s := S256x1024) _ S256x128.size (by sl_kernel_rfl) y)
  simp only [List.forall_mem_cons]
  exact ⟨v_hi (cur0 m c t) (rs0 m c t) (iblk m c 2 t) (iblk m c 3 t) 6912 7040 55 rfl rfl _ _ (by norm_num) 896 rfl _,
    v_lo (cur0 m c t) (rs0 m c t) (iblk m c 2 t) (iblk m c 3 t) 6912 6912 54 rfl rfl _ _ (by norm_num) 768 rfl _,
    v_hi (cur0 m c t) (rs0 m c t) (iblk m c 2 t) (iblk m c 3 t) 6656 6784 53 rfl rfl _ _ (by norm_num) 640 rfl _,
    v_lo (cur0 m c t) (rs0 m c t) (iblk m c 2 t) (iblk m c 3 t) 6656 6656 52 rfl rfl _ _ (by norm_num) 512 rfl _,
    v_hi (cur0 m c t) (rs0 m c t) (iblk m c 2 t) (iblk m c 3 t) 6400 6528 51 rfl rfl _ _ (by norm_num) 384 rfl _,
    v_lo (cur0 m c t) (rs0 m c t) (iblk m c 2 t) (iblk m c 3 t) 6400 6400 50 rfl rfl _ _ (by norm_num) 256 rfl _,
    v_hi (cur0 m c t) (rs0 m c t) (iblk m c 2 t) (iblk m c 3 t) 6144 6272 49 rfl rfl _ _ (by norm_num) 128 rfl _,
    v_lo (cur0 m c t) (rs0 m c t) (iblk m c 2 t) (iblk m c 3 t) 6144 6144 48 rfl rfl _ _ (by norm_num) 0 rfl _,
    fun _ h => absurd h List.not_mem_nil⟩

set_option maxHeartbeats 4000000 in
/-- The stored values, turned. -/
theorem outB_11 (c : Dev nD) (t : Fin cfg0.N) (h0 : ¬t.val % 65 = 0) (h1 : 1 ≤ t.val) :
    (outsAt0 m c t.val t.isLt).2.2.2.2.2.1 = VTB (cur0 m c t) (rs0 m c t) (iblk m c 2 t) (iblk m c 3 t) := by
  rw [outsAt0_B m c t h0 h1]
  frame_out
  simp only [read_unread_whole]
  funext y
  refine View.canon_apply_of_pieces (VTB (cur0 m c t) (rs0 m c t) (iblk m c 2 t) (iblk m c 3 t)) _ ?_ y (View.cover_of_tiledL (s := S1x1x1024x256) _ S1x1x128x256.size (by sl_kernel_rfl) y)
  simp only [List.forall_mem_cons]
  exact ⟨w_hi (cur0 m c t) (rs0 m c t) (iblk m c 2 t) (iblk m c 3 t) 6912 7040 55 rfl rfl _ _ (by norm_num) 896 rfl _,
    w_lo (cur0 m c t) (rs0 m c t) (iblk m c 2 t) (iblk m c 3 t) 6912 6912 54 rfl rfl _ _ (by norm_num) 768 rfl _,
    w_hi (cur0 m c t) (rs0 m c t) (iblk m c 2 t) (iblk m c 3 t) 6656 6784 53 rfl rfl _ _ (by norm_num) 640 rfl _,
    w_lo (cur0 m c t) (rs0 m c t) (iblk m c 2 t) (iblk m c 3 t) 6656 6656 52 rfl rfl _ _ (by norm_num) 512 rfl _,
    w_hi (cur0 m c t) (rs0 m c t) (iblk m c 2 t) (iblk m c 3 t) 6400 6528 51 rfl rfl _ _ (by norm_num) 384 rfl _,
    w_lo (cur0 m c t) (rs0 m c t) (iblk m c 2 t) (iblk m c 3 t) 6400 6400 50 rfl rfl _ _ (by norm_num) 256 rfl _,
    w_hi (cur0 m c t) (rs0 m c t) (iblk m c 2 t) (iblk m c 3 t) 6144 6272 49 rfl rfl _ _ (by norm_num) 128 rfl _,
    w_lo (cur0 m c t) (rs0 m c t) (iblk m c 2 t) (iblk m c 3 t) 6144 6144 48 rfl rfl _ _ (by norm_num) 0 rfl _,
    fun _ h => absurd h List.not_mem_nil⟩

end Cert.LocalQkvIdeal.Blocks

end
-- ==== Proof.LocalQkvArray.lean ====
/- The local query/key/value projection's six result arrays, over the reals, as functions of its arguments. -/
module

public import proofs.«01_k».proof.Proof.LocalQkvHeads
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Common

namespace Cert.LocalQkvIdeal.Blocks

open Cert.LocalQkvIdeal Cert.LocalQkvIdeal.Gen

variable (m : (ℓ : Loc nD τ sig) → Buf (Elt Ideal) ℓ)

/-- Row `r` of the tokens, 4096 to a batch. -/
def XR (x : Vec Ideal S4x4096x5120 .bf16) (r : Fin 16384) (k : Fin 5120) : EReal := x (ix3 ⟨r.val / 4096, by omega⟩ ⟨r.val % 4096, by omega⟩ k)

/-- Row `r` of the angles' cosines (or sines). -/
def CR (z : Vec Ideal S4x4096x64 .f32) (r : Fin 16384) (p : Fin 64) : EReal := z (ix3 ⟨r.val / 4096, by omega⟩ ⟨r.val % 4096, by omega⟩ p)

/-- Row `r` of the projection: the quantised normalised token against the weight, with both scales. -/
def PR (x : Vec Ideal S4x4096x5120 .bf16) (nw : Vec Ideal S5120 .f32) (w : Vec Ideal S5120x7168 .fp8e4m3) (ws : Vec Ideal S7168 .f32) (r : Fin 16384) (j : Fin 7168) : EReal :=
  PROJ (NCODE (XR x r) (fun k => nw (ix1 k))) (NSC (XR x r) (fun k => nw (ix1 k))) (fun k j => w (ix2 k j)) (fun j => ws (ix1 j)) j

/-- Head `h` of row `r`'s queries and keys, lane `d`. -/
def HR (x : Vec Ideal S4x4096x5120 .bf16) (nw : Vec Ideal S5120 .f32) (w : Vec Ideal S5120x7168 .fp8e4m3) (ws : Vec Ideal S7168 .f32) (cs sn : Vec Ideal S4x4096x64 .f32) (r : Fin 16384) (h : Fin 48) (d : Fin 128) : EReal :=
  HEAD (PR x nw w ws r) (CR cs r) (CR sn r) (128 * h.val) (by omega) d

/-- The row of a token in a turned array: 4096 rows to a batch, 256 to a block. -/
def rowOf (a : Fin 4) (b : Fin 16) (i : Fin 256) : Fin 16384 := ⟨a.val * 4096 + b.val * 256 + i.val, by omega⟩

/-- Result 1: the codes. -/
def REF6 (x : Vec Ideal S4x4096x5120 .bf16) (nw : Vec Ideal S5120 .f32) : Vec Ideal S16384x5120 .fp8e4m3 := fun y => NCODE (XR x (y 0)) (fun k => nw (ix1 k)) (y 1)

/-- Result 2: the scales. -/
def REF7 (x : Vec Ideal S4x4096x5120 .bf16) (nw : Vec Ideal S5120 .f32) : Vec Ideal S64x1x256 .f32 :=
  fun y => NSC (XR x ⟨(y 0).val * 256 + (y 2).val, by have : (y 0).val < 64 := (y 0).isLt; have : (y 2).val < 256 := (y 2).isLt; omega⟩) (fun k => nw (ix1 k))

/-- Result 3: the queries, turned. -/
def REF8 (x : Vec Ideal S4x4096x5120 .bf16) (nw : Vec Ideal S5120 .f32) (w : Vec Ideal S5120x7168 .fp8e4m3) (ws : Vec Ideal S7168 .f32) (cs sn : Vec Ideal S4x4096x64 .f32) : Vec Ideal S4x16x40x128x256 .bf16 :=
  fun y => HR x nw w ws cs sn (rowOf (y 0) (y 1) (y 4)) ⟨(y 2).val, by have : (y 2).val < 40 := (y 2).isLt; omega⟩ (y 3)

/-- Result 4: the keys. -/
def REF9 (x : Vec Ideal S4x4096x5120 .bf16) (nw : Vec Ideal S5120 .f32) (w : Vec Ideal S5120x7168 .fp8e4m3) (ws : Vec Ideal S7168 .f32) (cs sn : Vec Ideal S4x4096x64 .f32) : Vec Ideal S16384x1024 .bf16 :=
  fun y => HR x nw w ws cs sn (y 0) ⟨40 + (y 1).val / 128, by have : (y 1).val < 1024 := (y 1).isLt; omega⟩ ⟨(y 1).val % 128, by omega⟩

/-- Result 5: the values. -/
def REF10 (x : Vec Ideal S4x4096x5120 .bf16) (nw : Vec Ideal S5120 .f32) (w : Vec Ideal S5120x7168 .fp8e4m3) (ws : Vec Ideal S7168 .f32) : Vec Ideal S16384x1024 .bf16 := fun y => PL 6144 (by norm_num) (PR x nw w ws) (y 0) (y 1)

/-- Result 6: the values, turned. -/
def REF11 (x : Vec Ideal S4x4096x5120 .bf16) (nw : Vec Ideal S5120 .f32) (w : Vec Ideal S5120x7168 .fp8e4m3) (ws : Vec Ideal S7168 .f32) : Vec Ideal S4x16x1024x256 .bf16 := fun y => PL 6144 (by norm_num) (PR x nw w ws) (rowOf (y 0) (y 1) (y 3)) (y 2)

/-- What a window's array holds when the call starts: the tokens as rows. -/
theorem x_eq (c : Dev nD) : V m c main_v0 = shapeCast S16384x5120 (m ((c : Thread nD τ).loc main_arg0)) shapeCasts_S4x4096x5120_S16384x5120 := by
  unfold V
  simp only [List.flatten, hostOps0, List.append_nil, List.cons_append, List.nil_append]
  after_reads_simp
  rfl

/-- What a window's array holds when the call starts: the norm's weight as a row. -/
theorem nw_eq (c : Dev nD) : V m c main_v1 = shapeCast S1x5120 (m ((c : Thread nD τ).loc main_arg3)) shapeCasts_S5120_S1x5120 := by
  unfold V
  simp only [List.flatten, hostOps0, List.append_nil, List.cons_append, List.nil_append]
  after_reads_simp
  rfl

/-- What a window's array holds when the call starts: the columns' scales as a row. -/
theorem ws_eq (c : Dev nD) : V m c main_v2 = shapeCast S1x7168 (m ((c : Thread nD τ).loc main_arg5)) shapeCasts_S7168_S1x7168 := by
  unfold V
  simp only [List.flatten, hostOps0, List.append_nil, List.cons_append, List.nil_append]
  after_reads_simp
  rfl

/-- What a window's array holds when the call starts: the cosines as rows. -/
theorem cs_eq (c : Dev nD) : V m c main_v3 = shapeCast S16384x64 (m ((c : Thread nD τ).loc main_arg1)) shapeCasts_S4x4096x64_S16384x64 := by
  unfold V
  simp only [List.flatten, hostOps0, List.append_nil, List.cons_append, List.nil_append]
  after_reads_simp
  rfl

/-- What a window's array holds when the call starts: the sines as rows. -/
theorem sn_eq (c : Dev nD) : V m c main_v4 = shapeCast S16384x64 (m ((c : Thread nD τ).loc main_arg2)) shapeCasts_S4x4096x64_S16384x64 := by
  unfold V
  simp only [List.flatten, hostOps0, List.append_nil, List.cons_append, List.nil_append]
  after_reads_simp
  rfl

/-- The tokens as rows, at one index. -/
theorem x_cast (z : FVec Ideal S4x4096x5120 .bf16) (r : Fin 16384) (k : Fin 5120) : shapeCast S16384x5120 z shapeCasts_S4x4096x5120_S16384x5120 (ix2 r k) = XR z r k := by
  unfold XR
  pointwise

/-- The angles' factors as rows, at one index. -/
theorem c_cast (z : FVec Ideal S4x4096x64 .f32) (r : Fin 16384) (k : Fin 64) : shapeCast S16384x64 z shapeCasts_S4x4096x64_S16384x64 (ix2 r k) = CR z r k := by
  unfold CR
  pointwise

/-- The norm's weight as a row, at one index. -/
theorem nw_cast (z : FVec Ideal S5120 .f32) (j : Fin 5120) : shapeCast S1x5120 z shapeCasts_S5120_S1x5120 (ix2 0 j) = z (ix1 j) := by
  pointwise

/-- The columns' scales as a row, at one index. -/
theorem ws_cast (z : FVec Ideal S7168 .f32) (j : Fin 7168) : shapeCast S1x7168 z shapeCasts_S7168_S1x7168 (ix2 0 j) = z (ix1 j) := by
  pointwise

/-- Each window's block at each grid point. -/
theorem idx : ∀ t : Fin cfg0.N, win0_0.index t = ![min t.val 63, 0] ∧ win0_1.index t = ![0, 0] ∧ win0_2.index t = ![0, 0]
    ∧ win0_3.index t = ![0, 0] ∧ win0_4.index t = ![t.val - 1, 0] ∧ win0_5.index t = ![t.val - 1, 0]
    ∧ win0_6.index t = ![min t.val 63, 0] ∧ win0_7.index t = ![min t.val 63, 0, 0] ∧ win0_8.index t = ![(t.val - 1) / 16, (t.val - 1) % 16, 0, 0, 0]
    ∧ win0_9.index t = ![t.val - 1, 0] ∧ win0_10.index t = ![t.val - 1, 0] ∧ win0_11.index t = ![(t.val - 1) / 16, (t.val - 1) % 16, 0, 0] :=
  (by decide +kernel : ∀ t : Fin grid0.N, _)

/-- The first point stores no queries, keys or values. -/
theorem late : ∀ t : Fin cfg0.N, ((cfg0.win 8).flush t = true → 1 ≤ t.val) ∧ ((cfg0.win 9).flush t = true → 1 ≤ t.val)
    ∧ ((cfg0.win 10).flush t = true → 1 ≤ t.val) ∧ ((cfg0.win 11).flush t = true → 1 ≤ t.val) :=
  (by decide +kernel : ∀ t : Fin grid0.N, _)

/-- The tokens' block at point `t`. -/
theorem b0 (c : Dev nD) (t : Fin cfg0.N) (i : Fin 256) (k : Fin 5120) :
    iblk m c 0 t (ix2 i k) = XR (m ((c : Thread nD τ).loc main_arg0)) ⟨min t.val 63 * 256 + i.val, by omega⟩ k := by
  have e : (iblk m c 0 t) (ix2 i k) = V m c main_v0 (ix2 ⟨min t.val 63 * 256 + i.val, by omega⟩ k) := by
    show V m c main_v0 _ = _
    blk_ext [idx t]
  rw [e, x_eq, x_cast]

/-- The norm's weight at point `t`. -/
theorem b1 (c : Dev nD) (t : Fin cfg0.N) (j : Fin 5120) : iblk m c 1 t (ix2 0 j) = m ((c : Thread nD τ).loc main_arg3) (ix1 j) := by
  have e : (iblk m c 1 t) (ix2 0 j) = V m c main_v1 (ix2 0 j) := by
    show V m c main_v1 _ = _
    blk_ext [idx t]
  rw [e, nw_eq, nw_cast]

/-- The weight at point `t`. -/
theorem b2 (c : Dev nD) (t : Fin cfg0.N) (k : Fin 5120) (j : Fin 7168) : iblk m c 2 t (ix2 k j) = m ((c : Thread nD τ).loc main_arg4) (ix2 k j) := by
  blk_ext [iblk, V, idx t]

/-- The weight's scales at point `t`. -/
theorem b3 (c : Dev nD) (t : Fin cfg0.N) (j : Fin 7168) : iblk m c 3 t (ix2 0 j) = m ((c : Thread nD τ).loc main_arg5) (ix1 j) := by
  have e : (iblk m c 3 t) (ix2 0 j) = V m c main_v2 (ix2 0 j) := by
    show V m c main_v2 _ = _
    blk_ext [idx t]
  rw [e, ws_eq, ws_cast]

/-- The cosines at point `t`. -/
theorem b4 (c : Dev nD) (t : Fin cfg0.N) (i : Fin 256) (p : Fin 64) :
    iblk m c 4 t (ix2 i p) = CR (m ((c : Thread nD τ).loc main_arg1)) ⟨(t.val - 1) * 256 + i.val, by have : t.val < 65 := t.isLt; omega⟩ p := by
  have ht : t.val < 65 := t.isLt
  have e : (iblk m c 4 t) (ix2 i p) = V m c main_v3 (ix2 ⟨(t.val - 1) * 256 + i.val, by omega⟩ p) := by
    show V m c main_v3 _ = _
    blk_ext [idx t]
  rw [e, cs_eq, c_cast]

/-- The sines at point `t`. -/
theorem b5 (c : Dev nD) (t : Fin cfg0.N) (i : Fin 256) (p : Fin 64) :
    iblk m c 5 t (ix2 i p) = CR (m ((c : Thread nD τ).loc main_arg2)) ⟨(t.val - 1) * 256 + i.val, by have : t.val < 65 := t.isLt; omega⟩ p := by
  have ht : t.val < 65 := t.isLt
  have e : (iblk m c 5 t) (ix2 i p) = V m c main_v4 (ix2 ⟨(t.val - 1) * 256 + i.val, by omega⟩ p) := by
    show V m c main_v4 _ = _
    blk_ext [idx t]
  rw [e, sn_eq, c_cast]

/-- What every point leaves. -/
theorem out6 (c : Dev nD) (t : Fin cfg0.N) : (outsAt0 m c t.val t.isLt).1 = CB (iblk m c 0 t) (iblk m c 1 t) := by
  have ht : t.val < 65 := t.isLt
  by_cases h : 1 ≤ t.val
  · exact outB_6 m c t (by omega) h
  · exact outA_6 m c t (by omega) h

/-- What every point leaves. -/
theorem out7 (c : Dev nD) (t : Fin cfg0.N) : (outsAt0 m c t.val t.isLt).2.1 = SR (iblk m c 0 t) (iblk m c 1 t) := by
  have ht : t.val < 65 := t.isLt
  by_cases h : 1 ≤ t.val
  · exact outB_7 m c t (by omega) h
  · exact outA_7 m c t (by omega) h

/-- What every point leaves. -/
theorem outs1 (c : Dev nD) (t : Fin cfg0.N) : (outsAt0 m c t.val t.isLt).2.2.2.2.2.2.1 = CB (iblk m c 0 t) (iblk m c 1 t) := by
  have ht : t.val < 65 := t.isLt
  by_cases h : 1 ≤ t.val
  · exact outB_s1 m c t (by omega) h
  · exact outA_s1 m c t (by omega) h

/-- What every point leaves. -/
theorem outs3 (c : Dev nD) (t : Fin cfg0.N) : (outsAt0 m c t.val t.isLt).2.2.2.2.2.2.2 = SB (iblk m c 0 t) (iblk m c 1 t) := by
  have ht : t.val < 65 := t.isLt
  by_cases h : 1 ≤ t.val
  · exact outB_s3 m c t (by omega) h
  · exact outA_s3 m c t (by omega) h

/-- The codes carried to point `t` are those of the block before. -/
theorem cur_at (c : Dev nD) (t : Fin cfg0.N) (h : 1 ≤ t.val) (i : Fin 256) (k : Fin 5120) :
    cur0 m c t (ix2 i k) = NCODE (XR (m ((c : Thread nD τ).loc main_arg0)) ⟨(t.val - 1) * 256 + i.val, by have : t.val < 65 := t.isLt; omega⟩) (fun k => m ((c : Thread nD τ).loc main_arg3) (ix1 k)) k := by
  have ht : t.val < 65 := t.isLt
  refine (congrFun (outs1 m c ⟨t.val - 1, Nat.lt_of_le_of_lt (Nat.sub_le _ _) t.isLt⟩) (ix2 i k)).trans ?_
  show NCODE (fun k => iblk m c 0 ⟨t.val - 1, Nat.lt_of_le_of_lt (Nat.sub_le _ _) t.isLt⟩ (ix2 i k)) (fun k => iblk m c 1 ⟨t.val - 1, Nat.lt_of_le_of_lt (Nat.sub_le _ _) t.isLt⟩ (ix2 0 k)) k = _
  simp only [b0, b1]
  exact congrArg (fun r => NCODE (XR _ r) _ k) (Fin.ext (by show min (t.val - 1) 63 * 256 + i.val = (t.val - 1) * 256 + i.val; omega))

/-- The scales carried to point `t` are those of the block before. -/
theorem rs_at' (c : Dev nD) (t : Fin cfg0.N) (h : 1 ≤ t.val) (i : Fin 256) (l : Fin 128) :
    rs0 m c t (ix2 i l) = NSC (XR (m ((c : Thread nD τ).loc main_arg0)) ⟨(t.val - 1) * 256 + i.val, by have : t.val < 65 := t.isLt; omega⟩) (fun k => m ((c : Thread nD τ).loc main_arg3) (ix1 k)) := by
  have ht : t.val < 65 := t.isLt
  refine (congrFun (outs3 m c ⟨t.val - 1, Nat.lt_of_le_of_lt (Nat.sub_le _ _) t.isLt⟩) (ix2 i l)).trans ?_
  show NSC (fun k => iblk m c 0 ⟨t.val - 1, Nat.lt_of_le_of_lt (Nat.sub_le _ _) t.isLt⟩ (ix2 i k)) (fun k => iblk m c 1 ⟨t.val - 1, Nat.lt_of_le_of_lt (Nat.sub_le _ _) t.isLt⟩ (ix2 0 k)) = _
  simp only [b0, b1]
  exact congrArg (fun r => NSC (XR _ r) _) (Fin.ext (by show min (t.val - 1) 63 * 256 + i.val = (t.val - 1) * 256 + i.val; omega))

/-- Row `i` of the projection at point `t` is row `256 (t - 1) + i` of the whole. -/
theorem T_row (c : Dev nD) (t : Fin cfg0.N) (h : 1 ≤ t.val) (i : Fin 256) :
    T (cur0 m c t) (rs0 m c t) (iblk m c 2 t) (iblk m c 3 t) i
    = PR (m ((c : Thread nD τ).loc main_arg0)) (m ((c : Thread nD τ).loc main_arg3)) (m ((c : Thread nD τ).loc main_arg4)) (m ((c : Thread nD τ).loc main_arg5)) ⟨(t.val - 1) * 256 + i.val, by have : t.val < 65 := t.isLt; omega⟩ := by
  funext j
  unfold T
  rw [rs_at' m c t h, b3]
  simp only [cur_at m c t h, b2]
  rfl

/-- A head of that row. -/
theorem H_row (c : Dev nD) (t : Fin cfg0.N) (h : 1 ≤ t.val) (i : Fin 256) :
    HB (cur0 m c t) (rs0 m c t) (iblk m c 2 t) (iblk m c 3 t) (iblk m c 4 t) (iblk m c 5 t) i
    = HR (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) ⟨(t.val - 1) * 256 + i.val, by have : t.val < 65 := t.isLt; omega⟩ := by
  funext n d
  unfold HB HR
  rw [T_row m c t h]
  simp only [b4, b5]

/-- Result 1 after the run. -/
theorem final6 (c : Dev nD) : (dats m 0 c).arrAt 6 cfg0.N
    = REF6 (m ((c : Thread nD τ).loc main_arg0)) (m ((c : Thread nD τ).loc main_arg3)) := by
  refine (dats m 0 c).arrAt_eq_of_covers 6 _ (by decide +kernel) fun t hf y => ?_
  have ht : t.val < 65 := t.isLt
  blk_simp
  rw [after0_6, out6]
  obtain ⟨i, j, rfl⟩ : ∃ (i : Fin 256) (j : Fin 5120), y = ix2 i j := ⟨y 0, y 1, by ext a; fin_cases a <;> rfl⟩
  have hy : ((cfg0.win 6).blk t).view.emb (ix2 i j) = ix2 ⟨min t.val 63 * 256 + i.val, by omega⟩ j := by blk_ext [idx t]
  refine Eq.trans ?_ (congrArg (REF6 _ _) hy.symm)
  show NCODE (fun k => iblk m c 0 t (ix2 i k)) (fun k => iblk m c 1 t (ix2 0 k)) j = _
  simp only [b0, b1]
  rfl

/-- Result 2 after the run. -/
theorem final7 (c : Dev nD) : (dats m 0 c).arrAt 7 cfg0.N
    = REF7 (m ((c : Thread nD τ).loc main_arg0)) (m ((c : Thread nD τ).loc main_arg3)) := by
  refine (dats m 0 c).arrAt_eq_of_covers 7 _ (by decide +kernel) fun t hf y => ?_
  have ht : t.val < 65 := t.isLt
  blk_simp
  rw [after0_7, out7]
  obtain ⟨i, rfl⟩ : ∃ (i : Fin 256), y = ix3 0 0 i := ⟨y 2, by ext a; fin_cases a <;> first | rfl | exact congrArg Fin.val (Subsingleton.elim (α := Fin 1) _ _)⟩
  have hy : ((cfg0.win 7).blk t).view.emb (ix3 0 0 i) = ix3 ⟨min t.val 63, by omega⟩ 0 i := by blk_ext [idx t]
  refine Eq.trans ?_ (congrArg (REF7 _ _) hy.symm)
  show NSC (fun k => iblk m c 0 t (ix2 i k)) (fun k => iblk m c 1 t (ix2 0 k)) = _
  simp only [b0, b1]
  rfl

/-- Result 3 after the run. -/
theorem final8 (c : Dev nD) : (dats m 0 c).arrAt 8 cfg0.N
    = REF8 (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) := by
  refine (dats m 0 c).arrAt_eq_of_covers 8 _ (by decide +kernel) fun t hf y => ?_
  have ht : t.val < 65 := t.isLt
  blk_simp
  have h1 : 1 ≤ t.val := (late t).1 hf
  rw [after0_8, outB_8 m c t (by omega) h1]
  obtain ⟨h, l, i, rfl⟩ : ∃ (h : Fin 40) (l : Fin 128) (i : Fin 256), y = ix5 0 0 h l i :=
    ⟨y 2, y 3, y 4, by ext a; fin_cases a <;> first | rfl | exact congrArg Fin.val (Subsingleton.elim (α := Fin 1) _ _)⟩
  have hy : ((cfg0.win 8).blk t).view.emb (ix5 0 0 h l i) = ix5 ⟨(t.val - 1) / 16, by omega⟩ ⟨(t.val - 1) % 16, by omega⟩ h l i := by blk_ext [idx t]
  refine Eq.trans ?_ (congrArg (REF8 _ _ _ _ _ _) hy.symm)
  have hr : rowOf ⟨(t.val - 1) / 16, by omega⟩ ⟨(t.val - 1) % 16, by omega⟩ i = ⟨(t.val - 1) * 256 + i.val, by omega⟩ :=
    Fin.ext (by show (t.val - 1) / 16 * 4096 + (t.val - 1) % 16 * 256 + i.val = (t.val - 1) * 256 + i.val; omega)
  refine (congrFun (congrFun (H_row m c t h1 i) _) _).trans ?_
  rw [← hr]
  rfl

/-- Result 4 after the run. -/
theorem final9 (c : Dev nD) : (dats m 0 c).arrAt 9 cfg0.N
    = REF9 (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) := by
  refine (dats m 0 c).arrAt_eq_of_covers 9 _ (by decide +kernel) fun t hf y => ?_
  have ht : t.val < 65 := t.isLt
  blk_simp
  have h1 : 1 ≤ t.val := (late t).2.1 hf
  rw [after0_9, outB_9 m c t (by omega) h1]
  obtain ⟨i, j, rfl⟩ : ∃ (i : Fin 256) (j : Fin 1024), y = ix2 i j := ⟨y 0, y 1, by ext a; fin_cases a <;> rfl⟩
  have hy : ((cfg0.win 9).blk t).view.emb (ix2 i j) = ix2 ⟨(t.val - 1) * 256 + i.val, by omega⟩ j := by blk_ext [idx t]
  refine Eq.trans ?_ (congrArg (REF9 _ _ _ _ _ _) hy.symm)
  exact congrFun (congrFun (H_row m c t h1 i) _) _

/-- Result 5 after the run. -/
theorem final10 (c : Dev nD) : (dats m 0 c).arrAt 10 cfg0.N
    = REF10 (m ((c : Thread nD τ).loc main_arg0)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have ht : t.val < 65 := t.isLt
  blk_simp
  have h1 : 1 ≤ t.val := (late t).2.2.1 hf
  rw [after0_10, outB_10 m c t (by omega) h1]
  obtain ⟨i, j, rfl⟩ : ∃ (i : Fin 256) (j : Fin 1024), y = ix2 i j := ⟨y 0, y 1, by ext a; fin_cases a <;> rfl⟩
  have hy : ((cfg0.win 10).blk t).view.emb (ix2 i j) = ix2 ⟨(t.val - 1) * 256 + i.val, by omega⟩ j := by blk_ext [idx t]
  refine Eq.trans ?_ (congrArg (REF10 _ _ _ _) hy.symm)
  exact congrFun (T_row m c t h1 i) _

/-- Result 6 after the run. -/
theorem final11 (c : Dev nD) : (dats m 0 c).arrAt 11 cfg0.N
    = REF11 (m ((c : Thread nD τ).loc main_arg0)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have ht : t.val < 65 := t.isLt
  blk_simp
  have h1 : 1 ≤ t.val := (late t).2.2.2 hf
  rw [after0_11, outB_11 m c t (by omega) h1]
  obtain ⟨j, i, rfl⟩ : ∃ (j : Fin 1024) (i : Fin 256), y = ix4 0 0 j i :=
    ⟨y 2, y 3, by ext a; fin_cases a <;> first | rfl | exact congrArg Fin.val (Subsingleton.elim (α := Fin 1) _ _)⟩
  have hy : ((cfg0.win 11).blk t).view.emb (ix4 0 0 j i) = ix4 ⟨(t.val - 1) / 16, by omega⟩ ⟨(t.val - 1) % 16, by omega⟩ j i := by blk_ext [idx t]
  refine Eq.trans ?_ (congrArg (REF11 _ _ _ _) hy.symm)
  have hr : rowOf ⟨(t.val - 1) / 16, by omega⟩ ⟨(t.val - 1) % 16, by omega⟩ i = ⟨(t.val - 1) * 256 + i.val, by omega⟩ :=
    Fin.ext (by show (t.val - 1) / 16 * 4096 + (t.val - 1) % 16 * 256 + i.val = (t.val - 1) * 256 + i.val; omega)
  refine (congrFun (T_row m c t h1 i) _).trans ?_
  rw [← hr]
  rfl

end Cert.LocalQkvIdeal.Blocks

end
-- ==== Proof.LocalQkvMathRun.lean ====
/- The run of the local query/key/value projection's plain statement: each result array by name, the arguments as launched. -/
module

public import proofs.«01_k».proof.Proof.Gen.LocalQkvMathIdeal.Frame
public import Idealize.ShloMosaic.Lib.Pipeline.Value

@[expose] public section

noncomputable section

namespace Cert.LocalQkvMathIdeal.Run

open Cert.LocalQkvMathIdeal Cert.LocalQkvMathIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v5_5) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 2 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_v5_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c⟩)
    (run_main m ρ)

end Cert.LocalQkvMathIdeal.Run

end
-- ==== Proof.LocalQkvMathPays.lean ====
/- What the plain statement of the local query/key/value projection stores, over the reals, at one index. -/
module

public import proofs.«01_k».proof.Proof.LocalQkvMathRun
public import proofs.«01_k».proof.Proof.LocalQkvArray
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.LocalQkvMathIdeal.Blocks

open Cert.LocalQkvMathIdeal Cert.LocalQkvMathIdeal.Gen

variable (m : (ℓ : Loc nD τ sig) → Buf (Elt Ideal) ℓ)

open Cert.LocalQkvIdeal.Blocks (XR CR PR HR rowOf REF6 REF7 REF8 REF9 REF10 REF11)

/-- Root mean squares from sums of squares. -/
def RQ (z : FVec Ideal S16384x1 .f32) : FVec Ideal S16384x1 .f32 :=
  sqrt (addf (divf z (broadcast S16384x1 (Scalar.ofBits .f32 0x45A00000#32))) (broadcast S16384x1 (Scalar.ofBits .f32 0x3727C5AC#32)))

/-- One of them. -/
theorem RQ_at (z : FVec Ideal S16384x1 .f32) (i : Fin 16384) :
    RQ z (ix2 i 0) = Ideal.sqrt (Ideal.div (z (ix2 i 0)) (Ideal.ofBits .f32 0x45A00000#32) + Ideal.ofBits .f32 0x3727C5AC#32) := by
  pointwise [RQ]

/-- The rows' root mean squares, as a column. -/
def RMS (v : FVec Ideal S16384x5120 .f32) : FVec Ideal S16384x1 .f32 :=
  RQ (shapeCast S16384x1 (multiReduction .add [1] S16384 (mulf v v) 0x00000000#32 reduces_S16384x5120_S16384 (.inl rfl) rfl) shapeCasts_S16384_S16384x1)

/-- A row's sum of squares. -/
theorem ss_at (v : FVec Ideal S16384x5120 .f32) (i : Fin 16384) :
    multiReduction .add [1] S16384 (mulf v v) 0x00000000#32 reduces_S16384x5120_S16384 (.inl rfl) rfl (ix1 i) = ∑ k : Fin 5120, v (ix2 i k) * v (ix2 i k) := by
  pointwise

/-- A column's entry. -/
theorem col_at (z : FVec Ideal S16384 .f32) (i : Fin 16384) : shapeCast S16384x1 z shapeCasts_S16384_S16384x1 (ix2 i 0) = z (ix1 i) := by
  pointwise

/-- The root mean square of a row. -/
theorem RMS_at (v : FVec Ideal S16384x5120 .f32) (i : Fin 16384) :
    RMS v (ix2 i 0) = Ideal.sqrt (Ideal.div (∑ k : Fin 5120, v (ix2 i k) * v (ix2 i k)) (Ideal.ofBits .f32 0x45A00000#32) + Ideal.ofBits .f32 0x3727C5AC#32) := by
  unfold RMS
  rw [RQ_at, col_at, ss_at]

/-- A token as the body reads it. -/
theorem ext_at (x : Vec Ideal S16384x5120 .bf16) (i : Fin 16384) (j : Fin 5120) :
    (extf .f32 (shapeCast S16384x5120 x shapeCasts_S16384x5120_S16384x5120) bitsLt_bf16_f32 : FVec Ideal S16384x5120 .f32) (ix2 i j) = x (ix2 i j) := by
  pointwise

/-- The normalised tokens. -/
theorem pay1_at (x : Vec Ideal S16384x5120 .bf16) (nw : Vec Ideal S1x5120 .f32) (i : Fin 16384) (j : Fin 5120) :
    k0_pay1 x nw (ix2 i j) = NRM (fun k => x (ix2 i k)) (fun k => nw (ix2 0 k)) j := by
  have e : k0_pay1 x nw = mulf (divf (extf .f32 (shapeCast S16384x5120 x shapeCasts_S16384x5120_S16384x5120) bitsLt_bf16_f32)
      (broadcastTo S16384x5120 (RMS (extf .f32 (shapeCast S16384x5120 x shapeCasts_S16384x5120_S16384x5120) bitsLt_bf16_f32)) broadcasts_S16384x1_S16384x5120))
      (broadcastTo S16384x5120 (shapeCast S1x5120 nw shapeCasts_S1x5120_S1x5120) broadcasts_S1x5120_S16384x5120) := rfl
  rw [e]
  unfold NRM
  have h : ∀ v : FVec Ideal S16384x5120 .f32, mulf (divf v (broadcastTo S16384x5120 (RMS v) broadcasts_S16384x1_S16384x5120))
      (broadcastTo S16384x5120 (shapeCast S1x5120 nw shapeCasts_S1x5120_S1x5120) broadcasts_S1x5120_S16384x5120) (ix2 i j)
      = Ideal.div (v (ix2 i j)) (RMS v (ix2 i 0)) * nw (ix2 0 j) := fun v => by
    generalize RMS v = z
    pointwise
  rw [h, RMS_at]
  simp only [ext_at]

/-- A row's largest magnitude. -/
theorem amax_at (v : FVec Ideal S16384x5120 .f32) (i : Fin 16384) :
    multiReduction .maximumf [1] S16384 (absf v) 0xFF800000#32 reduces_S16384x5120_S16384 (.inl rfl) rfl (ix1 i) = AMAX fun k : Fin 5120 => v (ix2 i k) := by
  pointwise
  rfl

/-- The scales, from the rows' largest magnitudes. -/
def SCV (z : FVec Ideal S16384x1 .f32) : FVec Ideal S16384x1 .f32 :=
  select (cmpf .oeq z (broadcast S16384x1 (Scalar.ofBits .f32 0x00000000#32))) (broadcast S16384x1 (Scalar.ofBits .f32 0x3F800000#32)) (divf z (broadcast S16384x1 (Scalar.ofBits .f32 0x43E00000#32)))

/-- One of them. -/
theorem SCV_at (z : FVec Ideal S16384x1 .f32) (i : Fin 16384) :
    SCV z (ix2 i 0) = if z (ix2 i 0) = 0 then 1 else Ideal.div (z (ix2 i 0)) (Ideal.ofBits .f32 0x43E00000#32) := by
  pointwise [SCV]

/-- The scales. -/
theorem pay2_at (x : Vec Ideal S16384x5120 .bf16) (nw : Vec Ideal S1x5120 .f32) (i : Fin 16384) :
    k0_pay2 x nw (ix2 i 0) = NSC (fun k => x (ix2 i k)) (fun k => nw (ix2 0 k)) := by
  have e : k0_pay2 x nw = SCV (shapeCast S16384x1 (multiReduction .maximumf [1] S16384 (absf (k0_pay1 x nw)) 0xFF800000#32 reduces_S16384x5120_S16384 (.inl rfl) rfl) shapeCasts_S16384_S16384x1) := rfl
  rw [e, SCV_at, col_at, amax_at]
  simp only [pay1_at]
  rfl

/-- Codes at their scales. -/
def CDV (s : FVec Ideal S16384x1 .f32) (v : FVec Ideal S16384x5120 .f32) : FVec Ideal S16384x5120 .fp8e4m3 :=
  truncf .fp8e4m3 (minimumf (broadcast S16384x5120 (Scalar.ofBits .f32 0x43E00000#32)) (maximumf (broadcast S16384x5120 (Scalar.ofBits .f32 0xC3E00000#32)) (divf v (broadcastTo S16384x5120 s broadcasts_S16384x1_S16384x5120)))) bitsLt_fp8e4m3_f32

/-- One of them. -/
theorem CDV_at (s : FVec Ideal S16384x1 .f32) (v : FVec Ideal S16384x5120 .f32) (i : Fin 16384) (j : Fin 5120) :
    CDV s v (ix2 i j) = CODE (s (ix2 i 0)) (v (ix2 i j)) := by
  pointwise [CDV]
  rfl

/-- The codes. -/
theorem pay3_at (x : Vec Ideal S16384x5120 .bf16) (nw : Vec Ideal S1x5120 .f32) (i : Fin 16384) (j : Fin 5120) :
    k0_pay3 x nw (ix2 i j) = NCODE (fun k => x (ix2 i k)) (fun k => nw (ix2 0 k)) j := by
  have e : k0_pay3 x nw = CDV (k0_pay2 x nw) (k0_pay1 x nw) := rfl
  rw [e, CDV_at, pay2_at, pay1_at]
  rfl

/-- A column in blocks of 256. -/
theorem blk_at (z : FVec Ideal S16384x1 .f32) (a : Fin 64) (i : Fin 256) :
    shapeCast S64x1x256 z shapeCasts_S16384x1_S64x1x256 (ix3 a 0 i) = z (ix2 ⟨a.val * 256 + i.val, by omega⟩ 0) := by
  pointwise

/-- The scales, as they're stored. -/
theorem pay4_at (x : Vec Ideal S16384x5120 .bf16) (nw : Vec Ideal S1x5120 .f32) (a : Fin 64) (i : Fin 256) :
    k0_pay4 x nw (ix3 a 0 i) = NSC (fun k => x (ix2 ⟨a.val * 256 + i.val, by omega⟩ k)) (fun k => nw (ix2 0 k)) := by
  have e : k0_pay4 x nw = shapeCast S64x1x256 (k0_pay2 x nw) shapeCasts_S16384x1_S64x1x256 := rfl
  rw [e, blk_at, pay2_at]

/-- The projection. -/
theorem pay5_at (s : FVec Ideal S16384x1 .f32) (a : FVec Ideal S16384x5120 .fp8e4m3) (w : Vec Ideal S5120x7168 .fp8e4m3) (ws : Vec Ideal S1x7168 .f32) (i : Fin 16384) (j : Fin 7168) :
    k0_pay5 s a w (constant S16384x7168 .f32 0x00000000#32) ws (ix2 i j) = PROJ (fun k => a (ix2 i k)) (s (ix2 i 0)) (fun k j => w (ix2 k j)) (fun j => ws (ix2 0 j)) j := by
  pointwise [k0_pay5]
  first | done | rfl

/-- The values' columns. -/
theorem vcol_at (z : FVec Ideal S16384x7168 .f32) (i : Fin 16384) (j : Fin 1024) :
    extractStridedSlice S16384x1024 ![0, 6144] z slices_S16384x7168_o0_6144_S16384x1024 (ix2 i j) = z (ix2 i ⟨6144 + j.val, by omega⟩) := by
  pointwise
  first | done | blk_point

/-- The stored values. -/
theorem pay14_at (z : FVec Ideal S16384x1024 .f32) (i : Fin 16384) (j : Fin 1024) : k0_pay14 z (ix2 i j) = z (ix2 i j) := by
  pointwise [k0_pay14]

/-- The stored values, turned. -/
theorem pay15_at (z : FVec Ideal S16384x1024 .f32) (x : Fin 4) (y : Fin 16) (j : Fin 1024) (i : Fin 256) : k0_pay15 z (ix4 x y j i) = z (ix2 (rowOf x y i) j) := by
  pointwise [k0_pay15, rowOf]
  first | done | blk_point

/-- The stored queries, turned. -/
theorem pay12_at (z : FVec Ideal S16384x40x128 .bf16) (x : Fin 4) (y : Fin 16) (h : Fin 40) (l : Fin 128) (i : Fin 256) : k0_pay12 z (ix5 x y h l i) = z (ix3 (rowOf x y i) h l) := by
  pointwise [k0_pay12, rowOf]
  first | done | blk_point

/-- The angles' cosines, as the body reads them. -/
theorem pay7_at (z : Vec Ideal S16384x64 .f32) (i : Fin 16384) (p : Fin 64) : k0_pay7 z (ix2 i p) = z (ix2 i p) := by
  pointwise [k0_pay7]

/-- The angles' sines, as the body reads them. -/
theorem pay8_at (z : Vec Ideal S16384x64 .f32) (i : Fin 16384) (p : Fin 64) : k0_pay8 z (ix2 i p) = z (ix2 i p) := by
  pointwise [k0_pay8]

end Cert.LocalQkvMathIdeal.Blocks

end
-- ==== Proof.LocalQkvMathHeads.lean ====
/- The heads of the local query/key/value projection's plain statement, over the reals, at one index. -/
module

public import proofs.«01_k».proof.Proof.LocalQkvMathRun
public import proofs.«01_k».proof.Proof.LocalCommon
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Common

namespace Cert.LocalQkvMathIdeal.Blocks

open Cert.LocalQkvMathIdeal Cert.LocalQkvMathIdeal.Gen

variable (m : (ℓ : Loc nD τ sig) → Buf (Elt Ideal) ℓ)

/-- Heads split in pairs of lanes (40 heads). -/
def SP40 (u : FVec Ideal S16384x40x128 .f32) : FVec Ideal S16384x40x64x2 .f32 := shapeCast S16384x40x64x2 u shapeCasts_S16384x40x128_S16384x40x64x2

/-- The even lanes. -/
def EV40 (v : FVec Ideal S16384x40x64x2 .f32) : FVec Ideal S16384x40x64 .f32 :=
  shapeCast S16384x40x64 (extractStridedSlice S16384x40x64x1 ![0, 0, 0, 0] v slices_S16384x40x64x2_o0_0_0_0_S16384x40x64x1) shapeCasts_S16384x40x64x1_S16384x40x64

/-- The odd lanes. -/
def OD40 (v : FVec Ideal S16384x40x64x2 .f32) : FVec Ideal S16384x40x64 .f32 :=
  shapeCast S16384x40x64 (extractStridedSlice S16384x40x64x1 ![0, 0, 0, 1] v slices_S16384x40x64x2_o0_0_0_1_S16384x40x64x1) shapeCasts_S16384x40x64x1_S16384x40x64

/-- A row's factors on every head. -/
def BC40 (c : FVec Ideal S16384x64 .f32) : FVec Ideal S16384x40x64 .f32 :=
  broadcastTo S16384x40x64 (shapeCast S16384x1x64 c shapeCasts_S16384x64_S16384x1x64) broadcasts_S16384x1x64_S16384x40x64

/-- Pairs put together. -/
def JN40 (a b : FVec Ideal S16384x40x64 .f32) : FVec Ideal S16384x40x64x2 .f32 :=
  concatenate S16384x40x64x2 3 [⟨S16384x40x64x1, shapeCast S16384x40x64x1 a shapeCasts_S16384x40x64_S16384x40x64x1⟩, ⟨S16384x40x64x1, shapeCast S16384x40x64x1 b shapeCasts_S16384x40x64_S16384x40x64x1⟩] concatenates_S16384x40x64x1_S16384x40x64x1_S16384x40x64x2_d3

/-- Pairs put back as heads. -/
def MG40 (v : FVec Ideal S16384x40x64x2 .f32) : FVec Ideal S16384x40x128 .f32 := shapeCast S16384x40x128 v shapeCasts_S16384x40x64x2_S16384x40x128

/-- The turned heads. -/
def TN40 (e o c s : FVec Ideal S16384x40x64 .f32) : FVec Ideal S16384x40x128 .f32 := MG40 (JN40 (subf (mulf e c) (mulf o s)) (addf (mulf e s) (mulf o c)))

/-- Root mean squares from sums of squares. -/
def RQ40 (z : FVec Ideal S16384x40x1 .f32) : FVec Ideal S16384x40x1 .f32 :=
  sqrt (addf (divf z (broadcast S16384x40x1 (Scalar.ofBits .f32 0x43000000#32))) (broadcast S16384x40x1 (Scalar.ofBits .f32 0x358637BD#32)))

/-- One of them. -/
theorem RQ40_at (z : FVec Ideal S16384x40x1 .f32) (i : Fin 16384) (h : Fin 40) :
    RQ40 z (ix3 i h 0) = Ideal.sqrt (Ideal.div (z (ix3 i h 0)) (Ideal.ofBits .f32 0x43000000#32) + Ideal.ofBits .f32 0x358637BD#32) := by
  pointwise [RQ40]

/-- The heads' root mean squares. -/
def RM40 (r : FVec Ideal S16384x40x128 .f32) : FVec Ideal S16384x40x1 .f32 :=
  RQ40 (shapeCast S16384x40x1 (multiReduction .add [2] S16384x40 (mulf r r) 0x00000000#32 reduces_S16384x40x128_S16384x40 (.inl rfl) rfl) shapeCasts_S16384x40_S16384x40x1)

/-- The heads over their root mean squares. -/
def NM40 (r : FVec Ideal S16384x40x128 .f32) : FVec Ideal S16384x40x128 .bf16 := truncf .bf16 (divf r (broadcastTo S16384x40x128 (RM40 r) broadcasts_S16384x40x1_S16384x40x128)) bitsLt_bf16_f32

/-- `SP40` at one index. -/
theorem SP40_at (u : FVec Ideal S16384x40x128 .f32) (i : Fin 16384) (h : Fin 40) (p : Fin 64) (q : Fin 2) : SP40 u (ix4 i h p q) = u (ix3 i h ⟨2 * p.val + q.val, by omega⟩) := by
  pointwise [SP40]
  first | done | blk_point

/-- `EV40` at one index. -/
theorem EV40_at (v : FVec Ideal S16384x40x64x2 .f32) (i : Fin 16384) (h : Fin 40) (p : Fin 64) : EV40 v (ix3 i h p) = v (ix4 i h p 0) := by
  pointwise [EV40]
  first | done | blk_point

/-- `OD40` at one index. -/
theorem OD40_at (v : FVec Ideal S16384x40x64x2 .f32) (i : Fin 16384) (h : Fin 40) (p : Fin 64) : OD40 v (ix3 i h p) = v (ix4 i h p 1) := by
  pointwise [OD40]
  first | done | blk_point

/-- `BC40` at one index. -/
theorem BC40_at (c : FVec Ideal S16384x64 .f32) (i : Fin 16384) (h : Fin 40) (p : Fin 64) : BC40 c (ix3 i h p) = c (ix2 i p) := by
  pointwise [BC40]
  first | done | blk_point

/-- `JN40` at an even lane. -/
theorem JN40_at0 (a b : FVec Ideal S16384x40x64 .f32) (i : Fin 16384) (h : Fin 40) (p : Fin 64) : JN40 a b (ix4 i h p 0) = a (ix3 i h p) := by
  pointwise [JN40]
  first | done | blk_point

/-- `JN40` at an odd lane. -/
theorem JN40_at1 (a b : FVec Ideal S16384x40x64 .f32) (i : Fin 16384) (h : Fin 40) (p : Fin 64) : JN40 a b (ix4 i h p 1) = b (ix3 i h p) := by
  pointwise [JN40]
  first | done | blk_point

/-- `MG40` at one index. -/
theorem MG40_at (v : FVec Ideal S16384x40x64x2 .f32) (i : Fin 16384) (h : Fin 40) (d : Fin 128) : MG40 v (ix3 i h d) = v (ix4 i h ⟨d.val / 2, by omega⟩ ⟨d.val % 2, by omega⟩) := by
  pointwise [MG40]
  first | done | blk_point

/-- A turned head, from the head and the row's factors. -/
theorem TN40_at (u : FVec Ideal S16384x40x128 .f32) (c s : FVec Ideal S16384x64 .f32) (i : Fin 16384) (h : Fin 40) (d : Fin 128) :
    TN40 (EV40 (SP40 u)) (OD40 (SP40 u)) (BC40 c) (BC40 s) (ix3 i h d) = ROT (fun l => u (ix3 i h l)) (fun p => c (ix2 i p)) (fun p => s (ix2 i p)) d := by
  unfold TN40 ROT
  rw [MG40_at]
  have eE : ∀ p : Fin 64, EV40 (SP40 u) (ix3 i h p) = u (ix3 i h ⟨2 * p.val, by omega⟩) := fun p => (EV40_at _ i h p).trans (SP40_at u i h p 0)
  have eO : ∀ p : Fin 64, OD40 (SP40 u) (ix3 i h p) = u (ix3 i h ⟨2 * p.val + 1, by omega⟩) := fun p => (OD40_at _ i h p).trans (SP40_at u i h p 1)
  by_cases hd : d.val % 2 = 0
  · rw [if_pos hd]
    have e0 : (⟨d.val % 2, by omega⟩ : Fin 2) = 0 := Fin.ext hd
    rw [e0, JN40_at0]
    show EV40 (SP40 u) _ * BC40 c _ - OD40 (SP40 u) _ * BC40 s _ = _
    rw [eE, eO, BC40_at, BC40_at]
    have e1 : (⟨2 * (d.val / 2), by omega⟩ : Fin 128) = d := Fin.ext (by show 2 * (d.val / 2) = d.val; omega)
    have e2 : (⟨2 * (d.val / 2) + 1, by omega⟩ : Fin 128) = ⟨(d.val + 1) % 128, by omega⟩ := Fin.ext (by show 2 * (d.val / 2) + 1 = (d.val + 1) % 128; omega)
    rw [e1, e2]
  · rw [if_neg hd]
    have e0 : (⟨d.val % 2, by omega⟩ : Fin 2) = 1 := Fin.ext (by show d.val % 2 = 1; omega)
    rw [e0, JN40_at1]
    show EV40 (SP40 u) _ * BC40 s _ + OD40 (SP40 u) _ * BC40 c _ = _
    rw [eE, eO, BC40_at, BC40_at]
    have e1 : (⟨2 * (d.val / 2), by omega⟩ : Fin 128) = ⟨d.val - 1, by omega⟩ := Fin.ext (by show 2 * (d.val / 2) = d.val - 1; omega)
    have e2 : (⟨2 * (d.val / 2) + 1, by omega⟩ : Fin 128) = d := Fin.ext (by show 2 * (d.val / 2) + 1 = d.val; omega)
    rw [e1, e2]

/-- A head's sum of squares. -/
theorem sq40_at (r : FVec Ideal S16384x40x128 .f32) (i : Fin 16384) (h : Fin 40) :
    multiReduction .add [2] S16384x40 (mulf r r) 0x00000000#32 reduces_S16384x40x128_S16384x40 (.inl rfl) rfl (ix2 i h) = ∑ l : Fin 128, r (ix3 i h l) * r (ix3 i h l) := by
  pointwise

/-- A value to a head, with one lane. -/
theorem cl40_at (z : FVec Ideal S16384x40 .f32) (i : Fin 16384) (h : Fin 40) : shapeCast S16384x40x1 z shapeCasts_S16384x40_S16384x40x1 (ix3 i h 0) = z (ix2 i h) := by
  pointwise

/-- A head's root mean square. -/
theorem RM40_at (r : FVec Ideal S16384x40x128 .f32) (i : Fin 16384) (h : Fin 40) :
    RM40 r (ix3 i h 0) = Ideal.sqrt (Ideal.div (∑ l : Fin 128, r (ix3 i h l) * r (ix3 i h l)) (Ideal.ofBits .f32 0x43000000#32) + Ideal.ofBits .f32 0x358637BD#32) := by
  unfold RM40
  rw [RQ40_at, cl40_at, sq40_at]

/-- A normalised head. -/
theorem NM40_at (r : FVec Ideal S16384x40x128 .f32) (i : Fin 16384) (h : Fin 40) (d : Fin 128) : NM40 r (ix3 i h d) = HN (fun l => r (ix3 i h l)) d := by
  unfold HN
  rw [← RM40_at]
  unfold NM40
  generalize RM40 r = z
  pointwise

/-- The heads' columns. -/
def HC40 (z : FVec Ideal S16384x7168 .f32) : FVec Ideal S16384x40x128 .f32 :=
  shapeCast S16384x40x128 (extractStridedSlice S16384x5120 ![0, 0] z slices_S16384x7168_o0_0_S16384x5120) shapeCasts_S16384x5120_S16384x40x128

/-- One of them. -/
theorem HC40_at (z : FVec Ideal S16384x7168 .f32) (i : Fin 16384) (h : Fin 40) (d : Fin 128) : HC40 z (ix3 i h d) = z (ix2 i ⟨0 + 128 * h.val + d.val, by omega⟩) := by
  pointwise [HC40]
  first | done | blk_point

/-- A head, from the projection. -/
theorem head40_at (z : FVec Ideal S16384x7168 .f32) (c s : FVec Ideal S16384x64 .f32) (i : Fin 16384) (h : Fin 40) (d : Fin 128) :
    NM40 (TN40 (EV40 (SP40 (HC40 z))) (OD40 (SP40 (HC40 z))) (BC40 c) (BC40 s)) (ix3 i h d)
    = HEAD (fun j => z (ix2 i j)) (fun p => c (ix2 i p)) (fun p => s (ix2 i p)) (0 + 128 * h.val) (by omega) d := by
  rw [NM40_at]
  simp only [TN40_at, HC40_at]
  rfl

/-- Heads split in pairs of lanes (8 heads). -/
def SP8 (u : FVec Ideal S16384x8x128 .f32) : FVec Ideal S16384x8x64x2 .f32 := shapeCast S16384x8x64x2 u shapeCasts_S16384x8x128_S16384x8x64x2

/-- The even lanes. -/
def EV8 (v : FVec Ideal S16384x8x64x2 .f32) : FVec Ideal S16384x8x64 .f32 :=
  shapeCast S16384x8x64 (extractStridedSlice S16384x8x64x1 ![0, 0, 0, 0] v slices_S16384x8x64x2_o0_0_0_0_S16384x8x64x1) shapeCasts_S16384x8x64x1_S16384x8x64

/-- The odd lanes. -/
def OD8 (v : FVec Ideal S16384x8x64x2 .f32) : FVec Ideal S16384x8x64 .f32 :=
  shapeCast S16384x8x64 (extractStridedSlice S16384x8x64x1 ![0, 0, 0, 1] v slices_S16384x8x64x2_o0_0_0_1_S16384x8x64x1) shapeCasts_S16384x8x64x1_S16384x8x64

/-- A row's factors on every head. -/
def BC8 (c : FVec Ideal S16384x64 .f32) : FVec Ideal S16384x8x64 .f32 :=
  broadcastTo S16384x8x64 (shapeCast S16384x1x64 c shapeCasts_S16384x64_S16384x1x64) broadcasts_S16384x1x64_S16384x8x64

/-- Pairs put together. -/
def JN8 (a b : FVec Ideal S16384x8x64 .f32) : FVec Ideal S16384x8x64x2 .f32 :=
  concatenate S16384x8x64x2 3 [⟨S16384x8x64x1, shapeCast S16384x8x64x1 a shapeCasts_S16384x8x64_S16384x8x64x1⟩, ⟨S16384x8x64x1, shapeCast S16384x8x64x1 b shapeCasts_S16384x8x64_S16384x8x64x1⟩] concatenates_S16384x8x64x1_S16384x8x64x1_S16384x8x64x2_d3

/-- Pairs put back as heads. -/
def MG8 (v : FVec Ideal S16384x8x64x2 .f32) : FVec Ideal S16384x8x128 .f32 := shapeCast S16384x8x128 v shapeCasts_S16384x8x64x2_S16384x8x128

/-- The turned heads. -/
def TN8 (e o c s : FVec Ideal S16384x8x64 .f32) : FVec Ideal S16384x8x128 .f32 := MG8 (JN8 (subf (mulf e c) (mulf o s)) (addf (mulf e s) (mulf o c)))

/-- Root mean squares from sums of squares. -/
def RQ8 (z : FVec Ideal S16384x8x1 .f32) : FVec Ideal S16384x8x1 .f32 :=
  sqrt (addf (divf z (broadcast S16384x8x1 (Scalar.ofBits .f32 0x43000000#32))) (broadcast S16384x8x1 (Scalar.ofBits .f32 0x358637BD#32)))

/-- One of them. -/
theorem RQ8_at (z : FVec Ideal S16384x8x1 .f32) (i : Fin 16384) (h : Fin 8) :
    RQ8 z (ix3 i h 0) = Ideal.sqrt (Ideal.div (z (ix3 i h 0)) (Ideal.ofBits .f32 0x43000000#32) + Ideal.ofBits .f32 0x358637BD#32) := by
  pointwise [RQ8]

/-- The heads' root mean squares. -/
def RM8 (r : FVec Ideal S16384x8x128 .f32) : FVec Ideal S16384x8x1 .f32 :=
  RQ8 (shapeCast S16384x8x1 (multiReduction .add [2] S16384x8 (mulf r r) 0x00000000#32 reduces_S16384x8x128_S16384x8 (.inl rfl) rfl) shapeCasts_S16384x8_S16384x8x1)

/-- The heads over their root mean squares. -/
def NM8 (r : FVec Ideal S16384x8x128 .f32) : FVec Ideal S16384x8x128 .bf16 := truncf .bf16 (divf r (broadcastTo S16384x8x128 (RM8 r) broadcasts_S16384x8x1_S16384x8x128)) bitsLt_bf16_f32

/-- `SP8` at one index. -/
theorem SP8_at (u : FVec Ideal S16384x8x128 .f32) (i : Fin 16384) (h : Fin 8) (p : Fin 64) (q : Fin 2) : SP8 u (ix4 i h p q) = u (ix3 i h ⟨2 * p.val + q.val, by omega⟩) := by
  pointwise [SP8]
  first | done | blk_point

/-- `EV8` at one index. -/
theorem EV8_at (v : FVec Ideal S16384x8x64x2 .f32) (i : Fin 16384) (h : Fin 8) (p : Fin 64) : EV8 v (ix3 i h p) = v (ix4 i h p 0) := by
  pointwise [EV8]
  first | done | blk_point

/-- `OD8` at one index. -/
theorem OD8_at (v : FVec Ideal S16384x8x64x2 .f32) (i : Fin 16384) (h : Fin 8) (p : Fin 64) : OD8 v (ix3 i h p) = v (ix4 i h p 1) := by
  pointwise [OD8]
  first | done | blk_point

/-- `BC8` at one index. -/
theorem BC8_at (c : FVec Ideal S16384x64 .f32) (i : Fin 16384) (h : Fin 8) (p : Fin 64) : BC8 c (ix3 i h p) = c (ix2 i p) := by
  pointwise [BC8]
  first | done | blk_point

/-- `JN8` at an even lane. -/
theorem JN8_at0 (a b : FVec Ideal S16384x8x64 .f32) (i : Fin 16384) (h : Fin 8) (p : Fin 64) : JN8 a b (ix4 i h p 0) = a (ix3 i h p) := by
  pointwise [JN8]
  first | done | blk_point

/-- `JN8` at an odd lane. -/
theorem JN8_at1 (a b : FVec Ideal S16384x8x64 .f32) (i : Fin 16384) (h : Fin 8) (p : Fin 64) : JN8 a b (ix4 i h p 1) = b (ix3 i h p) := by
  pointwise [JN8]
  first | done | blk_point

/-- `MG8` at one index. -/
theorem MG8_at (v : FVec Ideal S16384x8x64x2 .f32) (i : Fin 16384) (h : Fin 8) (d : Fin 128) : MG8 v (ix3 i h d) = v (ix4 i h ⟨d.val / 2, by omega⟩ ⟨d.val % 2, by omega⟩) := by
  pointwise [MG8]
  first | done | blk_point

/-- A turned head, from the head and the row's factors. -/
theorem TN8_at (u : FVec Ideal S16384x8x128 .f32) (c s : FVec Ideal S16384x64 .f32) (i : Fin 16384) (h : Fin 8) (d : Fin 128) :
    TN8 (EV8 (SP8 u)) (OD8 (SP8 u)) (BC8 c) (BC8 s) (ix3 i h d) = ROT (fun l => u (ix3 i h l)) (fun p => c (ix2 i p)) (fun p => s (ix2 i p)) d := by
  unfold TN8 ROT
  rw [MG8_at]
  have eE : ∀ p : Fin 64, EV8 (SP8 u) (ix3 i h p) = u (ix3 i h ⟨2 * p.val, by omega⟩) := fun p => (EV8_at _ i h p).trans (SP8_at u i h p 0)
  have eO : ∀ p : Fin 64, OD8 (SP8 u) (ix3 i h p) = u (ix3 i h ⟨2 * p.val + 1, by omega⟩) := fun p => (OD8_at _ i h p).trans (SP8_at u i h p 1)
  by_cases hd : d.val % 2 = 0
  · rw [if_pos hd]
    have e0 : (⟨d.val % 2, by omega⟩ : Fin 2) = 0 := Fin.ext hd
    rw [e0, JN8_at0]
    show EV8 (SP8 u) _ * BC8 c _ - OD8 (SP8 u) _ * BC8 s _ = _
    rw [eE, eO, BC8_at, BC8_at]
    have e1 : (⟨2 * (d.val / 2), by omega⟩ : Fin 128) = d := Fin.ext (by show 2 * (d.val / 2) = d.val; omega)
    have e2 : (⟨2 * (d.val / 2) + 1, by omega⟩ : Fin 128) = ⟨(d.val + 1) % 128, by omega⟩ := Fin.ext (by show 2 * (d.val / 2) + 1 = (d.val + 1) % 128; omega)
    rw [e1, e2]
  · rw [if_neg hd]
    have e0 : (⟨d.val % 2, by omega⟩ : Fin 2) = 1 := Fin.ext (by show d.val % 2 = 1; omega)
    rw [e0, JN8_at1]
    show EV8 (SP8 u) _ * BC8 s _ + OD8 (SP8 u) _ * BC8 c _ = _
    rw [eE, eO, BC8_at, BC8_at]
    have e1 : (⟨2 * (d.val / 2), by omega⟩ : Fin 128) = ⟨d.val - 1, by omega⟩ := Fin.ext (by show 2 * (d.val / 2) = d.val - 1; omega)
    have e2 : (⟨2 * (d.val / 2) + 1, by omega⟩ : Fin 128) = d := Fin.ext (by show 2 * (d.val / 2) + 1 = d.val; omega)
    rw [e1, e2]

/-- A head's sum of squares. -/
theorem sq8_at (r : FVec Ideal S16384x8x128 .f32) (i : Fin 16384) (h : Fin 8) :
    multiReduction .add [2] S16384x8 (mulf r r) 0x00000000#32 reduces_S16384x8x128_S16384x8 (.inl rfl) rfl (ix2 i h) = ∑ l : Fin 128, r (ix3 i h l) * r (ix3 i h l) := by
  pointwise

/-- A value to a head, with one lane. -/
theorem cl8_at (z : FVec Ideal S16384x8 .f32) (i : Fin 16384) (h : Fin 8) : shapeCast S16384x8x1 z shapeCasts_S16384x8_S16384x8x1 (ix3 i h 0) = z (ix2 i h) := by
  pointwise

/-- A head's root mean square. -/
theorem RM8_at (r : FVec Ideal S16384x8x128 .f32) (i : Fin 16384) (h : Fin 8) :
    RM8 r (ix3 i h 0) = Ideal.sqrt (Ideal.div (∑ l : Fin 128, r (ix3 i h l) * r (ix3 i h l)) (Ideal.ofBits .f32 0x43000000#32) + Ideal.ofBits .f32 0x358637BD#32) := by
  unfold RM8
  rw [RQ8_at, cl8_at, sq8_at]

/-- A normalised head. -/
theorem NM8_at (r : FVec Ideal S16384x8x128 .f32) (i : Fin 16384) (h : Fin 8) (d : Fin 128) : NM8 r (ix3 i h d) = HN (fun l => r (ix3 i h l)) d := by
  unfold HN
  rw [← RM8_at]
  unfold NM8
  generalize RM8 r = z
  pointwise

/-- The heads' columns. -/
def HC8 (z : FVec Ideal S16384x7168 .f32) : FVec Ideal S16384x8x128 .f32 :=
  shapeCast S16384x8x128 (extractStridedSlice S16384x1024 ![0, 5120] z slices_S16384x7168_o0_5120_S16384x1024) shapeCasts_S16384x1024_S16384x8x128

/-- One of them. -/
theorem HC8_at (z : FVec Ideal S16384x7168 .f32) (i : Fin 16384) (h : Fin 8) (d : Fin 128) : HC8 z (ix3 i h d) = z (ix2 i ⟨5120 + 128 * h.val + d.val, by omega⟩) := by
  pointwise [HC8]
  first | done | blk_point

/-- A head, from the projection. -/
theorem head8_at (z : FVec Ideal S16384x7168 .f32) (c s : FVec Ideal S16384x64 .f32) (i : Fin 16384) (h : Fin 8) (d : Fin 128) :
    NM8 (TN8 (EV8 (SP8 (HC8 z))) (OD8 (SP8 (HC8 z))) (BC8 c) (BC8 s)) (ix3 i h d)
    = HEAD (fun j => z (ix2 i j)) (fun p => c (ix2 i p)) (fun p => s (ix2 i p)) (5120 + 128 * h.val) (by omega) d := by
  rw [NM8_at]
  simp only [TN8_at, HC8_at]
  rfl

/-- The body's queries. -/
theorem pay9_eq (s : FVec Ideal S16384x1 .f32) (a : FVec Ideal S16384x5120 .fp8e4m3) (w : Vec Ideal S5120x7168 .fp8e4m3) (k : FVec Ideal S16384x7168 .f32) (ws : Vec Ideal S1x7168 .f32) (cs sn : Vec Ideal S16384x64 .f32) :
    k0_pay9 s a w k ws cs sn = NM40 (TN40 (EV40 (SP40 (HC40 (k0_pay5 s a w k ws)))) (OD40 (SP40 (HC40 (k0_pay5 s a w k ws)))) (BC40 (k0_pay7 cs)) (BC40 (k0_pay8 sn))) := rfl

/-- The body's keys. -/
theorem pay13_eq (s : FVec Ideal S16384x1 .f32) (a : FVec Ideal S16384x5120 .fp8e4m3) (w : Vec Ideal S5120x7168 .fp8e4m3) (k : FVec Ideal S16384x7168 .f32) (ws : Vec Ideal S1x7168 .f32) (cs sn : FVec Ideal S16384x64 .f32) :
    k0_pay13 cs sn (k0_pay10 s a w k ws) (k0_pay11 s a w k ws)
    = shapeCast S16384x1024 (NM8 (TN8 (EV8 (SP8 (HC8 (k0_pay5 s a w k ws)))) (OD8 (SP8 (HC8 (k0_pay5 s a w k ws)))) (BC8 cs) (BC8 sn))) shapeCasts_S16384x8x128_S16384x1024 := rfl

/-- The keys' heads side by side. -/
theorem kc_at (z : FVec Ideal S16384x8x128 .bf16) (i : Fin 16384) (j : Fin 1024) :
    shapeCast S16384x1024 z shapeCasts_S16384x8x128_S16384x1024 (ix2 i j) = z (ix3 i ⟨j.val / 128, by omega⟩ ⟨j.val % 128, by omega⟩) := by
  pointwise
  first | done | blk_point

end Cert.LocalQkvMathIdeal.Blocks

end
-- ==== Proof.LocalQkvMath.lean ====
/- The plain statement of the local query/key/value projection leaves the kernel's six arrays, over the reals. -/
module

public import proofs.«01_k».proof.Proof.LocalQkvMathPays
public import proofs.«01_k».proof.Proof.LocalQkvMathHeads
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Common

namespace Cert.LocalQkvMathIdeal.Blocks

open Cert.LocalQkvMathIdeal Cert.LocalQkvMathIdeal.Gen

variable (m : (ℓ : Loc nD τ sig) → Buf (Elt Ideal) ℓ)

open Cert.LocalQkvIdeal.Blocks (XR CR PR HR rowOf REF6 REF7 REF8 REF9 REF10 REF11)

/-- What a window's array holds when the call starts: the tokens as rows. -/
theorem x_eq (c : Dev nD) : V m c main_v0 = shapeCast S16384x5120 (m ((c : Thread nD τ).loc main_arg0)) shapeCasts_S4x4096x5120_S16384x5120 := by
  unfold V
  simp only [List.flatten, hostOps0, List.append_nil, List.cons_append, List.nil_append]
  after_reads_simp
  rfl

/-- What a window's array holds when the call starts: the norm's weight as a row. -/
theorem nw_eq (c : Dev nD) : V m c main_v1 = shapeCast S1x5120 (m ((c : Thread nD τ).loc main_arg3)) shapeCasts_S5120_S1x5120 := by
  unfold V
  simp only [List.flatten, hostOps0, List.append_nil, List.cons_append, List.nil_append]
  after_reads_simp
  rfl

/-- What a window's array holds when the call starts: the columns' scales as a row. -/
theorem ws_eq (c : Dev nD) : V m c main_v2 = shapeCast S1x7168 (m ((c : Thread nD τ).loc main_arg5)) shapeCasts_S7168_S1x7168 := by
  unfold V
  simp only [List.flatten, hostOps0, List.append_nil, List.cons_append, List.nil_append]
  after_reads_simp
  rfl

/-- What a window's array holds when the call starts: the cosines as rows. -/
theorem cs_eq (c : Dev nD) : V m c main_v3 = shapeCast S16384x64 (m ((c : Thread nD τ).loc main_arg1)) shapeCasts_S4x4096x64_S16384x64 := by
  unfold V
  simp only [List.flatten, hostOps0, List.append_nil, List.cons_append, List.nil_append]
  after_reads_simp
  rfl

/-- What a window's array holds when the call starts: the sines as rows. -/
theorem sn_eq (c : Dev nD) : V m c main_v4 = shapeCast S16384x64 (m ((c : Thread nD τ).loc main_arg2)) shapeCasts_S4x4096x64_S16384x64 := by
  unfold V
  simp only [List.flatten, hostOps0, List.append_nil, List.cons_append, List.nil_append]
  after_reads_simp
  rfl

/-- The tokens as rows, at one index. -/
theorem x_cast (z : FVec Ideal S4x4096x5120 .bf16) (r : Fin 16384) (k : Fin 5120) : shapeCast S16384x5120 z shapeCasts_S4x4096x5120_S16384x5120 (ix2 r k) = XR z r k := by
  unfold XR
  pointwise

/-- The angles' factors as rows, at one index. -/
theorem c_cast (z : FVec Ideal S4x4096x64 .f32) (r : Fin 16384) (k : Fin 64) : shapeCast S16384x64 z shapeCasts_S4x4096x64_S16384x64 (ix2 r k) = CR z r k := by
  unfold CR
  pointwise

/-- The norm's weight as a row, at one index. -/
theorem nw_cast (z : FVec Ideal S5120 .f32) (j : Fin 5120) : shapeCast S1x5120 z shapeCasts_S5120_S1x5120 (ix2 0 j) = z (ix1 j) := by
  pointwise

/-- The columns' scales as a row, at one index. -/
theorem ws_cast (z : FVec Ideal S7168 .f32) (j : Fin 7168) : shapeCast S1x7168 z shapeCasts_S7168_S1x7168 (ix2 0 j) = z (ix1 j) := by
  pointwise

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0, 0] ∧ win0_8.index t = ![0, 0, 0, 0, 0]
    ∧ win0_9.index t = ![0, 0] ∧ win0_10.index t = ![0, 0] ∧ win0_11.index t = ![0, 0, 0, 0] :=
  (by decide +kernel : ∀ t : Fin grid0.N, _)

/-- The tokens. -/
theorem b0 (c : Dev nD) (t : Fin cfg0.N) (i : Fin 16384) (k : Fin 5120) : iblk m c 0 t (ix2 i k) = XR (m ((c : Thread nD τ).loc main_arg0)) i k := by
  have e : (iblk m c 0 t) (ix2 i k) = V m c main_v0 (ix2 i k) := by
    show V m c main_v0 _ = _
    blk_ext [idx t]
  rw [e, x_eq, x_cast]

/-- The norm's weight. -/
theorem b1 (c : Dev nD) (t : Fin cfg0.N) (j : Fin 5120) : iblk m c 1 t (ix2 0 j) = m ((c : Thread nD τ).loc main_arg3) (ix1 j) := by
  have e : (iblk m c 1 t) (ix2 0 j) = V m c main_v1 (ix2 0 j) := by
    show V m c main_v1 _ = _
    blk_ext [idx t]
  rw [e, nw_eq, nw_cast]

/-- The columns' scales. -/
theorem b3 (c : Dev nD) (t : Fin cfg0.N) (j : Fin 7168) : iblk m c 3 t (ix2 0 j) = m ((c : Thread nD τ).loc main_arg5) (ix1 j) := by
  have e : (iblk m c 3 t) (ix2 0 j) = V m c main_v2 (ix2 0 j) := by
    show V m c main_v2 _ = _
    blk_ext [idx t]
  rw [e, ws_eq, ws_cast]

/-- The cosines. -/
theorem b4 (c : Dev nD) (t : Fin cfg0.N) (i : Fin 16384) (k : Fin 64) : iblk m c 4 t (ix2 i k) = CR (m ((c : Thread nD τ).loc main_arg1)) i k := by
  have e : (iblk m c 4 t) (ix2 i k) = V m c main_v3 (ix2 i k) := by
    show V m c main_v3 _ = _
    blk_ext [idx t]
  rw [e, cs_eq, c_cast]

/-- The sines. -/
theorem b5 (c : Dev nD) (t : Fin cfg0.N) (i : Fin 16384) (k : Fin 64) : iblk m c 5 t (ix2 i k) = CR (m ((c : Thread nD τ).loc main_arg2)) i k := by
  have e : (iblk m c 5 t) (ix2 i k) = V m c main_v4 (ix2 i k) := by
    show V m c main_v4 _ = _
    blk_ext [idx t]
  rw [e, sn_eq, c_cast]

/-- The weight. -/
theorem b2 (c : Dev nD) (t : Fin cfg0.N) (k : Fin 5120) (j : Fin 7168) : iblk m c 2 t (ix2 k j) = m ((c : Thread nD τ).loc main_arg4) (ix2 k j) := by
  blk_ext [iblk, V, idx t]

/-- Two axes' zero offsets. -/
theorem off2 : (![0, 0] : Fin 2 → ℕ) = fun _ => 0 := by funext a; fin_cases a <;> rfl

/-- The accumulator the product starts from. -/
theorem pay16_eq (x0 : Vec Ideal S16384x5120 .bf16) (x1 : Vec Ideal S1x5120 .f32) (x2 : Vec Ideal S5120x7168 .fp8e4m3) (x3 : Vec Ideal S1x7168 .f32) (x4 x5 : Vec Ideal S16384x64 .f32) : k0_pay16 x0 x1 x2 x3 x4 x5 = constant S16384x7168 .f32 0x00000000#32 := rfl

/-- The scales, as the body keeps them. -/
theorem pay17_eq (x0 : Vec Ideal S16384x5120 .bf16) (x1 : Vec Ideal S1x5120 .f32) (x2 : Vec Ideal S5120x7168 .fp8e4m3) (x3 : Vec Ideal S1x7168 .f32) (x4 x5 : Vec Ideal S16384x64 .f32) : k0_pay17 x0 x1 x2 x3 x4 x5 = k0_pay2 x0 x1 := by
  unfold k0_pay17
  rw [show View.ld x0 r0_0 = x0 from View.ld_unit_zero (S := S16384x5120) off2 _ x0, show View.ld x1 r0_1 = x1 from View.ld_unit_zero (S := S1x5120) off2 _ x1]

/-- The codes, as the body keeps them. -/
theorem pay18_eq (x0 : Vec Ideal S16384x5120 .bf16) (x1 : Vec Ideal S1x5120 .f32) (x2 : Vec Ideal S5120x7168 .fp8e4m3) (x3 : Vec Ideal S1x7168 .f32) (x4 x5 : Vec Ideal S16384x64 .f32) : k0_pay18 x0 x1 x2 x3 x4 x5 = k0_pay3 x0 x1 := by
  unfold k0_pay18
  rw [show View.ld x0 r0_0 = x0 from View.ld_unit_zero (S := S16384x5120) off2 _ x0, show View.ld x1 r0_1 = x1 from View.ld_unit_zero (S := S1x5120) off2 _ x1]

/-- The values' columns, as the body keeps them. -/
theorem pay19_eq (x0 : Vec Ideal S16384x5120 .bf16) (x1 : Vec Ideal S1x5120 .f32) (x2 : Vec Ideal S5120x7168 .fp8e4m3) (x3 : Vec Ideal S1x7168 .f32) (x4 x5 : Vec Ideal S16384x64 .f32) : k0_pay19 x0 x1 x2 x3 x4 x5 = k0_pay6 (k0_pay2 x0 x1) (k0_pay3 x0 x1) x2 (constant S16384x7168 .f32 0x00000000#32) x3 := by
  unfold k0_pay19
  rw [pay16_eq, pay17_eq, pay18_eq, show View.ld x2 r0_3 = x2 from View.ld_unit_zero (S := S5120x7168) off2 _ x2, show View.ld x3 r0_4 = x3 from View.ld_unit_zero (S := S1x7168) off2 _ x3]

/-- The body's projection from the blocks it reads. -/
abbrev ZP (x : Vec Ideal S16384x5120 .bf16) (nw : Vec Ideal S1x5120 .f32) (w : Vec Ideal S5120x7168 .fp8e4m3) (ws : Vec Ideal S1x7168 .f32) : FVec Ideal S16384x7168 .f32 :=
  k0_pay5 (k0_pay2 x nw) (k0_pay3 x nw) w (constant S16384x7168 .f32 0x00000000#32) ws

/-- The body's projection is the kernel's. -/
theorem ZP_eq (c : Dev nD) (i : Fin 16384) (j : Fin 7168) :
    ZP (iblk m c 0 t0_0) (iblk m c 1 t0_0) (iblk m c 2 t0_0) (iblk m c 3 t0_0) (ix2 i j) = PR (m ((c : Thread nD τ).loc main_arg0)) (m ((c : Thread nD τ).loc main_arg3)) (m ((c : Thread nD τ).loc main_arg4)) (m ((c : Thread nD τ).loc main_arg5)) i j := by
  refine (pay5_at _ _ _ _ i j).trans ?_
  rw [pay2_at]
  simp only [pay3_at, b0, b1, b2, b3]
  rfl

/-- The body's values. -/
theorem VP_eq (c : Dev nD) (i : Fin 16384) (j : Fin 1024) :
    k0_pay6 (k0_pay2 (iblk m c 0 t0_0) (iblk m c 1 t0_0)) (k0_pay3 (iblk m c 0 t0_0) (iblk m c 1 t0_0)) (iblk m c 2 t0_0) (constant S16384x7168 .f32 0x00000000#32) (iblk m c 3 t0_0) (ix2 i j)
    = PL 6144 (by norm_num) (PR (m ((c : Thread nD τ).loc main_arg0)) (m ((c : Thread nD τ).loc main_arg3)) (m ((c : Thread nD τ).loc main_arg4)) (m ((c : Thread nD τ).loc main_arg5))) i j := by
  have e : ∀ s a w k ws, k0_pay6 (F := Ideal) s a w k ws = extractStridedSlice S16384x1024 ![0, 6144] (k0_pay5 s a w k ws) slices_S16384x7168_o0_6144_S16384x1024 := fun _ _ _ _ _ => rfl
  rw [e, vcol_at]
  exact ZP_eq m c i _

/-- Heads of the same rows are the same. -/
theorem HEAD_eq {p q : Fin 7168 → EReal} {c s c' s' : Fin 64 → EReal} {o o' : ℕ} (hp : p = q) (hc : c = c') (hs : s = s') (ho : o = o') (h : o + 128 ≤ 7168) (h' : o' + 128 ≤ 7168) (d : Fin 128) :
    HEAD p c s o h d = HEAD q c' s' o' h' d := by
  subst hp hc hs ho
  rfl

/-- A head of queries. -/
theorem QH_eq (c : Dev nD) (i : Fin 16384) (h : Fin 40) (d : Fin 128) :
    k0_pay9 (k0_pay2 (iblk m c 0 t0_0) (iblk m c 1 t0_0)) (k0_pay3 (iblk m c 0 t0_0) (iblk m c 1 t0_0)) (iblk m c 2 t0_0) (constant S16384x7168 .f32 0x00000000#32) (iblk m c 3 t0_0) (iblk m c 4 t0_0) (iblk m c 5 t0_0) (ix3 i h d)
    = HR (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) i ⟨h.val, by omega⟩ d := by
  rw [pay9_eq, head40_at]
  unfold HR
  refine HEAD_eq (funext fun j => ZP_eq m c i j) (funext fun p => ?_) (funext fun p => ?_) ?_ _ _ d
  · rw [pay7_at, b4]
  · rw [pay8_at, b5]
  · show 0 + 128 * h.val = 128 * h.val; omega

/-- A head of keys. -/
theorem KH_eq (c : Dev nD) (i : Fin 16384) (j : Fin 1024) :
    k0_pay13 (k0_pay7 (iblk m c 4 t0_0)) (k0_pay8 (iblk m c 5 t0_0)) (k0_pay10 (k0_pay2 (iblk m c 0 t0_0) (iblk m c 1 t0_0)) (k0_pay3 (iblk m c 0 t0_0) (iblk m c 1 t0_0)) (iblk m c 2 t0_0) (constant S16384x7168 .f32 0x00000000#32) (iblk m c 3 t0_0))
      (k0_pay11 (k0_pay2 (iblk m c 0 t0_0) (iblk m c 1 t0_0)) (k0_pay3 (iblk m c 0 t0_0) (iblk m c 1 t0_0)) (iblk m c 2 t0_0) (constant S16384x7168 .f32 0x00000000#32) (iblk m c 3 t0_0)) (ix2 i j)
    = HR (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) i ⟨40 + j.val / 128, by omega⟩ ⟨j.val % 128, by omega⟩ := by
  rw [pay13_eq, kc_at, head8_at]
  unfold HR
  refine HEAD_eq (funext fun j => ZP_eq m c i j) (funext fun p => ?_) (funext fun p => ?_) ?_ _ _ _
  · rw [pay7_at, b4]
  · rw [pay8_at, b5]
  · show 5120 + 128 * (j.val / 128) = 128 * (40 + j.val / 128); omega

/-- Result 1 after the run. -/
theorem final6 (c : Dev nD) : (dats m 0 c).arrAt 6 cfg0.N = REF6 (m ((c : Thread nD τ).loc main_arg0)) (m ((c : Thread nD τ).loc main_arg3)) := by
  have h : (dats m 0 c).arrAt 6 cfg0.N = out0_6 (iblk m c 0 t0_0) (iblk m c 1 t0_0) (iblk m c 2 t0_0) (iblk m c 3 t0_0) (iblk m c 4 t0_0) (iblk m c 5 t0_0) := by
    refine (dats m 0 c).arrAt_eq_of_after_last 6 t0_0 (by decide +kernel) _ fun y => ?_
    blk_simp
    rw [after0_6]
    blk_ext [idx t0_0]
  rw [h]
  frame_out
  funext y
  obtain ⟨i, j, rfl⟩ : ∃ (i : Fin 16384) (j : Fin 5120), y = ix2 i j := ⟨y 0, y 1, by ext a; fin_cases a <;> rfl⟩
  rw [pay3_at]
  simp only [b0, b1]
  rfl

/-- Result 2 after the run. -/
theorem final7 (c : Dev nD) : (dats m 0 c).arrAt 7 cfg0.N = REF7 (m ((c : Thread nD τ).loc main_arg0)) (m ((c : Thread nD τ).loc main_arg3)) := by
  have h : (dats m 0 c).arrAt 7 cfg0.N = out0_7 (iblk m c 0 t0_0) (iblk m c 1 t0_0) (iblk m c 2 t0_0) (iblk m c 3 t0_0) (iblk m c 4 t0_0) (iblk m c 5 t0_0) := by
    refine (dats m 0 c).arrAt_eq_of_after_last 7 t0_0 (by decide +kernel) _ fun y => ?_
    blk_simp
    rw [after0_7]
    blk_ext [idx t0_0]
  rw [h]
  frame_out
  funext y
  obtain ⟨a, i, rfl⟩ : ∃ (a : Fin 64) (i : Fin 256), y = ix3 a 0 i := ⟨y 0, y 2, by ext a; fin_cases a <;> first | rfl | exact congrArg Fin.val (Subsingleton.elim (α := Fin 1) _ _)⟩
  rw [pay4_at]
  simp only [b0, b1]
  rfl

/-- Result 3 after the run. -/
theorem final8 (c : Dev nD) : (dats m 0 c).arrAt 8 cfg0.N = REF8 (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) := by
  have h : (dats m 0 c).arrAt 8 cfg0.N = out0_8 (iblk m c 0 t0_0) (iblk m c 1 t0_0) (iblk m c 2 t0_0) (iblk m c 3 t0_0) (iblk m c 4 t0_0) (iblk m c 5 t0_0) := by
    refine (dats m 0 c).arrAt_eq_of_after_last 8 t0_0 (by decide +kernel) _ fun y => ?_
    blk_simp
    rw [after0_8]
    blk_ext [idx t0_0]
  rw [h]
  frame_out
  funext y
  obtain ⟨a, b, h, l, i, rfl⟩ : ∃ (a : Fin 4) (b : Fin 16) (h : Fin 40) (l : Fin 128) (i : Fin 256), y = ix5 a b h l i :=
    ⟨y 0, y 1, y 2, y 3, y 4, by ext a; fin_cases a <;> rfl⟩
  rw [pay16_eq, pay17_eq, pay18_eq, pay12_at]
  exact QH_eq m c _ h l

/-- Result 4 after the run. -/
theorem final9 (c : Dev nD) : (dats m 0 c).arrAt 9 cfg0.N = REF9 (m ((c : Thread nD τ).loc main_arg0)) (m ((c : Thread nD τ).loc main_arg3)) (m ((c : Thread nD τ).loc main_arg4)) (m ((c : Thread nD τ).loc main_arg5)) (m ((c : Thread nD τ).loc main_arg1)) (m ((c : Thread nD τ).loc main_arg2)) := by
  have h : (dats m 0 c).arrAt 9 cfg0.N = out0_9 (iblk m c 0 t0_0) (iblk m c 1 t0_0) (iblk m c 2 t0_0) (iblk m c 3 t0_0) (iblk m c 4 t0_0) (iblk m c 5 t0_0) := by
    refine (dats m 0 c).arrAt_eq_of_after_last 9 t0_0 (by decide +kernel) _ fun y => ?_
    blk_simp
    rw [after0_9]
    blk_ext [idx t0_0]
  rw [h]
  frame_out
  funext y
  obtain ⟨i, j, rfl⟩ : ∃ (i : Fin 16384) (j : Fin 1024), y = ix2 i j := ⟨y 0, y 1, by ext a; fin_cases a <;> rfl⟩
  rw [pay16_eq, pay17_eq, pay18_eq]
  exact KH_eq m c i j

/-- Result 5 after the run. -/
theorem final10 (c : Dev nD) : (dats m 0 c).arrAt 10 cfg0.N = REF10 (m ((c : Thread nD τ).loc main_arg0)) (m ((c : Thread nD τ).loc main_arg3)) (m ((c : Thread nD τ).loc main_arg4)) (m ((c : Thread nD τ).loc main_arg5)) := by
  have h : (dats m 0 c).arrAt 10 cfg0.N = out0_10 (iblk m c 0 t0_0) (iblk m c 1 t0_0) (iblk m c 2 t0_0) (iblk m c 3 t0_0) (iblk m c 4 t0_0) (iblk m c 5 t0_0) := by
    refine (dats m 0 c).arrAt_eq_of_after_last 10 t0_0 (by decide +kernel) _ fun y => ?_
    blk_simp
    rw [after0_10]
    blk_ext [idx t0_0]
  rw [h]
  frame_out
  funext y
  obtain ⟨i, j, rfl⟩ : ∃ (i : Fin 16384) (j : Fin 1024), y = ix2 i j := ⟨y 0, y 1, by ext a; fin_cases a <;> rfl⟩
  rw [pay19_eq, pay14_at]
  exact VP_eq m c i j

/-- Result 6 after the run. -/
theorem final11 (c : Dev nD) : (dats m 0 c).arrAt 11 cfg0.N = REF11 (m ((c : Thread nD τ).loc main_arg0)) (m ((c : Thread nD τ).loc main_arg3)) (m ((c : Thread nD τ).loc main_arg4)) (m ((c : Thread nD τ).loc main_arg5)) := by
  have h : (dats m 0 c).arrAt 11 cfg0.N = out0_11 (iblk m c 0 t0_0) (iblk m c 1 t0_0) (iblk m c 2 t0_0) (iblk m c 3 t0_0) (iblk m c 4 t0_0) (iblk m c 5 t0_0) := by
    refine (dats m 0 c).arrAt_eq_of_after_last 11 t0_0 (by decide +kernel) _ fun y => ?_
    blk_simp
    rw [after0_11]
    blk_ext [idx t0_0]
  rw [h]
  frame_out
  funext y
  obtain ⟨a, b, j, i, rfl⟩ : ∃ (a : Fin 4) (b : Fin 16) (j : Fin 1024) (i : Fin 256), y = ix4 a b j i :=
    ⟨y 0, y 1, y 2, y 3, by ext a; fin_cases a <;> rfl⟩
  rw [pay19_eq, pay15_at]
  exact VP_eq m c _ j

end Cert.LocalQkvMathIdeal.Blocks

end
-- ==== Proof.LocalQkvClaim.lean ====
/- The claims about the local query/key/value projection. -/
module

public import proofs.«01_k».proof.Defs
public import proofs.«01_k».proof.Proof.Gen.LocalQkv.Frame
public import proofs.«01_k».proof.Proof.LocalQkvArray
public import proofs.«01_k».proof.Proof.LocalQkvMath
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 4000000 in
/-- Over the reals the local query/key/value projection and its plain statement leave the same six arrays. -/
theorem local_qkv : algebraic_LocalQkvIdeal_LocalQkvMathIdeal (hLocalQkvIdeal := Cert.LocalQkvIdeal.Gen.facts) (hLocalQkvMathIdeal := Cert.LocalQkvMathIdeal.Gen.facts) := by
  intro m g m' g' _ hagree
  refine ⟨fun c => (Cert.LocalQkvIdeal.Gen.dats m 0 c).arrAt 6 Cert.LocalQkvIdeal.cfg0.N,
    fun c => (Cert.LocalQkvIdeal.Gen.dats m 0 c).arrAt 7 Cert.LocalQkvIdeal.cfg0.N,
    fun c => (Cert.LocalQkvIdeal.Gen.dats m 0 c).arrAt 8 Cert.LocalQkvIdeal.cfg0.N,
    fun c => (Cert.LocalQkvIdeal.Gen.dats m 0 c).arrAt 9 Cert.LocalQkvIdeal.cfg0.N,
    fun c => (Cert.LocalQkvIdeal.Gen.dats m 0 c).arrAt 10 Cert.LocalQkvIdeal.cfg0.N,
    fun c => (Cert.LocalQkvIdeal.Gen.dats m 0 c).arrAt 11 Cert.LocalQkvIdeal.cfg0.N,
    (θ_run _ _ _).mono (fun r h c => h c) (Cert.LocalQkvIdeal.Value.run_blocks m g),
    (θ_run _ _ _).mono (fun r h c => ⟨(h c).1.trans ((Cert.LocalQkvMathIdeal.Blocks.final6 m' c).trans ?_),
      (h c).2.1.trans ((Cert.LocalQkvMathIdeal.Blocks.final7 m' c).trans ?_),
      (h c).2.2.1.trans ((Cert.LocalQkvMathIdeal.Blocks.final8 m' c).trans ?_),
      (h c).2.2.2.1.trans ((Cert.LocalQkvMathIdeal.Blocks.final9 m' c).trans ?_),
      (h c).2.2.2.2.1.trans ((Cert.LocalQkvMathIdeal.Blocks.final10 m' c).trans ?_),
      (h c).2.2.2.2.2.1.trans ((Cert.LocalQkvMathIdeal.Blocks.final11 m' c).trans ?_),
      (h c).2.2.2.2.2.2⟩) (Cert.LocalQkvMathIdeal.Run.run_blocks m' g')⟩
  all_goals
    obtain ⟨h0, h1, h2, h3, h4, h5⟩ := hagree c
  · rw [h0, h3]
    exact (Cert.LocalQkvIdeal.Blocks.final6 m c).symm
  · rw [h0, h3]
    exact (Cert.LocalQkvIdeal.Blocks.final7 m c).symm
  · rw [h0, h3, h4, h5, h1, h2]
    exact (Cert.LocalQkvIdeal.Blocks.final8 m c).symm
  · rw [h0, h3, h4, h5, h1, h2]
    exact (Cert.LocalQkvIdeal.Blocks.final9 m c).symm
  · rw [h0, h3, h4, h5]
    exact (Cert.LocalQkvIdeal.Blocks.final10 m c).symm
  · rw [h0, h3, h4, h5]
    exact (Cert.LocalQkvIdeal.Blocks.final11 m c).symm

end Cert.Proof

end
-- ==== Proof.LocalOutRun.lean ====
/- The run of one grid point of `LocalOut`'s body on any staging buffers: the pieces its stores leave in each output and in
   each scratch buffer, from the inputs' blocks and from what the point before left in the scratch. -/
module

public import proofs.«01_k».proof.Proof.Gen.LocalOut.Frame
public import proofs.«01_k».proof.Proof.Gen.LocalOut.Skeleton
public import Idealize.ShloMosaic.Lib.Exec

@[expose] public section

set_option maxRecDepth 16384

noncomputable section

namespace Cert.LocalOut.Run

open Cert.LocalOut Cert.LocalOut.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S256x5120 .f32 := (Memref.whole cc0_stg6_0 : Memref sig .tc .vmem S256x5120 .f32).view
/-- One staging buffer of output window 7, through which its contents are stated (`View.read_writes_of_cover`: the
    choice does not matter). -/
abbrev VO0_7 : View sig .tc .vmem S256x5120 .fp8e4m3 := (Memref.whole cc0_stg7_0 : Memref sig .tc .vmem S256x5120 .fp8e4m3).view
/-- One staging buffer of output window 8, through which its contents are stated (`View.read_writes_of_cover`: the
    choice does not matter). -/
abbrev VO0_8 : View sig .tc .vmem S1x1x256 .f32 := (Memref.whole cc0_stg8_0 : Memref sig .tc .vmem S1x1x256 .f32).view
/-- Each window's current staging memref at point `t`, spelled as the pipeline passes it (`bodyAt0`), and its wholeness. -/
abbrev ms0_0 (t : Fin cfg0.N) : Memref sig .tc .vmem S256x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x5120 .f32 := Memref.whole cc0_scratch0
abbrev scM0_1 : Memref sig .tc .vmem S256x5120 .f32 := Memref.whole cc0_scratch1
abbrev scM0_2 : Memref sig .tc .vmem S256x128 .f32 := Memref.whole cc0_scratch2
abbrev scM0_3 : Memref sig .tc .vmem S256x128 .f32 := Memref.whole cc0_scratch3
/-- The scratch `arg10` the kernel carries between points, as a view: what it holds is stated through it. -/
abbrev VS0_0 : View sig .tc .vmem S256x5120 .f32 := scM0_0.view
/-- The scratch `arg11` the kernel carries between points, as a view: what it holds is stated through it. -/
abbrev VS0_1 : View sig .tc .vmem S256x5120 .f32 := scM0_1.view
/-- The scratch `arg12` the kernel carries between points, as a view: what it holds is stated through it. -/
abbrev VS0_2 : View sig .tc .vmem S256x128 .f32 := scM0_2.view
/-- The scratch `arg13` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 2284000 in
/-- What the body's stores leave in each output's staging memref, as pieces (last first), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) :
    Σ' (L6 : List (View.Piece (Elt F) S256x5120 .f32)), Σ' (L7 : List (View.Piece (Elt F) S256x5120 .fp8e4m3)), Σ' (L8 : List (View.Piece (Elt F) S1x1x256 .f32)), Σ' (LS0 : List (View.Piece (Elt F) S256x5120 .f32)), Σ' (LS1 : List (View.Piece (Elt F) S256x5120 .f32)), Σ' (LS2 : List (View.Piece (Elt F) S256x128 .f32)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_local_out i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_local_out_eq_skeleton]; unfold cc0_local_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1; obtain rfl := harg12.eq_unread hfs2; obtain rfl := harg13.eq_unread hfs3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

/-- The run's pieces for output 6 tile its block (40 stores of `S256x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1 S256x128.size (by sl_kernel_rfl) y

/-- What the run leaves in output 6's staging buffer: its pieces read back over junk. -/
def out0_A_6 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1)

/-- The run's pieces for output 7 tile its block (20 stores of `S256x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1 S256x256.size (by sl_kernel_rfl) y

/-- What the run leaves in output 7's staging buffer: its pieces read back over junk. -/
def out0_A_7 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1)

/-- The run's pieces for output 8 tile its block (1 store of `S1x1x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1 S1x1x256.size (by sl_kernel_rfl) y

/-- What the run leaves in output 8's staging buffer: its pieces read back over junk. -/
def out0_A_8 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S1x1x256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1)

/-- The run's pieces for scratch `arg10`, which the kernel carries between points, cover it: 40 pieces of `S256x128` tiling it (Lib/Ring.lean `Piece.tiledL`). -/
theorem scover0_A_0 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1 S256x128.size (by sl_kernel_rfl) y

/-- What the run leaves in scratch `arg10`: its pieces read back over junk. -/
def sout0_A_0 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1)

/-- The run's pieces for scratch `arg11`, which the kernel carries between points, cover it: 20 pieces of `S256x256` tiling it (Lib/Ring.lean `Piece.tiledL`). -/
theorem scover0_A_1 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1 S256x256.size (by sl_kernel_rfl) y

/-- What the run leaves in scratch `arg11`: its pieces read back over junk. -/
def sout0_A_1 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1)

/-- The run's pieces for scratch `arg12`, which the kernel carries between points, cover it: 1 piece of `S256x128` tiling it (Lib/Ring.lean `Piece.tiledL`). -/
theorem scover0_A_2 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1 S256x128.size (by sl_kernel_rfl) y

/-- What the run leaves in scratch `arg12`: its pieces read back over junk. -/
def sout0_A_2 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1)

/-- The run's pieces for scratch `arg13`, which the kernel carries between points, cover it: 1 piece of `S256x128` tiling it (Lib/Ring.lean `Piece.tiledL`). -/
theorem scover0_A_3 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1 S256x128.size (by sl_kernel_rfl) y

/-- What the run leaves in scratch `arg13`: its pieces read back over junk. -/
def sout0_A_3 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1)

end Cert.LocalOut.Run

end
-- ==== Proof.LocalOutRegion.lean ====
/- `LocalOut`'s pipeline with its proof data stated as a relation: the body reads its scratch before it stores it, so what the
   first points leave in the outputs depends on what the scratch held at launch. `Reach` says what the scratch may hold before
   each point; the run's post and the frame follow. -/
module

public import proofs.«01_k».proof.Proof.LocalOutRun

@[expose] public section

set_option maxRecDepth 16384

noncomputable section

namespace Cert.LocalOut.Run

open Cert.LocalOut Cert.LocalOut.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch buffers' contents. -/
abbrev Sc (F : FTy → Type) : Type := Vec F S256x5120 .f32 × Vec F S256x5120 .f32 × Vec F S256x128 .f32 × Vec F S256x128 .f32

/-- The residual block point `t` leaves, the scratch having held `x`. -/
def left6 (c : Dev nD) (t : Fin cfg0.N) (x : Sc F) : Vec F S256x5120 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- The block of codes point `t` leaves, the scratch having held `x`. -/
def left7 (c : Dev nD) (t : Fin cfg0.N) (x : Sc F) : Vec F S256x5120 .fp8e4m3 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- The block of scales point `t` leaves, the scratch having held `x`. -/
def left8 (c : Dev nD) (t : Fin cfg0.N) (x : Sc F) : Vec F S1x1x256 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- What point `t` leaves in the scratch, the scratch having held `x`. -/
def leftS (c : Dev nD) (t : Fin cfg0.N) (x : Sc F) : Sc F :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2)

/-- What the scratch may hold before point `n`: anything before the first, then what the points so far make of it. -/
def Reach (c : Dev nD) : (n : ℕ) → n ≤ cfg0.N → Sc F → Prop
  | 0, _, _ => True
  | n + 1, hn, x => ∃ x', Reach c n (Nat.le_of_succ_le hn) x' ∧ x = leftS m c ⟨n, hn⟩ x'

/-- Before point `n` the core holds the four scratch buffers at contents `Reach` allows, and the generator register. -/
def PhiR (c : Dev nD) (n : ℕ) (h : n ≤ cfg0.N) : sProp 𝕄 :=
  iprop(∃ x : Sc F, iprop(⌜Reach m c n h x⌝ ∗ iprop(owns (c : Thread nD τ) scM0_0 fullShare x.1 ∗ owns (c : Thread nD τ) scM0_1 fullShare x.2.1 ∗ owns (c : Thread nD τ) scM0_2 fullShare x.2.2.1 ∗ owns (c : Thread nD τ) scM0_3 fullShare x.2.2.2) ∗ (∃ r, prngReg c r)))

/-- The pipeline's proof data on core `c`: an input's buffer stays, an output's holds what the point makes of some scratch
    contents `Reach` allows. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => ∃ x, Reach m c t.val (Nat.le_of_lt t.isLt) x ∧ X = left6 m c t x
    | ⟨7, _⟩ => fun _ X => ∃ x, Reach m c t.val (Nat.le_of_lt t.isLt) x ∧ X = left7 m c t x
    | ⟨8, _⟩ => fun _ X => ∃ x, Reach m c t.val (Nat.le_of_lt t.isLt) x ∧ X = left8 m c t x
  Φ t := PhiR m c t.val (Nat.le_of_lt_succ t.isLt)
  q _ := fullShare
  owed _ := 0

/-- The proof data's arrays are the region-entry contents. -/
theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X = (X = Y) := by dsimp only [rdat]
theorem after0_1 (c : Dev nD) (t : Fin cfg0.N) (Y X) : (rdat m c).after 1 t Y X = (X = Y) := by dsimp only [rdat]
theorem after0_2 (c : Dev nD) (t : Fin cfg0.N) (Y X) : (rdat m c).after 2 t Y X = (X = Y) := by dsimp only [rdat]
theorem after0_3 (c : Dev nD) (t : Fin cfg0.N) (Y X) : (rdat m c).after 3 t Y X = (X = Y) := by dsimp only [rdat]
theorem after0_4 (c : Dev nD) (t : Fin cfg0.N) (Y X) : (rdat m c).after 4 t Y X = (X = Y) := by dsimp only [rdat]
theorem after0_5 (c : Dev nD) (t : Fin cfg0.N) (Y X) : (rdat m c).after 5 t Y X = (X = Y) := by dsimp only [rdat]
theorem after0_6 (c : Dev nD) (t : Fin cfg0.N) (Y X) : (rdat m c).after 6 t Y X = (∃ x, Reach m c t.val (Nat.le_of_lt t.isLt) x ∧ X = left6 m c t x) := by dsimp only [rdat]
theorem after0_7 (c : Dev nD) (t : Fin cfg0.N) (Y X) : (rdat m c).after 7 t Y X = (∃ x, Reach m c t.val (Nat.le_of_lt t.isLt) x ∧ X = left7 m c t x) := by dsimp only [rdat]
theorem after0_8 (c : Dev nD) (t : Fin cfg0.N) (Y X) : (rdat m c).after 8 t Y X = (∃ x, Reach m c t.val (Nat.le_of_lt t.isLt) x ∧ X = left8 m c t x) := by dsimp only [rdat]
/-- Input 0's staging buffer holds its block at every point. -/
theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rwa [after0_0] at h) t Y h
  rw [hd]; unfold RDat.fetched RDat.blockOf iblk; rw [A_eq]; try rfl
/-- Input 1's staging buffer holds its block at every point. -/
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rwa [after0_1] at h) t Y h
  rw [hd]; unfold RDat.fetched RDat.blockOf iblk; rw [A_eq]; try rfl
/-- Input 2's staging buffer holds its block at every point. -/
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rwa [after0_2] at h) t Y h
  rw [hd]; unfold RDat.fetched RDat.blockOf iblk; rw [A_eq]; try rfl
/-- Input 3's staging buffer holds its block at every point. -/
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rwa [after0_3] at h) t Y h
  rw [hd]; unfold RDat.fetched RDat.blockOf iblk; rw [A_eq]; try rfl
/-- Input 4's staging buffer holds its block at every point. -/
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rwa [after0_4] at h) t Y h
  rw [hd]; unfold RDat.fetched RDat.blockOf iblk; rw [A_eq]; try rfl
/-- Input 5's staging buffer holds its block at every point. -/
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => by rwa [after0_5] at h) t Y h
  rw [hd]; unfold RDat.fetched RDat.blockOf iblk; rw [A_eq]; try rfl

set_option maxHeartbeats 4800000 in
/-- The body at any point: the inputs at their blocks, the outputs at anything, the scratch at contents `Reach` allows. -/
theorem sound_body (c : Dev nD) (t : Fin cfg0.N) (y6 : Vec F S256x5120 .f32) (y7 : Vec F S256x5120 .fp8e4m3) (y8 : Vec F S1x1x256 .f32) :
    iprop(PhiR m c t.val (Nat.le_of_lt t.isLt) ∗ (rdat m c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare y6
      ∗ owns (c : Thread nD τ) (ms0_7 t) fullShare y7
      ∗ owns (c : Thread nD τ) (ms0_8 t) fullShare y8)
    ⊢ wp frame (wpE (defs₀ (F := F)) Variants.none c none) Set.univ (bodyAt0 t) (fun _ =>
      iprop(PhiR m c (t.val + 1) t.isLt ∗ (rdat m c).owesAt () t.castSucc
      ∗ (∃ X, ⌜X = iblk m c 0 t⌝ ∗ owns (c : Thread nD τ) (ms0_0 t) fullShare X)
      ∗ (∃ X, ⌜X = iblk m c 1 t⌝ ∗ owns (c : Thread nD τ) (ms0_1 t) fullShare X)
      ∗ (∃ X, ⌜X = iblk m c 2 t⌝ ∗ owns (c : Thread nD τ) (ms0_2 t) fullShare X)
      ∗ (∃ X, ⌜X = iblk m c 3 t⌝ ∗ owns (c : Thread nD τ) (ms0_3 t) fullShare X)
      ∗ (∃ X, ⌜X = iblk m c 4 t⌝ ∗ owns (c : Thread nD τ) (ms0_4 t) fullShare X)
      ∗ (∃ X, ⌜X = iblk m c 5 t⌝ ∗ owns (c : Thread nD τ) (ms0_5 t) fullShare X)
      ∗ (∃ X, ⌜∃ x, Reach m c t.val (Nat.le_of_lt t.isLt) x ∧ X = left6 m c t x⌝ ∗ owns (c : Thread nD τ) (ms0_6 t) fullShare X)
      ∗ (∃ X, ⌜∃ x, Reach m c t.val (Nat.le_of_lt t.isLt) x ∧ X = left7 m c t x⌝ ∗ owns (c : Thread nD τ) (ms0_7 t) fullShare X)
      ∗ (∃ X, ⌜∃ x, Reach m c t.val (Nat.le_of_lt t.isLt) x ∧ X = left8 m c t x⌝ ∗ owns (c : Thread nD τ) (ms0_8 t) fullShare X))) := by
  unfold bodyAt0
  rw [PhiR]
  iintro ⟨⟨%x, %hx, ⟨HS0, HS1, HS2, HS3⟩, Hg⟩, Ho, H0, H1, H2, H3, H4, H5, H6, H7, H8⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%es0, HS0⟩, ⟨%es1, HS1⟩, ⟨%es2, HS2⟩, ⟨%es3, HS3⟩⟩
  isplitl [HS0 HS1 HS2 HS3 Hg]
  · rw [PhiR]
    iexists (leftS m c t x)
    isplitr
    · ipureintro; exact ⟨x, hx, rfl⟩
    isplitl [HS0 HS1 HS2 HS3]
    · unfold leftS; dsimp only
      unfold sout0_A_0 sout0_A_1 sout0_A_2 sout0_A_3
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists (left6 m c t x); isplitr
    · ipureintro; exact ⟨x, hx, rfl⟩
    unfold left6 out0_A_6 owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _)
  isplitl [H7]
  · iexists (left7 m c t x); isplitr
    · ipureintro; exact ⟨x, hx, rfl⟩
    unfold left7 out0_A_7 owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _)
  iexists (left8 m c t x); isplitr
  · ipureintro; exact ⟨x, hx, rfl⟩
  unfold left8 out0_A_8 owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation for the relational proof data. -/
theorem body_obligation (c : Dev nD) : (rdat (F := F) m c).BodyObligation (defs₀ (F := F)) Variants.none () Set.univ := fun t Y hY => by
  rw [bigSep_W0, defs₀_row]
  simp only [bigSep_W0]
  rw [finds0_0 m c t _ (hY 0), finds0_1 m c t _ (hY 1), finds0_2 m c t _ (hY 2), finds0_3 m c t _ (hY 3),
    finds0_4 m c t _ (hY 4), finds0_5 m c t _ (hY 5)]
  simp only [after0_0, after0_1, after0_2, after0_3, after0_4, after0_5, after0_6, after0_7, after0_8]
  exact triple_restated (sound_body m c t (Y 6) (Y 7) (Y 8)) rfl .rfl fun _ => .rfl

/-- What the launch hands the region is the invariant before the first point. -/
theorem hin (c : Dev nD) : Pipeline.ΦA spec0 c ⊢ (rdat m c).Φ 0 := by
  rw [show (rdat m c).Φ 0 = PhiR m c 0 (Nat.zero_le _) from rfl, PhiA0_eq, PhiR]
  iintro ⟨⟨⟨%x0, HS0⟩, ⟨%x1, HS1⟩, ⟨%x2, HS2⟩, ⟨%x3, HS3⟩⟩, Hg⟩
  iexists ((x0, x1, x2, x3) : Sc F)
  isplitr
  · ipureintro; exact trivial
  isplitl [HS0 HS1 HS2 HS3]
  · isplitl [HS0]; · iexact HS0
    isplitl [HS1]; · iexact HS1
    isplitl [HS2]; · iexact HS2
    iexact HS3
  iexact Hg

/-- The invariant after the last point gives the scratch and the register back, their contents forgotten. -/
theorem hout (c : Dev nD) : (rdat m c).Φ (Fin.last cfg0.N) ⊢ Pipeline.ΦA spec0 c := by
  rw [show (rdat m c).Φ (Fin.last cfg0.N) = PhiR m c cfg0.N le_rfl from rfl, PhiA0_eq, PhiR]
  iintro ⟨%x, %hx, ⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch: the run's relational post, and every semaphore counter at zero. -/
theorem run_main_quiescent : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- The run's relational post. -/
theorem run_main : θ_run defs (onTc (τ := τ) (main (F := F))) (s₀ m ρ) (RDat.FramePost cfg0 (rdat m) (V m)) :=
  (θ_run defs _ _).mono (fun _ h => h.1) (run_main_quiescent m ρ)

/-- The argument arrays end as launched, in every state the post allows. -/
theorem kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => kept m h.1 c, h.2⟩) (run_main_quiescent m ρ)

end Cert.LocalOut.Run

end
-- ==== Proof.LocalOutIdealRun.lean ====
/- The run of one grid point of `LocalOutIdeal`'s body on any staging buffers: the pieces its stores leave in each output and in
   each scratch buffer, from the inputs' blocks and from what the point before left in the scratch. -/
module

public import proofs.«01_k».proof.Proof.Gen.LocalOutIdeal.Frame
public import proofs.«01_k».proof.Proof.Gen.LocalOutIdeal.Skeleton
public import Idealize.ShloMosaic.Lib.Exec

@[expose] public section

set_option maxRecDepth 16384

noncomputable section

namespace Cert.LocalOutIdeal.Run

open Cert.LocalOutIdeal Cert.LocalOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 6, through which its contents are stated (`View.read_writes_of_cover`: the
    choice does not matter). -/
abbrev VO0_6 : View sig .tc .vmem S256x5120 .f32 := (Memref.whole cc0_stg6_0 : Memref sig .tc .vmem S256x5120 .f32).view
/-- One staging buffer of output window 7, through which its contents are stated (`View.read_writes_of_cover`: the
    choice does not matter). -/
abbrev VO0_7 : View sig .tc .vmem S256x5120 .fp8e4m3 := (Memref.whole cc0_stg7_0 : Memref sig .tc .vmem S256x5120 .fp8e4m3).view
/-- One staging buffer of output window 8, through which its contents are stated (`View.read_writes_of_cover`: the
    choice does not matter). -/
abbrev VO0_8 : View sig .tc .vmem S1x1x256 .f32 := (Memref.whole cc0_stg8_0 : Memref sig .tc .vmem S1x1x256 .f32).view
/-- Each window's current staging memref at point `t`, spelled as the pipeline passes it (`bodyAt0`), and its wholeness. -/
abbrev ms0_0 (t : Fin cfg0.N) : Memref sig .tc .vmem S256x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x5120 .f32 := Memref.whole cc0_scratch0
abbrev scM0_1 : Memref sig .tc .vmem S256x5120 .f32 := Memref.whole cc0_scratch1
abbrev scM0_2 : Memref sig .tc .vmem S256x128 .f32 := Memref.whole cc0_scratch2
abbrev scM0_3 : Memref sig .tc .vmem S256x128 .f32 := Memref.whole cc0_scratch3
/-- The scratch `arg10` the kernel carries between points, as a view: what it holds is stated through it. -/
abbrev VS0_0 : View sig .tc .vmem S256x5120 .f32 := scM0_0.view
/-- The scratch `arg11` the kernel carries between points, as a view: what it holds is stated through it. -/
abbrev VS0_1 : View sig .tc .vmem S256x5120 .f32 := scM0_1.view
/-- The scratch `arg12` the kernel carries between points, as a view: what it holds is stated through it. -/
abbrev VS0_2 : View sig .tc .vmem S256x128 .f32 := scM0_2.view
/-- The scratch `arg13` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 2284000 in
/-- What the body's stores leave in each output's staging memref, as pieces (last first), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) :
    Σ' (L6 : List (View.Piece (Elt F) S256x5120 .f32)), Σ' (L7 : List (View.Piece (Elt F) S256x5120 .fp8e4m3)), Σ' (L8 : List (View.Piece (Elt F) S1x1x256 .f32)), Σ' (LS0 : List (View.Piece (Elt F) S256x5120 .f32)), Σ' (LS1 : List (View.Piece (Elt F) S256x5120 .f32)), Σ' (LS2 : List (View.Piece (Elt F) S256x128 .f32)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_local_out i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_local_out_eq_skeleton]; unfold cc0_local_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1; obtain rfl := harg12.eq_unread hfs2; obtain rfl := harg13.eq_unread hfs3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

/-- The run's pieces for output 6 tile its block (40 stores of `S256x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1 S256x128.size (by sl_kernel_rfl) y

/-- What the run leaves in output 6's staging buffer: its pieces read back over junk. -/
def out0_A_6 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).1)

/-- The run's pieces for output 7 tile its block (20 stores of `S256x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1 S256x256.size (by sl_kernel_rfl) y

/-- What the run leaves in output 7's staging buffer: its pieces read back over junk. -/
def out0_A_7 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.1)

/-- The run's pieces for output 8 tile its block (1 store of `S1x1x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1 S1x1x256.size (by sl_kernel_rfl) y

/-- What the run leaves in output 8's staging buffer: its pieces read back over junk. -/
def out0_A_8 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S1x1x256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.1)

/-- The run's pieces for scratch `arg10`, which the kernel carries between points, cover it: 40 pieces of `S256x128` tiling it (Lib/Ring.lean `Piece.tiledL`). -/
theorem scover0_A_0 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1 S256x128.size (by sl_kernel_rfl) y

/-- What the run leaves in scratch `arg10`: its pieces read back over junk. -/
def sout0_A_0 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.1)

/-- The run's pieces for scratch `arg11`, which the kernel carries between points, cover it: 20 pieces of `S256x256` tiling it (Lib/Ring.lean `Piece.tiledL`). -/
theorem scover0_A_1 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1 S256x256.size (by sl_kernel_rfl) y

/-- What the run leaves in scratch `arg11`: its pieces read back over junk. -/
def sout0_A_1 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x5120 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.1)

/-- The run's pieces for scratch `arg12`, which the kernel carries between points, cover it: 1 piece of `S256x128` tiling it (Lib/Ring.lean `Piece.tiledL`). -/
theorem scover0_A_2 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1 S256x128.size (by sl_kernel_rfl) y

/-- What the run leaves in scratch `arg12`: its pieces read back over junk. -/
def sout0_A_2 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.1)

/-- The run's pieces for scratch `arg13`, which the kernel carries between points, cover it: 1 piece of `S256x128` tiling it (Lib/Ring.lean `Piece.tiledL`). -/
theorem scover0_A_3 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1 S256x128.size (by sl_kernel_rfl) y

/-- What the run leaves in scratch `arg13`: its pieces read back over junk. -/
def sout0_A_3 (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S256x5120 .fp8e4m3) (x1 : Vec F S1x1x256 .f32) (x2 : Vec F S256x5120 .bf16) (x3 : Vec F S5120x5120 .fp8e4m3) (x4 : Vec F S1x5120 .f32) (x5 : Vec F S1x5120 .f32) (xs0 : Vec F S256x5120 .f32) (xs1 : Vec F S256x5120 .f32) (xs2 : Vec F S256x128 .f32) (xs3 : Vec F S256x128 .f32) : Vec F S256x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3).2.2.2.2.2.2.1)

end Cert.LocalOutIdeal.Run

end
-- ==== Proof.LocalOutIdealRegion.lean ====
/- `LocalOutIdeal`'s pipeline with its proof data stated as a relation: the body reads its scratch before it stores it, so what the
   first points leave in the outputs depends on what the scratch held at launch. `Reach` says what the scratch may hold before
   each point; the run's post and the frame follow. -/
module

public import proofs.«01_k».proof.Proof.LocalOutIdealRun

@[expose] public section

set_option maxRecDepth 16384

noncomputable section

namespace Cert.LocalOutIdeal.Run

open Cert.LocalOutIdeal Cert.LocalOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four scratch buffers' contents. -/
abbrev Sc (F : FTy → Type) : Type := Vec F S256x5120 .f32 × Vec F S256x5120 .f32 × Vec F S256x128 .f32 × Vec F S256x128 .f32

/-- The residual block point `t` leaves, the scratch having held `x`. -/
def left6 (c : Dev nD) (t : Fin cfg0.N) (x : Sc F) : Vec F S256x5120 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- The block of codes point `t` leaves, the scratch having held `x`. -/
def left7 (c : Dev nD) (t : Fin cfg0.N) (x : Sc F) : Vec F S256x5120 .fp8e4m3 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- The block of scales point `t` leaves, the scratch having held `x`. -/
def left8 (c : Dev nD) (t : Fin cfg0.N) (x : Sc F) : Vec F S1x1x256 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2

/-- What point `t` leaves in the scratch, the scratch having held `x`. -/
def leftS (c : Dev nD) (t : Fin cfg0.N) (x : Sc F) : Sc F :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2,
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) x.1 x.2.1 x.2.2.1 x.2.2.2)

/-- What the scratch may hold before point `n`: anything before the first, then what the points so far make of it. -/
def Reach (c : Dev nD) : (n : ℕ) → n ≤ cfg0.N → Sc F → Prop
  | 0, _, _ => True
  | n + 1, hn, x => ∃ x', Reach c n (Nat.le_of_succ_le hn) x' ∧ x = leftS m c ⟨n, hn⟩ x'

/-- Before point `n` the core holds the four scratch buffers at contents `Reach` allows, and the generator register. -/
def PhiR (c : Dev nD) (n : ℕ) (h : n ≤ cfg0.N) : sProp 𝕄 :=
  iprop(∃ x : Sc F, iprop(⌜Reach m c n h x⌝ ∗ iprop(owns (c : Thread nD τ) scM0_0 fullShare x.1 ∗ owns (c : Thread nD τ) scM0_1 fullShare x.2.1 ∗ owns (c : Thread nD τ) scM0_2 fullShare x.2.2.1 ∗ owns (c : Thread nD τ) scM0_3 fullShare x.2.2.2) ∗ (∃ r, prngReg c r)))

/-- The pipeline's proof data on core `c`: an input's buffer stays, an output's holds what the point makes of some scratch
    contents `Reach` allows. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => ∃ x, Reach m c t.val (Nat.le_of_lt t.isLt) x ∧ X = left6 m c t x
    | ⟨7, _⟩ => fun _ X => ∃ x, Reach m c t.val (Nat.le_of_lt t.isLt) x ∧ X = left7 m c t x
    | ⟨8, _⟩ => fun _ X => ∃ x, Reach m c t.val (Nat.le_of_lt t.isLt) x ∧ X = left8 m c t x
  Φ t := PhiR m c t.val (Nat.le_of_lt_succ t.isLt)
  q _ := fullShare
  owed _ := 0

/-- The proof data's arrays are the region-entry contents. -/
theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X = (X = Y) := by dsimp only [rdat]
theorem after0_1 (c : Dev nD) (t : Fin cfg0.N) (Y X) : (rdat m c).after 1 t Y X = (X = Y) := by dsimp only [rdat]
theorem after0_2 (c : Dev nD) (t : Fin cfg0.N) (Y X) : (rdat m c).after 2 t Y X = (X = Y) := by dsimp only [rdat]
theorem after0_3 (c : Dev nD) (t : Fin cfg0.N) (Y X) : (rdat m c).after 3 t Y X = (X = Y) := by dsimp only [rdat]
theorem after0_4 (c : Dev nD) (t : Fin cfg0.N) (Y X) : (rdat m c).after 4 t Y X = (X = Y) := by dsimp only [rdat]
theorem after0_5 (c : Dev nD) (t : Fin cfg0.N) (Y X) : (rdat m c).after 5 t Y X = (X = Y) := by dsimp only [rdat]
theorem after0_6 (c : Dev nD) (t : Fin cfg0.N) (Y X) : (rdat m c).after 6 t Y X = (∃ x, Reach m c t.val (Nat.le_of_lt t.isLt) x ∧ X = left6 m c t x) := by dsimp only [rdat]
theorem after0_7 (c : Dev nD) (t : Fin cfg0.N) (Y X) : (rdat m c).after 7 t Y X = (∃ x, Reach m c t.val (Nat.le_of_lt t.isLt) x ∧ X = left7 m c t x) := by dsimp only [rdat]
theorem after0_8 (c : Dev nD) (t : Fin cfg0.N) (Y X) : (rdat m c).after 8 t Y X = (∃ x, Reach m c t.val (Nat.le_of_lt t.isLt) x ∧ X = left8 m c t x) := by dsimp only [rdat]
/-- Input 0's staging buffer holds its block at every point. -/
theorem finds0_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rwa [after0_0] at h) t Y h
  rw [hd]; unfold RDat.fetched RDat.blockOf iblk; rw [A_eq]; try rfl
/-- Input 1's staging buffer holds its block at every point. -/
theorem finds0_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rwa [after0_1] at h) t Y h
  rw [hd]; unfold RDat.fetched RDat.blockOf iblk; rw [A_eq]; try rfl
/-- Input 2's staging buffer holds its block at every point. -/
theorem finds0_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rwa [after0_2] at h) t Y h
  rw [hd]; unfold RDat.fetched RDat.blockOf iblk; rw [A_eq]; try rfl
/-- Input 3's staging buffer holds its block at every point. -/
theorem finds0_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rwa [after0_3] at h) t Y h
  rw [hd]; unfold RDat.fetched RDat.blockOf iblk; rw [A_eq]; try rfl
/-- Input 4's staging buffer holds its block at every point. -/
theorem finds0_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => by rwa [after0_4] at h) t Y h
  rw [hd]; unfold RDat.fetched RDat.blockOf iblk; rw [A_eq]; try rfl
/-- Input 5's staging buffer holds its block at every point. -/
theorem finds0_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => by rwa [after0_5] at h) t Y h
  rw [hd]; unfold RDat.fetched RDat.blockOf iblk; rw [A_eq]; try rfl

set_option maxHeartbeats 4800000 in
/-- The body at any point: the inputs at their blocks, the outputs at anything, the scratch at contents `Reach` allows. -/
theorem sound_body (c : Dev nD) (t : Fin cfg0.N) (y6 : Vec F S256x5120 .f32) (y7 : Vec F S256x5120 .fp8e4m3) (y8 : Vec F S1x1x256 .f32) :
    iprop(PhiR m c t.val (Nat.le_of_lt t.isLt) ∗ (rdat m c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare y6
      ∗ owns (c : Thread nD τ) (ms0_7 t) fullShare y7
      ∗ owns (c : Thread nD τ) (ms0_8 t) fullShare y8)
    ⊢ wp frame (wpE (defs₀ (F := F)) Variants.none c none) Set.univ (bodyAt0 t) (fun _ =>
      iprop(PhiR m c (t.val + 1) t.isLt ∗ (rdat m c).owesAt () t.castSucc
      ∗ (∃ X, ⌜X = iblk m c 0 t⌝ ∗ owns (c : Thread nD τ) (ms0_0 t) fullShare X)
      ∗ (∃ X, ⌜X = iblk m c 1 t⌝ ∗ owns (c : Thread nD τ) (ms0_1 t) fullShare X)
      ∗ (∃ X, ⌜X = iblk m c 2 t⌝ ∗ owns (c : Thread nD τ) (ms0_2 t) fullShare X)
      ∗ (∃ X, ⌜X = iblk m c 3 t⌝ ∗ owns (c : Thread nD τ) (ms0_3 t) fullShare X)
      ∗ (∃ X, ⌜X = iblk m c 4 t⌝ ∗ owns (c : Thread nD τ) (ms0_4 t) fullShare X)
      ∗ (∃ X, ⌜X = iblk m c 5 t⌝ ∗ owns (c : Thread nD τ) (ms0_5 t) fullShare X)
      ∗ (∃ X, ⌜∃ x, Reach m c t.val (Nat.le_of_lt t.isLt) x ∧ X = left6 m c t x⌝ ∗ owns (c : Thread nD τ) (ms0_6 t) fullShare X)
      ∗ (∃ X, ⌜∃ x, Reach m c t.val (Nat.le_of_lt t.isLt) x ∧ X = left7 m c t x⌝ ∗ owns (c : Thread nD τ) (ms0_7 t) fullShare X)
      ∗ (∃ X, ⌜∃ x, Reach m c t.val (Nat.le_of_lt t.isLt) x ∧ X = left8 m c t x⌝ ∗ owns (c : Thread nD τ) (ms0_8 t) fullShare X))) := by
  unfold bodyAt0
  rw [PhiR]
  iintro ⟨⟨%x, %hx, ⟨HS0, HS1, HS2, HS3⟩, Hg⟩, Ho, H0, H1, H2, H3, H4, H5, H6, H7, H8⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%es0, HS0⟩, ⟨%es1, HS1⟩, ⟨%es2, HS2⟩, ⟨%es3, HS3⟩⟩
  isplitl [HS0 HS1 HS2 HS3 Hg]
  · rw [PhiR]
    iexists (leftS m c t x)
    isplitr
    · ipureintro; exact ⟨x, hx, rfl⟩
    isplitl [HS0 HS1 HS2 HS3]
    · unfold leftS; dsimp only
      unfold sout0_A_0 sout0_A_1 sout0_A_2 sout0_A_3
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists (left6 m c t x); isplitr
    · ipureintro; exact ⟨x, hx, rfl⟩
    unfold left6 out0_A_6 owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _)
  isplitl [H7]
  · iexists (left7 m c t x); isplitr
    · ipureintro; exact ⟨x, hx, rfl⟩
    unfold left7 out0_A_7 owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _)
  iexists (left8 m c t x); isplitr
  · ipureintro; exact ⟨x, hx, rfl⟩
  unfold left8 out0_A_8 owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation for the relational proof data. -/
theorem body_obligation (c : Dev nD) : (rdat (F := F) m c).BodyObligation (defs₀ (F := F)) Variants.none () Set.univ := fun t Y hY => by
  rw [bigSep_W0, defs₀_row]
  simp only [bigSep_W0]
  rw [finds0_0 m c t _ (hY 0), finds0_1 m c t _ (hY 1), finds0_2 m c t _ (hY 2), finds0_3 m c t _ (hY 3),
    finds0_4 m c t _ (hY 4), finds0_5 m c t _ (hY 5)]
  simp only [after0_0, after0_1, after0_2, after0_3, after0_4, after0_5, after0_6, after0_7, after0_8]
  exact triple_restated (sound_body m c t (Y 6) (Y 7) (Y 8)) rfl .rfl fun _ => .rfl

/-- What the launch hands the region is the invariant before the first point. -/
theorem hin (c : Dev nD) : Pipeline.ΦA spec0 c ⊢ (rdat m c).Φ 0 := by
  rw [show (rdat m c).Φ 0 = PhiR m c 0 (Nat.zero_le _) from rfl, PhiA0_eq, PhiR]
  iintro ⟨⟨⟨%x0, HS0⟩, ⟨%x1, HS1⟩, ⟨%x2, HS2⟩, ⟨%x3, HS3⟩⟩, Hg⟩
  iexists ((x0, x1, x2, x3) : Sc F)
  isplitr
  · ipureintro; exact trivial
  isplitl [HS0 HS1 HS2 HS3]
  · isplitl [HS0]; · iexact HS0
    isplitl [HS1]; · iexact HS1
    isplitl [HS2]; · iexact HS2
    iexact HS3
  iexact Hg

/-- The invariant after the last point gives the scratch and the register back, their contents forgotten. -/
theorem hout (c : Dev nD) : (rdat m c).Φ (Fin.last cfg0.N) ⊢ Pipeline.ΦA spec0 c := by
  rw [show (rdat m c).Φ (Fin.last cfg0.N) = PhiR m c cfg0.N le_rfl from rfl, PhiA0_eq, PhiR]
  iintro ⟨%x, %hx, ⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch: the run's relational post, and every semaphore counter at zero. -/
theorem run_main_quiescent : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- The run's relational post. -/
theorem run_main : θ_run defs (onTc (τ := τ) (main (F := F))) (s₀ m ρ) (RDat.FramePost cfg0 (rdat m) (V m)) :=
  (θ_run defs _ _).mono (fun _ h => h.1) (run_main_quiescent m ρ)

/-- The argument arrays end as launched, in every state the post allows. -/
theorem kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => kept m h.1 c, h.2⟩) (run_main_quiescent m ρ)

end Cert.LocalOutIdeal.Run

end
-- ==== Proof.LocalOutTiles.lean ====
/- Pieces of what the local output projection stores, over the reals, at one index. -/
module

public import proofs.«01_k».proof.Proof.LocalOutIdealRun
public import proofs.«01_k».proof.Proof.LocalCommon

@[expose] public section

set_option maxRecDepth 16384

noncomputable section

open Idealize.ShloMosaic Idealize.ShloMosaic.TcCoe Idealize.SL.Sem
open Cert.Common

namespace Cert.LocalOutIdeal.Blocks

open Cert.LocalOutIdeal Cert.LocalOutIdeal.Gen Cert.LocalOutIdeal.Run

/-- A block of the projected attention added to the residual: `x + (a · w) · s · ws`. -/
def HB (a : Vec Ideal S256x5120 .fp8e4m3) (s : Vec Ideal S1x1x256 .f32) (x : Vec Ideal S256x5120 .bf16) (w : Vec Ideal S5120x5120 .fp8e4m3) (ws : Vec Ideal S1x5120 .f32) : Vec Ideal S256x5120 .f32 :=
  fun y => x y + (∑ k : Fin 5120, a (ix2 (y 0) k) * w (ix2 k (y 1))) * s (ix3 0 0 (y 0)) * ws (ix2 0 (y 1))

/-- The row scales of the attention's codes, on every lane. -/
theorem pay4_at (s : Vec Ideal S1x1x256 .f32) (i : Fin 256) (l : Fin 128) : k0_pay4 (F := Ideal) s (ix2 i l) = s (ix3 0 0 i) := by
  pointwise [k0_pay4]
  first | done | blk_point

/-- The left half of a chunk of 256 columns of that block, at one index. -/
theorem pay17_at (a : Vec Ideal S256x5120 .fp8e4m3) (s : Vec Ideal S1x1x256 .f32) (w : Vec Ideal S5120x256 .fp8e4m3) (x : Vec Ideal S256x128 .bf16) (ws : Vec Ideal S1x128 .f32) (i : Fin 256) (j : Fin 128) :
    k0_pay17 (F := Ideal) (k0_pay4 s) a w x ws (ix2 i j) = x (ix2 i j) + (∑ k : Fin 5120, a (ix2 i k) * w (ix2 k ⟨j.val, by omega⟩)) * s (ix3 0 0 i) * ws (ix2 0 j) := by
  pointwise [k0_pay17, k0_pay15, pay4_at]
  first | done | blk_point

/-- The right half. -/
theorem pay21_at (a : Vec Ideal S256x5120 .fp8e4m3) (s : Vec Ideal S1x1x256 .f32) (w : Vec Ideal S5120x256 .fp8e4m3) (x : Vec Ideal S256x128 .bf16) (ws : Vec Ideal S1x128 .f32) (i : Fin 256) (j : Fin 128) :
    k0_pay21 (F := Ideal) (k0_pay4 s) (k0_pay15 a w) x ws (ix2 i j) = x (ix2 i j) + (∑ k : Fin 5120, a (ix2 i k) * w (ix2 k ⟨128 + j.val, by omega⟩)) * s (ix3 0 0 i) * ws (ix2 0 j) := by
  pointwise [k0_pay21, k0_pay15, pay4_at]
  first | done | blk_point

/-- A row's scale from its per-lane largest magnitudes. -/
def SCL (v : Vec Ideal S256x128 .f32) (i : Fin 256) : EReal :=
  if Finset.fold max (Ideal.ofBits .f32 0xFF800000#32) (fun l : Fin 128 => v (ix2 i l)) Finset.univ = 0 then 1
  else Ideal.div (Finset.fold max (Ideal.ofBits .f32 0xFF800000#32) (fun l : Fin 128 => v (ix2 i l)) Finset.univ) (Ideal.ofBits .f32 0x43E00000#32)

/-- That's the stored column of scales. -/
theorem pay5_at (v : Vec Ideal S256x128 .f32) (i : Fin 256) : k0_pay5 (F := Ideal) v (ix2 i 0) = SCL v i := by
  pointwise [k0_pay5]
  simp only [Scalar.select, SCL]

/-- The same as a row. -/
theorem pay6_at (v : Vec Ideal S256x128 .f32) (i : Fin 256) : k0_pay6 (F := Ideal) v (ix3 0 0 i) = SCL v i := by
  pointwise [k0_pay6, pay5_at]
  first | done | blk_point

/-- A chunk of 256 columns of codes. -/
theorem pay24_at (v : Vec Ideal S256x128 .f32) (y : Vec Ideal S256x256 .f32) (i j : Fin 256) : k0_pay24 (F := Ideal) (k0_pay5 v) y (ix2 i j) = CODE (SCL v i) (y (ix2 i j)) := by
  pointwise [k0_pay24, pay5_at]
  rfl

/-- A row's root mean square from its per-lane sums of squares. -/
def RMSL (q : Vec Ideal S256x128 .f32) (i : Fin 256) : EReal :=
  Ideal.sqrt ((∑ l : Fin 128, q (ix2 i l)) * ((1 / 5120 : ℝ) : EReal) + Ideal.ofBits .f32 0x3727C5AC#32)

/-- That's the column of root mean squares. -/
theorem pay7_at (q : Vec Ideal S256x128 .f32) (i : Fin 256) : k0_pay7 (F := Ideal) q (ix2 i 0) = RMSL q i := by
  have e : Named.named (F := Ideal) κ "inv_d" (φ := .f32) 0x394CCCCD#32 = ((1 / 5120 : ℝ) : EReal) := IdealRules.named_const.ideal_named_scalar κ "inv_d" (φ := .f32) 0x394CCCCD#32 _ rfl
  pointwise [k0_pay7, e]
  rfl

/-- A chunk of 256 columns of the normalised rows. -/
theorem pay13_at (q : Vec Ideal S256x128 .f32) (h : Vec Ideal S256x256 .f32) (nw : Vec Ideal S1x256 .f32) (i j : Fin 256) :
    k0_pay13 (F := Ideal) (k0_pay7 q) h nw (ix2 i j) = Ideal.div (h (ix2 i j)) (RMSL q i) * nw (ix2 0 j) := by
  pointwise [k0_pay13, pay7_at]
  first | done | blk_point

/-- A block of normalised rows, from a block of rows and their per-lane sums of squares. -/
def YB (h : Vec Ideal S256x5120 .f32) (q : Vec Ideal S256x128 .f32) (nw : Vec Ideal S1x5120 .f32) : Vec Ideal S256x5120 .f32 :=
  fun y => Ideal.div (h y) (RMSL q (y 0)) * nw (ix2 0 (y 1))

/-- A block of codes, from a block of values and their per-lane largest magnitudes. -/
def CB (v : Vec Ideal S256x5120 .f32) (a : Vec Ideal S256x128 .f32) : Vec Ideal S256x5120 .fp8e4m3 :=
  fun y => CODE (SCL a (y 0)) (v y)

/-- The row of scales of a block. -/
def SR (a : Vec Ideal S256x128 .f32) : Vec Ideal S1x1x256 .f32 := fun y => SCL a (y 2)

/-- Column `p * 128 + l` of row `i` of a block, for `p` up to 40. -/
def LANE (h : Vec Ideal S256x5120 .f32) (i : Fin 256) (l : Fin 128) (p : ℕ) : EReal :=
  if hp : p < 40 then h (ix2 i ⟨p * 128 + l.val, by omega⟩) else 0

/-- The per-lane sums of squares of a block of rows: lane `l` sums columns `l`, `l + 128` and so on. -/
def QB (h : Vec Ideal S256x5120 .f32) : Vec Ideal S256x128 .f32 :=
  fun y => ∑ p ∈ Finset.range 40, LANE h (y 0) (y 1) p * LANE h (y 0) (y 1) p

/-- The per-lane largest magnitudes of a block of rows. -/
def AB (h : Vec Ideal S256x5120 .f32) : Vec Ideal S256x128 .f32 :=
  fun y => (Finset.range 40).fold max 0 fun p => FloatOps.absf (F := Ideal) (φ := .f32) (LANE h (y 0) (y 1) p)

end Cert.LocalOutIdeal.Blocks

end
-- ==== Proof.LocalOutRows.lean ====
/- A row's sums and maxima from its 128 lanes' are the row's own; the local output projection's row arithmetic from there. -/
module

public import proofs.«01_k».proof.Proof.LocalOutTiles

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen

/-- The f32 pattern of minus infinity, as an extended real. -/
theorem ninf : Ideal.ofBits .f32 0xFF800000#32 = ⊥ := by
  simp [Ideal.ofBits, Ideal.ieee]

/-- The f32 pattern of 5120, as an extended real. -/
theorem f5120 : Ideal.ofBits .f32 0x45A00000#32 = ((5120 : ℝ) : EReal) := by
  simp [Ideal.ofBits, Ideal.ieee, -EReal.coe_mul]
  norm_num

/-- A magnitude isn't negative. -/
theorem abs_nonneg' (v : EReal) : (0 : EReal) ≤ FloatOps.absf (F := Ideal) (φ := .f32) v := by
  show (0 : EReal) ≤ max v (-v)
  rcases le_total 0 v with h | h
  · exact le_max_of_le_left h
  · exact le_max_of_le_right (by simpa using h)

/-- Summing a row lane by lane sums the row. -/
theorem lane_sum (h : Vec Ideal S256x5120 .f32) (i : Fin 256) :
    ∑ l : Fin 128, QB h (ix2 i l) = ∑ k : Fin 5120, h (ix2 i k) * h (ix2 i k) := by
  have e : ∀ l : Fin 128, QB h (ix2 i l) = ∑ p : Fin 40, h (ix2 i ⟨p.val * 128 + l.val, by omega⟩) * h (ix2 i ⟨p.val * 128 + l.val, by omega⟩) := fun l => by
    show ∑ p ∈ Finset.range 40, LANE h i l p * LANE h i l p = _
    rw [Finset.sum_range]
    exact Finset.sum_congr rfl fun p _ => by rw [LANE, dif_pos p.isLt]
  simp only [e]
  rw [Finset.sum_comm, ← Fintype.sum_prod_type' (f := fun (p : Fin 40) (l : Fin 128) => h (ix2 i ⟨p.val * 128 + l.val, by omega⟩) * h (ix2 i ⟨p.val * 128 + l.val, by omega⟩))]
  refine Fintype.sum_equiv (finProdFinEquiv (m := 40) (n := 128)) _ (fun k : Fin 5120 => h (ix2 i k) * h (ix2 i k)) fun x => ?_
  have hx : (finProdFinEquiv (m := 40) (n := 128) x : Fin 5120) = ⟨x.1.val * 128 + x.2.val, by omega⟩ := Fin.ext (by simp [finProdFinEquiv]; omega)
  exact (congrArg (fun k : Fin 5120 => h (ix2 i k) * h (ix2 i k)) hx).symm

/-- The largest magnitude lane by lane is the row's. -/
theorem lane_max (h : Vec Ideal S256x5120 .f32) (i : Fin 256) :
    Finset.fold max (Ideal.ofBits .f32 0xFF800000#32) (fun l : Fin 128 => AB h (ix2 i l)) Finset.univ = AMAX fun k : Fin 5120 => h (ix2 i k) := by
  unfold AMAX
  rw [ninf]
  have hk : ∀ k : Fin 5120, FloatOps.absf (F := Ideal) (φ := .f32) (h (ix2 i k)) ≤ Finset.fold max (⊥ : EReal) (fun x : Fin 5120 => FloatOps.absf (F := Ideal) (φ := .f32) (h (ix2 i x))) Finset.univ :=
    fun k => (Finset.le_fold_max _).2 (Or.inr ⟨k, Finset.mem_univ k, le_rfl⟩)
  refine le_antisymm ?_ ?_
  · refine (Finset.fold_max_le _).2 ⟨bot_le, fun l _ => ?_⟩
    refine (Finset.fold_max_le _).2 ⟨(abs_nonneg' _).trans (hk 0), fun p hp => ?_⟩
    have hp' : p < 40 := Finset.mem_range.1 hp
    show FloatOps.absf (F := Ideal) (φ := .f32) (LANE h i l p) ≤ _
    rw [LANE, dif_pos hp']
    exact hk _
  · refine (Finset.fold_max_le _).2 ⟨bot_le, fun k _ => ?_⟩
    refine (Finset.le_fold_max _).2 (Or.inr ⟨⟨k.val % 128, by omega⟩, Finset.mem_univ _, ?_⟩)
    refine (Finset.le_fold_max _).2 (Or.inr ⟨k.val / 128, Finset.mem_range.2 (by omega), ?_⟩)
    show _ ≤ FloatOps.absf (F := Ideal) (φ := .f32) (LANE h i ⟨k.val % 128, by omega⟩ (k.val / 128))
    rw [LANE, dif_pos (by omega)]
    exact le_of_eq (congrArg (fun n : Fin 5120 => FloatOps.absf (F := Ideal) (φ := .f32) (h (ix2 i n))) (Fin.ext (by show k.val = k.val / 128 * 128 + k.val % 128; omega)))

/-- Normalising by the per-lane sums normalises the row. -/
theorem YB_at (h : Vec Ideal S256x5120 .f32) (nw : Vec Ideal S1x5120 .f32) (i : Fin 256) (j : Fin 5120) :
    YB h (QB h) nw (ix2 i j) = NRM (fun k => h (ix2 i k)) (fun k => nw (ix2 0 k)) j := by
  show Ideal.div (h (ix2 i j)) (RMSL (QB h) i) * nw (ix2 0 j) = _
  unfold RMSL NRM
  rw [lane_sum, f5120, Ideal.div_coe (by norm_num)]

/-- The scale from the per-lane maxima is the row's. -/
theorem SCL_at (h : Vec Ideal S256x5120 .f32) (i : Fin 256) : SCL (AB h) i = SC fun k : Fin 5120 => h (ix2 i k) := by
  unfold SCL SC
  rw [lane_max]

/-- The scale of normalised rows. -/
theorem NSC_at (h : Vec Ideal S256x5120 .f32) (nw : Vec Ideal S1x5120 .f32) (i : Fin 256) :
    SCL (AB (YB h (QB h) nw)) i = NSC (fun k => h (ix2 i k)) (fun k => nw (ix2 0 k)) := by
  rw [SCL_at]
  simp only [YB_at]
  rfl

/-- The codes of normalised rows. -/
theorem NCODE_at (h : Vec Ideal S256x5120 .f32) (nw : Vec Ideal S1x5120 .f32) (i : Fin 256) (j : Fin 5120) :
    CB (YB h (QB h) nw) (AB (YB h (QB h) nw)) (ix2 i j) = NCODE (fun k => h (ix2 i k)) (fun k => nw (ix2 0 k)) j := by
  show CODE (SCL (AB (YB h (QB h) nw)) i) (YB h (QB h) nw (ix2 i j)) = _
  rw [NSC_at, YB_at]
  rfl

end Cert.LocalOutIdeal.Blocks

end
-- ==== Proof.LocalOutPieces.lean ====
/- What the local output projection leaves in its blocks at one grid point, over the reals, from the point's input blocks and
   what the scratch held. -/
module

public import proofs.«01_k».proof.Proof.LocalOutTiles

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- Columns `o` to `o + s` lie inside an array of `C` columns. -/
theorem inb {R C s : ℕ} (o : ℕ) (h : o + s ≤ C) : ∀ a, (![0, o] : Fin 2 → ℕ) a + (![R, s] : Fin 2 → ℕ) a ≤ (![R, C] : Fin 2 → ℕ) a := by
  intro a
  fin_cases a <;> simp <;> omega

/-- A load of columns from `o` on, at one index. -/
theorem ld_at {R C s : ℕ} {e : EltTy} (v : Vec Ideal ⟨2, ![R, C]⟩ e) (o : ℕ) (h : ∀ a, (![0, o] : Fin 2 → ℕ) a + (![R, s] : Fin 2 → ℕ) a ≤ (![R, C] : Fin 2 → ℕ) a) (i : Fin R) (j : Fin s)
    (n : Fin C) (hn : n.val = o + j.val) :
    View.ld v (Rect.unit (s := ⟨2, ![R, C]⟩) ![0, o] ![R, s] h) (ix2 i j) = v (ix2 i n) := by
  refine View.ld_unit_apply_of _ _ _ _ _ _ fun a => ?_
  fin_cases a <;> simp [ix2, Rect.emb_apply, Rect.unit] <;> omega

/-- Where an index of those columns lies. -/
theorem emb_at {R C s : ℕ} (o : ℕ) (h : ∀ a, (![0, o] : Fin 2 → ℕ) a + (![R, s] : Fin 2 → ℕ) a ≤ (![R, C] : Fin 2 → ℕ) a) (i : Fin R) (j : Fin s)
    (n : Fin C) (hn : n.val = o + j.val) :
    (Rect.unit (s := ⟨2, ![R, C]⟩) ![0, o] ![R, s] h).emb (ix2 i j) = ix2 i n :=
  funext fun a => Fin.ext (by
    refine (Rect.idx_unit_val _ _ _ _ _).trans ?_
    fin_cases a <;> simp [ix2] <;> omega)

/-- A stored chunk of codes. -/
theorem c_piece (v : Vec Ideal S256x5120 .f32) (a : Vec Ideal S256x128 .f32) (o : ℕ)
    (hl hh : ∀ a, (![0, o] : Fin 2 → ℕ) a + S256x256.size a ≤ S256x5120.size a) (x : S256x256.Idx) :
    k0_pay24 (k0_pay5 a) (View.ld v (Rect.unit (s := S256x5120) ![0, o] S256x256.size hl)) x
    = CB v a ((Rect.unit (s := S256x5120) ![0, o] S256x256.size hh).emb x) := by
  obtain ⟨i, j, rfl⟩ : ∃ (i : Fin 256) (j : Fin 256), x = ix2 i j := ⟨x 0, x 1, by ext a; fin_cases a <;> rfl⟩
  have h0 : o + 256 ≤ 5120 := hh 1
  refine (pay24_at _ _ i j).trans ?_
  rw [ld_at v o hl i j ⟨o + j.val, by omega⟩ rfl]
  refine Eq.trans ?_ (congrArg (CB v a) (emb_at o hh i j ⟨o + j.val, by omega⟩ rfl)).symm
  rfl

/-- A stored chunk of normalised rows. -/
theorem y_piece (h : Vec Ideal S256x5120 .f32) (q : Vec Ideal S256x128 .f32) (nw : Vec Ideal S1x5120 .f32) (o : ℕ)
    (hl hh : ∀ a, (![0, o] : Fin 2 → ℕ) a + S256x256.size a ≤ S256x5120.size a) (hw : ∀ a, (![0, o] : Fin 2 → ℕ) a + S1x256.size a ≤ S1x5120.size a) (x : S256x256.Idx) :
    k0_pay14 (k0_pay7 q) (View.ld h (Rect.unit (s := S256x5120) ![0, o] S256x256.size hl)) (View.ld nw (Rect.unit (s := S1x5120) ![0, o] S1x256.size hw)) x
    = YB h q nw ((Rect.unit (s := S256x5120) ![0, o] S256x256.size hh).emb x) := by
  obtain ⟨i, j, rfl⟩ : ∃ (i : Fin 256) (j : Fin 256), x = ix2 i j := ⟨x 0, x 1, by ext a; fin_cases a <;> rfl⟩
  have h0 : o + 256 ≤ 5120 := hh 1
  pointwise [k0_pay14]
  rw [pay13_at, ld_at h o hl i j ⟨o + j.val, by omega⟩ rfl, ld_at nw o hw 0 j ⟨o + j.val, by omega⟩ rfl]
  refine Eq.trans ?_ (congrArg (YB h q nw) (emb_at o hh i j ⟨o + j.val, by omega⟩ rfl)).symm
  rfl

section Rows

variable (x0 : Vec Ideal S256x5120 .fp8e4m3) (x1 : Vec Ideal S1x1x256 .f32) (x2 : Vec Ideal S256x5120 .bf16) (x3 : Vec Ideal S5120x5120 .fp8e4m3) (x4 : Vec Ideal S1x5120 .f32)

/-- A left half of a chunk of the block of rows, from column `o` on. -/
def LO (o : ℕ) (h : o + 256 ≤ 5120) : FVec Ideal S256x128 .f32 :=
  k0_pay17 (k0_pay4 x1) x0 (View.ld x3 (Rect.unit (s := S5120x5120) ![0, o] S5120x256.size (inb o h)))
    (View.ld x2 (Rect.unit (s := S256x5120) ![0, o] S256x128.size (inb o (by omega)))) (View.ld x4 (Rect.unit (s := S1x5120) ![0, o] S1x128.size (inb o (by omega))))

/-- A right half of a chunk, the chunk from column `o` on and the half from column `o'`. -/
def HI (o o' : ℕ) (h : o + 256 ≤ 5120) (h' : o' + 128 ≤ 5120) : FVec Ideal S256x128 .f32 :=
  k0_pay21 (k0_pay4 x1) (k0_pay15 x0 (View.ld x3 (Rect.unit (s := S5120x5120) ![0, o] S5120x256.size (inb o h))))
    (View.ld x2 (Rect.unit (s := S256x5120) ![0, o'] S256x128.size (inb o' h'))) (View.ld x4 (Rect.unit (s := S1x5120) ![0, o'] S1x128.size (inb o' h')))

/-- That half at one index. -/
theorem LO_at (o : ℕ) (h : o + 256 ≤ 5120) (i : Fin 256) (j : Fin 128) : LO x0 x1 x2 x3 x4 o h (ix2 i j) = HB x0 x1 x2 x3 x4 (ix2 i ⟨o + j.val, by omega⟩) := by
  refine (pay17_at _ _ _ _ _ i j).trans ?_
  rw [ld_at x2 o _ i j ⟨o + j.val, by omega⟩ rfl, ld_at x4 o _ 0 j ⟨o + j.val, by omega⟩ rfl]
  simp only [fun k => ld_at x3 o (inb o h) k (⟨j.val, by omega⟩ : Fin 256) ⟨o + j.val, by omega⟩ rfl]
  rfl

/-- That half at one index. -/
theorem HI_at (o o' : ℕ) (h : o + 256 ≤ 5120) (h' : o' + 128 ≤ 5120) (ho : o' = o + 128) (i : Fin 256) (j : Fin 128) :
    HI x0 x1 x2 x3 x4 o o' h h' (ix2 i j) = HB x0 x1 x2 x3 x4 (ix2 i ⟨o' + j.val, by omega⟩) := by
  refine (pay21_at _ _ _ _ _ i j).trans ?_
  rw [ld_at x2 o' _ i j ⟨o' + j.val, by omega⟩ rfl, ld_at x4 o' _ 0 j ⟨o' + j.val, by omega⟩ rfl]
  simp only [fun k => ld_at x3 o (inb o h) k (⟨128 + j.val, by omega⟩ : Fin 256) ⟨o' + j.val, by omega⟩ (by simp; omega)]
  rfl

/-- A cast of an array of 256 by 128 to its own shape. -/
theorem same_at (v : FVec Ideal S256x128 .f32) (h) (i : Fin 256) (j : Fin 128) : shapeCast S256x128 v h (ix2 i j) = v (ix2 i j) := by
  pointwise

/-- A stored left half. -/
theorem lo_piece (o : ℕ) (h : o + 256 ≤ 5120) (hh : ∀ a, (![0, o] : Fin 2 → ℕ) a + S256x128.size a ≤ S256x5120.size a) (x : S256x128.Idx) :
    LO x0 x1 x2 x3 x4 o h x = HB x0 x1 x2 x3 x4 ((Rect.unit (s := S256x5120) ![0, o] S256x128.size hh).emb x) := by
  obtain ⟨i, j, rfl⟩ : ∃ (i : Fin 256) (j : Fin 128), x = ix2 i j := ⟨x 0, x 1, by ext a; fin_cases a <;> rfl⟩
  exact (LO_at x0 x1 x2 x3 x4 o h i j).trans (congrArg (HB x0 x1 x2 x3 x4) (emb_at o hh i j ⟨o + j.val, by omega⟩ rfl)).symm

/-- A stored right half. -/
theorem hi_piece (o o' : ℕ) (h : o + 256 ≤ 5120) (h' : o' + 128 ≤ 5120) (ho : o' = o + 128) (hh : ∀ a, (![0, o'] : Fin 2 → ℕ) a + S256x128.size a ≤ S256x5120.size a) (x : S256x128.Idx) :
    HI x0 x1 x2 x3 x4 o o' h h' x = HB x0 x1 x2 x3 x4 ((Rect.unit (s := S256x5120) ![0, o'] S256x128.size hh).emb x) := by
  obtain ⟨i, j, rfl⟩ : ∃ (i : Fin 256) (j : Fin 128), x = ix2 i j := ⟨x 0, x 1, by ext a; fin_cases a <;> rfl⟩
  exact (HI_at x0 x1 x2 x3 x4 o o' h h' ho i j).trans (congrArg (HB x0 x1 x2 x3 x4) (emb_at o' hh i j ⟨o' + j.val, by omega⟩ rfl)).symm

/-- A left half kept for the next point. -/
theorem klo_piece (o : ℕ) (h : o + 256 ≤ 5120) (hs) (hh : ∀ a, (![0, o] : Fin 2 → ℕ) a + S256x128.size a ≤ S256x5120.size a) (x : S256x128.Idx) :
    shapeCast S256x128 (LO x0 x1 x2 x3 x4 o h) hs x = HB x0 x1 x2 x3 x4 ((Rect.unit (s := S256x5120) ![0, o] S256x128.size hh).emb x) := by
  refine Eq.trans ?_ (lo_piece x0 x1 x2 x3 x4 o h hh x)
  obtain ⟨i, j, rfl⟩ : ∃ (i : Fin 256) (j : Fin 128), x = ix2 i j := ⟨x 0, x 1, by ext a; fin_cases a <;> rfl⟩
  exact same_at _ _ i j

/-- A right half kept for the next point. -/
theorem khi_piece (o o' : ℕ) (h : o + 256 ≤ 5120) (h' : o' + 128 ≤ 5120) (ho : o' = o + 128) (hs) (hh : ∀ a, (![0, o'] : Fin 2 → ℕ) a + S256x128.size a ≤ S256x5120.size a) (x : S256x128.Idx) :
    shapeCast S256x128 (HI x0 x1 x2 x3 x4 o o' h h') hs x = HB x0 x1 x2 x3 x4 ((Rect.unit (s := S256x5120) ![0, o'] S256x128.size hh).emb x) := by
  refine Eq.trans ?_ (hi_piece x0 x1 x2 x3 x4 o o' h h' ho hh x)
  obtain ⟨i, j, rfl⟩ : ∃ (i : Fin 256) (j : Fin 128), x = ix2 i j := ⟨x 0, x 1, by ext a; fin_cases a <;> rfl⟩
  exact same_at _ _ i j

/-- The per-lane sums of squares over the first `c` chunks, as the body accumulates them. -/
def SSN : (c : ℕ) → c ≤ 20 → FVec Ideal S256x128 .f32
  | 0, _ => k0_pay9
  | c + 1, h => addf (addf (SSN c (by omega)) (mulf (LO x0 x1 x2 x3 x4 (c * 256) (by omega)) (LO x0 x1 x2 x3 x4 (c * 256) (by omega))))
      (mulf (HI x0 x1 x2 x3 x4 (c * 256) (c * 256 + 128) (by omega) (by omega)) (HI x0 x1 x2 x3 x4 (c * 256) (c * 256 + 128) (by omega) (by omega)))

/-- Those sums at one index. -/
theorem SSN_at (i : Fin 256) (l : Fin 128) (c : ℕ) (h : c ≤ 20) :
    SSN x0 x1 x2 x3 x4 c h (ix2 i l) = ∑ p ∈ Finset.range (2 * c), LANE (HB x0 x1 x2 x3 x4) i l p * LANE (HB x0 x1 x2 x3 x4) i l p := by
  induction c with
  | zero => pointwise [SSN, k0_pay9]; simp
  | succ c ih =>
    have e : SSN x0 x1 x2 x3 x4 (c + 1) h (ix2 i l) = SSN x0 x1 x2 x3 x4 c (by omega) (ix2 i l)
        + LO x0 x1 x2 x3 x4 (c * 256) (by omega) (ix2 i l) * LO x0 x1 x2 x3 x4 (c * 256) (by omega) (ix2 i l)
        + HI x0 x1 x2 x3 x4 (c * 256) (c * 256 + 128) (by omega) (by omega) (ix2 i l) * HI x0 x1 x2 x3 x4 (c * 256) (c * 256 + 128) (by omega) (by omega) (ix2 i l) := rfl
    rw [e, ih, LO_at, HI_at _ _ _ _ _ _ _ _ _ rfl, show 2 * (c + 1) = 2 * c + 1 + 1 from rfl, Finset.sum_range_succ, Finset.sum_range_succ]
    have e0 : LANE (HB x0 x1 x2 x3 x4) i l (2 * c) = HB x0 x1 x2 x3 x4 (ix2 i ⟨c * 256 + l.val, by omega⟩) := by
      rw [LANE, dif_pos (by omega)]
      exact congrArg (fun n : Fin 5120 => HB x0 x1 x2 x3 x4 (ix2 i n)) (Fin.ext (by simp; omega))
    have e1 : LANE (HB x0 x1 x2 x3 x4) i l (2 * c + 1) = HB x0 x1 x2 x3 x4 (ix2 i ⟨c * 256 + 128 + l.val, by omega⟩) := by
      rw [LANE, dif_pos (by omega)]
      exact congrArg (fun n : Fin 5120 => HB x0 x1 x2 x3 x4 (ix2 i n)) (Fin.ext (by simp; omega))
    rw [e0, e1]

end Rows

section Maxima

variable (h : Vec Ideal S256x5120 .f32) (q : Vec Ideal S256x128 .f32) (nw : Vec Ideal S1x5120 .f32)

/-- A chunk of the normalised rows, from column `o` on. -/
def YC (o : ℕ) (ho : o + 256 ≤ 5120) : FVec Ideal S256x256 .f32 :=
  k0_pay13 (k0_pay7 q) (View.ld h (Rect.unit (s := S256x5120) ![0, o] S256x256.size (inb o ho))) (View.ld nw (Rect.unit (s := S1x5120) ![0, o] S1x256.size (inb o ho)))

/-- That chunk at one index. -/
theorem YC_at (o : ℕ) (ho : o + 256 ≤ 5120) (i j : Fin 256) : YC h q nw o ho (ix2 i j) = YB h q nw (ix2 i ⟨o + j.val, by omega⟩) := by
  refine (pay13_at _ _ _ i j).trans ?_
  rw [ld_at h o _ i j ⟨o + j.val, by omega⟩ rfl, ld_at nw o _ 0 j ⟨o + j.val, by omega⟩ rfl]
  rfl

/-- The left half's magnitudes. -/
theorem abs_lo (y : FVec Ideal S256x256 .f32) (i : Fin 256) (l : Fin 128) :
    absf (extractStridedSlice S256x128 ![0, 0] y slices_S256x256_o0_0_S256x128) (ix2 i l) = FloatOps.absf (F := Ideal) (φ := .f32) (y (ix2 i ⟨l.val, by omega⟩)) := by
  pointwise
  first | done | blk_point

/-- The right half's magnitudes. -/
theorem abs_hi (y : FVec Ideal S256x256 .f32) (i : Fin 256) (l : Fin 128) :
    absf (extractStridedSlice S256x128 ![0, 128] y slices_S256x256_o0_128_S256x128) (ix2 i l) = FloatOps.absf (F := Ideal) (φ := .f32) (y (ix2 i ⟨128 + l.val, by omega⟩)) := by
  pointwise
  first | done | blk_point

/-- The per-lane largest magnitudes over the first `c` chunks, as the body accumulates them. -/
def AMN : (c : ℕ) → c ≤ 20 → FVec Ideal S256x128 .f32
  | 0, _ => k0_pay8
  | c + 1, hc => maximumf (maximumf (AMN c (by omega)) (absf (extractStridedSlice S256x128 ![0, 0] (YC h q nw (c * 256) (by omega)) slices_S256x256_o0_0_S256x128)))
      (absf (extractStridedSlice S256x128 ![0, 128] (YC h q nw (c * 256) (by omega)) slices_S256x256_o0_128_S256x128))

/-- Those maxima at one index. -/
theorem AMN_at (i : Fin 256) (l : Fin 128) (c : ℕ) (hc : c ≤ 20) :
    AMN h q nw c hc (ix2 i l) = (Finset.range (2 * c)).fold max 0 fun p => FloatOps.absf (F := Ideal) (φ := .f32) (LANE (YB h q nw) i l p) := by
  induction c with
  | zero => pointwise [AMN, k0_pay8]; simp
  | succ c ih =>
    have e : AMN h q nw (c + 1) hc (ix2 i l) = max (max (AMN h q nw c (by omega) (ix2 i l))
        (absf (extractStridedSlice S256x128 ![0, 0] (YC h q nw (c * 256) (by omega)) slices_S256x256_o0_0_S256x128) (ix2 i l)))
        (absf (extractStridedSlice S256x128 ![0, 128] (YC h q nw (c * 256) (by omega)) slices_S256x256_o0_128_S256x128) (ix2 i l)) := rfl
    rw [e, ih, abs_lo, abs_hi, YC_at, YC_at, show 2 * (c + 1) = 2 * c + 1 + 1 from rfl, Finset.range_add_one, Finset.fold_insert Finset.notMem_range_self,
      Finset.range_add_one, Finset.fold_insert Finset.notMem_range_self]
    have e0 : LANE (YB h q nw) i l (2 * c) = YB h q nw (ix2 i ⟨c * 256 + l.val, by omega⟩) := by
      rw [LANE, dif_pos (by omega)]
      exact congrArg (fun n : Fin 5120 => YB h q nw (ix2 i n)) (Fin.ext (by simp; omega))
    have e1 : LANE (YB h q nw) i l (2 * c + 1) = YB h q nw (ix2 i ⟨c * 256 + (128 + l.val), by omega⟩) := by
      rw [LANE, dif_pos (by omega)]
      exact congrArg (fun n : Fin 5120 => YB h q nw (ix2 i n)) (Fin.ext (by simp; omega))
    rw [e0, e1, max_comm, max_comm (FloatOps.absf (F := Ideal) (φ := .f32) (YB h q nw (ix2 i ⟨c * 256 + l.val, by omega⟩)))]

end Maxima

end Cert.LocalOutIdeal.Blocks

end
-- ==== Proof.LocalOutLeftA.lean ====
/- What the local output projection leaves at one grid point, over the reals: the stored codes and scales. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The codes' block: the rows left in the scratch under the scale of the maxima left there. -/
theorem out7_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = CB xs1 xs3 := by
  unfold out0_A_7
  frame_out
  funext y
  refine View.canon_apply_of_pieces (CB xs1 xs3) _ ?_ y (View.cover_of_tiledL (s := S256x5120) _ S256x256.size (by sl_kernel_rfl) y)
  simp only [List.forall_mem_cons]
  exact ⟨c_piece xs1 xs3 4864 _ _, c_piece xs1 xs3 4608 _ _, c_piece xs1 xs3 4352 _ _, c_piece xs1 xs3 4096 _ _, c_piece xs1 xs3 3840 _ _, c_piece xs1 xs3 3584 _ _, c_piece xs1 xs3 3328 _ _, c_piece xs1 xs3 3072 _ _, c_piece xs1 xs3 2816 _ _, c_piece xs1 xs3 2560 _ _, c_piece xs1 xs3 2304 _ _, c_piece xs1 xs3 2048 _ _, c_piece xs1 xs3 1792 _ _, c_piece xs1 xs3 1536 _ _, c_piece xs1 xs3 1280 _ _, c_piece xs1 xs3 1024 _ _, c_piece xs1 xs3 768 _ _, c_piece xs1 xs3 512 _ _, c_piece xs1 xs3 256 _ _, c_piece xs1 xs3 0 _ _, fun _ h => absurd h List.not_mem_nil⟩

/-- The scales' block. -/
theorem out8_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = SR xs3 := by
  unfold out0_A_8
  frame_out
  funext y
  obtain ⟨i, rfl⟩ : ∃ i : Fin 256, y = ix3 0 0 i := ⟨y 2, by ext a; fin_cases a <;> first | rfl | (have := (y 0).isLt; have := (y 1).isLt; simp_all [ix3] <;> omega)⟩
  exact pay6_at xs3 i

end Cert.LocalOutIdeal.Blocks

end
-- ==== Proof.LocalOutLeftB.lean ====
/- What the local output projection leaves at one grid point, over the reals: the normalised rows kept. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The normalised rows kept: the rows left in the scratch, normalised by the sums of squares left there. -/
theorem sout1_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    sout0_A_1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = YB xs0 xs2 x5 := by
  unfold sout0_A_1
  frame_out
  funext y
  refine View.canon_apply_of_pieces (YB xs0 xs2 x5) _ ?_ y (View.cover_of_tiledL (s := S256x5120) _ S256x256.size (by sl_kernel_rfl) y)
  simp only [List.forall_mem_cons]
  exact ⟨y_piece xs0 xs2 x5 4864 _ _ _, y_piece xs0 xs2 x5 4608 _ _ _, y_piece xs0 xs2 x5 4352 _ _ _, y_piece xs0 xs2 x5 4096 _ _ _, y_piece xs0 xs2 x5 3840 _ _ _, y_piece xs0 xs2 x5 3584 _ _ _, y_piece xs0 xs2 x5 3328 _ _ _, y_piece xs0 xs2 x5 3072 _ _ _, y_piece xs0 xs2 x5 2816 _ _ _, y_piece xs0 xs2 x5 2560 _ _ _, y_piece xs0 xs2 x5 2304 _ _ _, y_piece xs0 xs2 x5 2048 _ _ _, y_piece xs0 xs2 x5 1792 _ _ _, y_piece xs0 xs2 x5 1536 _ _ _, y_piece xs0 xs2 x5 1280 _ _ _, y_piece xs0 xs2 x5 1024 _ _ _, y_piece xs0 xs2 x5 768 _ _ _, y_piece xs0 xs2 x5 512 _ _ _, y_piece xs0 xs2 x5 256 _ _ _, y_piece xs0 xs2 x5 0 _ _ _, fun _ h => absurd h List.not_mem_nil⟩

end Cert.LocalOutIdeal.Blocks

end
-- ==== Proof.LocalOutLeftC.lean ====
/- What the local output projection leaves at one grid point, over the reals: the block of rows. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The block of rows. -/
theorem out6_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = HB x0 x1 x2 x3 x4 := by
  unfold out0_A_6
  frame_out
  funext y
  refine View.canon_apply_of_pieces (HB x0 x1 x2 x3 x4) _ ?_ y (View.cover_of_tiledL (s := S256x5120) _ S256x128.size (by sl_kernel_rfl) y)
  simp only [List.forall_mem_cons]
  exact ⟨hi_piece x0 x1 x2 x3 x4 4864 4992 (by omega) (by omega) rfl _, lo_piece x0 x1 x2 x3 x4 4864 (by omega) _, hi_piece x0 x1 x2 x3 x4 4608 4736 (by omega) (by omega) rfl _, lo_piece x0 x1 x2 x3 x4 4608 (by omega) _, hi_piece x0 x1 x2 x3 x4 4352 4480 (by omega) (by omega) rfl _, lo_piece x0 x1 x2 x3 x4 4352 (by omega) _, hi_piece x0 x1 x2 x3 x4 4096 4224 (by omega) (by omega) rfl _, lo_piece x0 x1 x2 x3 x4 4096 (by omega) _, hi_piece x0 x1 x2 x3 x4 3840 3968 (by omega) (by omega) rfl _, lo_piece x0 x1 x2 x3 x4 3840 (by omega) _, hi_piece x0 x1 x2 x3 x4 3584 3712 (by omega) (by omega) rfl _, lo_piece x0 x1 x2 x3 x4 3584 (by omega) _, hi_piece x0 x1 x2 x3 x4 3328 3456 (by omega) (by omega) rfl _, lo_piece x0 x1 x2 x3 x4 3328 (by omega) _, hi_piece x0 x1 x2 x3 x4 3072 3200 (by omega) (by omega) rfl _, lo_piece x0 x1 x2 x3 x4 3072 (by omega) _, hi_piece x0 x1 x2 x3 x4 2816 2944 (by omega) (by omega) rfl _, lo_piece x0 x1 x2 x3 x4 2816 (by omega) _, hi_piece x0 x1 x2 x3 x4 2560 2688 (by omega) (by omega) rfl _, lo_piece x0 x1 x2 x3 x4 2560 (by omega) _, hi_piece x0 x1 x2 x3 x4 2304 2432 (by omega) (by omega) rfl _, lo_piece x0 x1 x2 x3 x4 2304 (by omega) _, hi_piece x0 x1 x2 x3 x4 2048 2176 (by omega) (by omega) rfl _, lo_piece x0 x1 x2 x3 x4 2048 (by omega) _, hi_piece x0 x1 x2 x3 x4 1792 1920 (by omega) (by omega) rfl _, lo_piece x0 x1 x2 x3 x4 1792 (by omega) _, hi_piece x0 x1 x2 x3 x4 1536 1664 (by omega) (by omega) rfl _, lo_piece x0 x1 x2 x3 x4 1536 (by omega) _, hi_piece x0 x1 x2 x3 x4 1280 1408 (by omega) (by omega) rfl _, lo_piece x0 x1 x2 x3 x4 1280 (by omega) _, hi_piece x0 x1 x2 x3 x4 1024 1152 (by omega) (by omega) rfl _, lo_piece x0 x1 x2 x3 x4 1024 (by omega) _, hi_piece x0 x1 x2 x3 x4 768 896 (by omega) (by omega) rfl _, lo_piece x0 x1 x2 x3 x4 768 (by omega) _, hi_piece x0 x1 x2 x3 x4 512 640 (by omega) (by omega) rfl _, lo_piece x0 x1 x2 x3 x4 512 (by omega) _, hi_piece x0 x1 x2 x3 x4 256 384 (by omega) (by omega) rfl _, lo_piece x0 x1 x2 x3 x4 256 (by omega) _, hi_piece x0 x1 x2 x3 x4 0 128 (by omega) (by omega) rfl _, lo_piece x0 x1 x2 x3 x4 0 (by omega) _, fun _ h => absurd h List.not_mem_nil⟩

end Cert.LocalOutIdeal.Blocks

end
-- ==== Proof.LocalOutLeftD.lean ====
/- What the local output projection leaves at one grid point, over the reals: the rows kept. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The rows kept for the next point. -/
theorem sout0_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    sout0_A_0 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = HB x0 x1 x2 x3 x4 := by
  unfold sout0_A_0
  frame_out
  funext y
  refine View.canon_apply_of_pieces (HB x0 x1 x2 x3 x4) _ ?_ y (View.cover_of_tiledL (s := S256x5120) _ S256x128.size (by sl_kernel_rfl) y)
  simp only [List.forall_mem_cons]
  exact ⟨khi_piece x0 x1 x2 x3 x4 4864 4992 (by omega) (by omega) rfl _ _, klo_piece x0 x1 x2 x3 x4 4864 (by omega) _ _, khi_piece x0 x1 x2 x3 x4 4608 4736 (by omega) (by omega) rfl _ _, klo_piece x0 x1 x2 x3 x4 4608 (by omega) _ _, khi_piece x0 x1 x2 x3 x4 4352 4480 (by omega) (by omega) rfl _ _, klo_piece x0 x1 x2 x3 x4 4352 (by omega) _ _, khi_piece x0 x1 x2 x3 x4 4096 4224 (by omega) (by omega) rfl _ _, klo_piece x0 x1 x2 x3 x4 4096 (by omega) _ _, khi_piece x0 x1 x2 x3 x4 3840 3968 (by omega) (by omega) rfl _ _, klo_piece x0 x1 x2 x3 x4 3840 (by omega) _ _, khi_piece x0 x1 x2 x3 x4 3584 3712 (by omega) (by omega) rfl _ _, klo_piece x0 x1 x2 x3 x4 3584 (by omega) _ _, khi_piece x0 x1 x2 x3 x4 3328 3456 (by omega) (by omega) rfl _ _, klo_piece x0 x1 x2 x3 x4 3328 (by omega) _ _, khi_piece x0 x1 x2 x3 x4 3072 3200 (by omega) (by omega) rfl _ _, klo_piece x0 x1 x2 x3 x4 3072 (by omega) _ _, khi_piece x0 x1 x2 x3 x4 2816 2944 (by omega) (by omega) rfl _ _, klo_piece x0 x1 x2 x3 x4 2816 (by omega) _ _, khi_piece x0 x1 x2 x3 x4 2560 2688 (by omega) (by omega) rfl _ _, klo_piece x0 x1 x2 x3 x4 2560 (by omega) _ _, khi_piece x0 x1 x2 x3 x4 2304 2432 (by omega) (by omega) rfl _ _, klo_piece x0 x1 x2 x3 x4 2304 (by omega) _ _, khi_piece x0 x1 x2 x3 x4 2048 2176 (by omega) (by omega) rfl _ _, klo_piece x0 x1 x2 x3 x4 2048 (by omega) _ _, khi_piece x0 x1 x2 x3 x4 1792 1920 (by omega) (by omega) rfl _ _, klo_piece x0 x1 x2 x3 x4 1792 (by omega) _ _, khi_piece x0 x1 x2 x3 x4 1536 1664 (by omega) (by omega) rfl _ _, klo_piece x0 x1 x2 x3 x4 1536 (by omega) _ _, khi_piece x0 x1 x2 x3 x4 1280 1408 (by omega) (by omega) rfl _ _, klo_piece x0 x1 x2 x3 x4 1280 (by omega) _ _, khi_piece x0 x1 x2 x3 x4 1024 1152 (by omega) (by omega) rfl _ _, klo_piece x0 x1 x2 x3 x4 1024 (by omega) _ _, khi_piece x0 x1 x2 x3 x4 768 896 (by omega) (by omega) rfl _ _, klo_piece x0 x1 x2 x3 x4 768 (by omega) _ _, khi_piece x0 x1 x2 x3 x4 512 640 (by omega) (by omega) rfl _ _, klo_piece x0 x1 x2 x3 x4 512 (by omega) _ _, khi_piece x0 x1 x2 x3 x4 256 384 (by omega) (by omega) rfl _ _, klo_piece x0 x1 x2 x3 x4 256 (by omega) _ _, khi_piece x0 x1 x2 x3 x4 0 128 (by omega) (by omega) rfl _ _, klo_piece x0 x1 x2 x3 x4 0 (by omega) _ _, fun _ h => absurd h List.not_mem_nil⟩

end Cert.LocalOutIdeal.Blocks

end
-- ==== Proof.LocalOutLeftE.lean ====
/- What the local output projection leaves at one grid point, over the reals: the per-lane sums and maxima kept. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The per-lane sums of squares kept: of this point's rows. -/
theorem sout2_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    sout0_A_2 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = QB (HB x0 x1 x2 x3 x4) := by
  have e : sout0_A_2 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = shapeCast S256x128 (SSN x0 x1 x2 x3 x4 20 le_rfl) (by decide) := by
    unfold sout0_A_2
    frame_out
    rfl
  rw [e]
  funext y
  obtain ⟨i, j, rfl⟩ : ∃ (i : Fin 256) (j : Fin 128), y = ix2 i j := ⟨y 0, y 1, by ext a; fin_cases a <;> rfl⟩
  exact (same_at _ _ i j).trans (SSN_at x0 x1 x2 x3 x4 i j 20 le_rfl)

end Cert.LocalOutIdeal.Blocks

end
-- ==== Proof.LocalOutLeftF.lean ====
/- What the local output projection leaves at one grid point, over the reals: the per-lane maxima kept. -/
module

public import proofs.«01_k».proof.Proof.LocalOutPieces

@[expose] public section

set_option maxRecDepth 16384

noncomputable section

open Idealize.ShloMosaic Idealize.ShloMosaic.TcCoe Idealize.SL.Sem
open Idealize.ShloMosaic.Pipeline (Dat)
open Cert.Common

namespace Cert.LocalOutIdeal.Blocks

open Cert.LocalOutIdeal Cert.LocalOutIdeal.Gen Cert.LocalOutIdeal.Run

/-- The per-lane largest magnitudes kept: of the rows this point normalises. -/
theorem sout3_eq (c : Dev nD) (i : grid0.Coords) (arg1 : Memref sig .tc .vmem S256x5120 .fp8e4m3) (harg1 : arg1.IsWhole) (arg2 : Memref sig .tc .vmem S1x1x256 .f32) (harg2 : arg2.IsWhole) (arg3 : Memref sig .tc .vmem S256x5120 .bf16) (harg3 : arg3.IsWhole) (arg4 : Memref sig .tc .vmem S5120x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S1x1x256 .f32) (harg9 : arg9.IsWhole) (arg10 : Memref sig .tc .vmem S256x5120 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec Ideal S256x5120 .fp8e4m3) (x1 : Vec Ideal S1x1x256 .f32) (x2 : Vec Ideal S256x5120 .bf16) (x3 : Vec Ideal S5120x5120 .fp8e4m3) (x4 : Vec Ideal S1x5120 .f32) (x5 : Vec Ideal S1x5120 .f32) (xs0 : Vec Ideal S256x5120 .f32) (xs1 : Vec Ideal S256x5120 .f32) (xs2 : Vec Ideal S256x128 .f32) (xs3 : Vec Ideal S256x128 .f32) :
    sout0_A_3 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = AB (YB xs0 xs2 x5) := by
  have e : sout0_A_3 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 = shapeCast S256x128 (AMN xs0 xs2 x5 20 le_rfl) (by decide) := by
    unfold sout0_A_3
    frame_out
    rfl
  rw [e]
  funext y
  obtain ⟨i, j, rfl⟩ : ∃ (i : Fin 256) (j : Fin 128), y = ix2 i j := ⟨y 0, y 1, by ext a; fin_cases a <;> rfl⟩
  exact (same_at _ _ i j).trans (AMN_at xs0 xs2 x5 i j 20 le_rfl)

end Cert.LocalOutIdeal.Blocks

end
-- ==== Proof.LocalOutArray.lean ====
/- The local output projection's three result arrays, over the reals, as functions of its arguments. -/
module

public import proofs.«01_k».proof.Proof.LocalOutIdealRegion
public import proofs.«01_k».proof.Proof.LocalOutRows
public import proofs.«01_k».proof.Proof.LocalOutLeftA
public import proofs.«01_k».proof.Proof.LocalOutLeftB
public import proofs.«01_k».proof.Proof.LocalOutLeftC
public import proofs.«01_k».proof.Proof.LocalOutLeftD
public import proofs.«01_k».proof.Proof.LocalOutLeftE
public import proofs.«01_k».proof.Proof.LocalOutLeftF
public import Idealize.ShloMosaic.Lib.Claim
public import Idealize.ShloMosaic.Lib.StableHlo.RunRead
public import Idealize.ShloMosaic.Lib.Pipeline.ArrRel

@[expose] public section

set_option maxRecDepth 16384

noncomputable section

open Idealize.ShloMosaic Idealize.ShloMosaic.TcCoe Idealize.SL.Sem
open Idealize.ShloMosaic.Pipeline (Dat RDat)
open Cert.Common

namespace Cert.LocalOutIdeal.Blocks

open Cert.LocalOutIdeal Cert.LocalOutIdeal.Gen Cert.LocalOutIdeal.Run

variable (m : (ℓ : Loc nD τ sig) → Buf (Elt Ideal) ℓ)

/-- Row `r` of the residual rows: the token plus the attention's codes times the weight, times both scales. -/
def HR (a : Vec Ideal S16384x5120 .fp8e4m3) (s : Vec Ideal S4x4096 .f32) (x : Vec Ideal S4x4096x5120 .bf16) (w : Vec Ideal S40x128x5120 .fp8e4m3) (ws : Vec Ideal S5120 .f32) (r : Fin 16384) (j : Fin 5120) : EReal :=
  x (ix3 ⟨r.val / 4096, by omega⟩ ⟨r.val % 4096, by omega⟩ j)
  + (∑ k : Fin 5120, a (ix2 r k) * w (ix3 ⟨k.val / 128, by omega⟩ ⟨k.val % 128, by omega⟩ j)) * s (ix2 ⟨r.val / 4096, by omega⟩ ⟨r.val % 4096, by omega⟩) * ws (ix1 j)

/-- Result 1: the rows. -/
def REF6 (a : Vec Ideal S16384x5120 .fp8e4m3) (s : Vec Ideal S4x4096 .f32) (x : Vec Ideal S4x4096x5120 .bf16) (w : Vec Ideal S40x128x5120 .fp8e4m3) (ws : Vec Ideal S5120 .f32) : Vec Ideal S16384x5120 .f32 :=
  fun y => HR a s x w ws (y 0) (y 1)

/-- Result 2: the codes of the normalised rows. -/
def REF7 (a : Vec Ideal S16384x5120 .fp8e4m3) (s : Vec Ideal S4x4096 .f32) (x : Vec Ideal S4x4096x5120 .bf16) (w : Vec Ideal S40x128x5120 .fp8e4m3) (ws nw : Vec Ideal S5120 .f32) : Vec Ideal S16384x5120 .fp8e4m3 :=
  fun y => NCODE (HR a s x w ws (y 0)) (fun k => nw (ix1 k)) (y 1)

/-- Result 3: their scales. -/
def REF8 (a : Vec Ideal S16384x5120 .fp8e4m3) (s : Vec Ideal S4x4096 .f32) (x : Vec Ideal S4x4096x5120 .bf16) (w : Vec Ideal S40x128x5120 .fp8e4m3) (ws nw : Vec Ideal S5120 .f32) : Vec Ideal S64x1x256 .f32 :=
  fun y => NSC (HR a s x w ws ⟨(y 0).val * 256 + (y 2).val, by have : (y 0).val < 64 := (y 0).isLt; have : (y 2).val < 256 := (y 2).isLt; omega⟩) (fun k => nw (ix1 k))

/-- What a window's array holds when the call starts: the tokens as rows. -/
theorem x_eq (c : Dev nD) : V m c main_v0 = shapeCast S16384x5120 (m ((c : Thread nD τ).loc main_arg2)) shapeCasts_S4x4096x5120_S16384x5120 := by
  unfold V
  simp only [List.flatten, hostOps0, List.append_nil, List.cons_append, List.nil_append]
  after_reads_simp
  rfl

/-- What a window's array holds when the call starts: the scales in blocks of 256. -/
theorem s_eq (c : Dev nD) : V m c main_v1 = shapeCast S64x1x256 (m ((c : Thread nD τ).loc main_arg1)) shapeCasts_S4x4096_S64x1x256 := by
  unfold V
  simp only [List.flatten, hostOps0, List.append_nil, List.cons_append, List.nil_append]
  after_reads_simp
  rfl

/-- What a window's array holds when the call starts: the weight's heads one after another. -/
theorem w_eq (c : Dev nD) : V m c main_v2 = shapeCast S5120x5120 (m ((c : Thread nD τ).loc main_arg3)) shapeCasts_S40x128x5120_S5120x5120 := by
  unfold V
  simp only [List.flatten, hostOps0, List.append_nil, List.cons_append, List.nil_append]
  after_reads_simp
  rfl

/-- What a window's array holds when the call starts: the columns' scales as a row. -/
theorem ws_eq (c : Dev nD) : V m c main_v3 = shapeCast S1x5120 (m ((c : Thread nD τ).loc main_arg4)) shapeCasts_S5120_S1x5120 := by
  unfold V
  simp only [List.flatten, hostOps0, List.append_nil, List.cons_append, List.nil_append]
  after_reads_simp
  rfl

/-- What a window's array holds when the call starts: the norm's weight as a row. -/
theorem nw_eq (c : Dev nD) : V m c main_v4 = shapeCast S1x5120 (m ((c : Thread nD τ).loc main_arg5)) shapeCasts_S5120_S1x5120 := by
  unfold V
  simp only [List.flatten, hostOps0, List.append_nil, List.cons_append, List.nil_append]
  after_reads_simp
  rfl

/-- The tokens as rows, at one index. -/
theorem x_cast (z : FVec Ideal S4x4096x5120 .bf16) (r : Fin 16384) (k : Fin 5120) : shapeCast S16384x5120 z shapeCasts_S4x4096x5120_S16384x5120 (ix2 r k) = z (ix3 ⟨r.val / 4096, by omega⟩ ⟨r.val % 4096, by omega⟩ k) := by
  pointwise

/-- The weight's heads one after another, at one index. -/
theorem w_cast (z : FVec Ideal S40x128x5120 .fp8e4m3) (k j : Fin 5120) : shapeCast S5120x5120 z shapeCasts_S40x128x5120_S5120x5120 (ix2 k j) = z (ix3 ⟨k.val / 128, by omega⟩ ⟨k.val % 128, by omega⟩ j) := by
  pointwise

/-- A row vector, at one index. -/
theorem row_cast (z : FVec Ideal S5120 .f32) (j : Fin 5120) : shapeCast S1x5120 z shapeCasts_S5120_S1x5120 (ix2 0 j) = z (ix1 j) := by
  pointwise

/-- The scales in blocks, at one index. -/
theorem s_cast0 (z : FVec Ideal S4x4096 .f32) (b : Fin 64) (i : Fin 256) :
    shapeCast S64x1x256 z shapeCasts_S4x4096_S64x1x256 (ix3 b 0 i) = z (ix2 ⟨(b.val * 256 + i.val) / 4096, by omega⟩ ⟨(b.val * 256 + i.val) % 4096, by omega⟩) := by
  pointwise
  first | done | blk_point

/-- The same, the row named. -/
theorem s_cast (z : FVec Ideal S4x4096 .f32) (b : Fin 64) (i : Fin 256) (r : Fin 16384) (hr : r.val = b.val * 256 + i.val) :
    shapeCast S64x1x256 z shapeCasts_S4x4096_S64x1x256 (ix3 b 0 i) = z (ix2 ⟨r.val / 4096, by omega⟩ ⟨r.val % 4096, by omega⟩) := by
  have e : (⟨b.val * 256 + i.val, by omega⟩ : Fin 16384) = r := Fin.ext hr.symm
  exact (s_cast0 z b i).trans (congrArg (fun r : Fin 16384 => z (ix2 ⟨r.val / 4096, by omega⟩ ⟨r.val % 4096, by omega⟩)) e)

/-- Each window's block at each grid point. -/
theorem idx : ∀ t : Fin cfg0.N, win0_0.index t = ![min t.val 63, 0] ∧ win0_1.index t = ![min t.val 63, 0, 0] ∧ win0_2.index t = ![min t.val 63, 0]
    ∧ win0_3.index t = ![0, 0] ∧ win0_4.index t = ![0, 0] ∧ win0_5.index t = ![0, 0]
    ∧ win0_6.index t = ![min t.val 63, 0] ∧ win0_7.index t = ![t.val - 2, 0] ∧ win0_8.index t = ![t.val - 2, 0, 0] :=
  (by decide +kernel : ∀ t : Fin grid0.N, _)

/-- The first two points write back no codes and no scales. -/
theorem late : ∀ t : Fin cfg0.N, ((cfg0.win 7).flush t = true → 2 ≤ t.val) ∧ ((cfg0.win 8).flush t = true → 2 ≤ t.val) :=
  (by decide +kernel : ∀ t : Fin grid0.N, _)

/-- The attention's codes at point `t`. -/
theorem b0 (c : Dev nD) (t : Fin cfg0.N) (i : Fin 256) (k : Fin 5120) :
    iblk m c 0 t (ix2 i k) = m ((c : Thread nD τ).loc main_arg0) (ix2 ⟨min t.val 63 * 256 + i.val, by omega⟩ k) := by
  blk_ext [iblk, V, idx t]

/-- Their scales at point `t`. -/
theorem b1 (c : Dev nD) (t : Fin cfg0.N) (i : Fin 256) (r : Fin 16384) (hr : r.val = min t.val 63 * 256 + i.val) :
    iblk m c 1 t (ix3 0 0 i) = m ((c : Thread nD τ).loc main_arg1) (ix2 ⟨r.val / 4096, by omega⟩ ⟨r.val % 4096, by omega⟩) := by
  have e : (iblk m c 1 t) (ix3 0 0 i) = V m c main_v1 (ix3 ⟨min t.val 63, by omega⟩ 0 i) := by
    show V m c main_v1 _ = _
    blk_ext [idx t]
  rw [e, s_eq, s_cast _ ⟨min t.val 63, by omega⟩ i r hr]

/-- The tokens at point `t`. -/
theorem b2 (c : Dev nD) (t : Fin cfg0.N) (i : Fin 256) (k : Fin 5120) (r : Fin 16384) (hr : r.val = min t.val 63 * 256 + i.val) :
    iblk m c 2 t (ix2 i k) = m ((c : Thread nD τ).loc main_arg2) (ix3 ⟨r.val / 4096, by omega⟩ ⟨r.val % 4096, by omega⟩ k) := by
  have e : (iblk m c 2 t) (ix2 i k) = V m c main_v0 (ix2 ⟨min t.val 63 * 256 + i.val, by omega⟩ k) := by
    show V m c main_v0 _ = _
    blk_ext [idx t]
  have hr' : (⟨min t.val 63 * 256 + i.val, by omega⟩ : Fin 16384) = r := Fin.ext hr.symm
  rw [e, hr', x_eq, x_cast]

/-- The weight at point `t`. -/
theorem b3 (c : Dev nD) (t : Fin cfg0.N) (k j : Fin 5120) :
    iblk m c 3 t (ix2 k j) = m ((c : Thread nD τ).loc main_arg3) (ix3 ⟨k.val / 128, by omega⟩ ⟨k.val % 128, by omega⟩ j) := by
  have e : (iblk m c 3 t) (ix2 k j) = V m c main_v2 (ix2 k j) := by
    show V m c main_v2 _ = _
    blk_ext [idx t]
  rw [e, w_eq, w_cast]

/-- The weight's scales at point `t`. -/
theorem b4 (c : Dev nD) (t : Fin cfg0.N) (j : Fin 5120) : iblk m c 4 t (ix2 0 j) = m ((c : Thread nD τ).loc main_arg4) (ix1 j) := by
  have e : (iblk m c 4 t) (ix2 0 j) = V m c main_v3 (ix2 0 j) := by
    show V m c main_v3 _ = _
    blk_ext [idx t]
  rw [e, ws_eq, row_cast]

/-- The norm's weight at point `t`. -/
theorem b5 (c : Dev nD) (t : Fin cfg0.N) (j : Fin 5120) : iblk m c 5 t (ix2 0 j) = m ((c : Thread nD τ).loc main_arg5) (ix1 j) := by
  have e : (iblk m c 5 t) (ix2 0 j) = V m c main_v4 (ix2 0 j) := by
    show V m c main_v4 _ = _
    blk_ext [idx t]
  rw [e, nw_eq, row_cast]

/-- The block of rows point `t` computes. -/
abbrev HT (c : Dev nD) (t : Fin cfg0.N) : Vec Ideal S256x5120 .f32 :=
  HB (iblk m c 0 t) (iblk m c 1 t) (iblk m c 2 t) (iblk m c 3 t) (iblk m c 4 t)

/-- The rows' reference on the call's own arguments. -/
abbrev HM (c : Dev nD) : Fin 16384 → Fin 5120 → EReal :=
  HR (m ((c : Thread nD τ).loc main_arg0)) (m ((c : Thread nD τ).loc main_arg1)) (m ((c : Thread nD τ).loc main_arg2)) (m ((c : Thread nD τ).loc main_arg3)) (m ((c : Thread nD τ).loc main_arg4))

/-- A block of rows at one index. -/
theorem HB_at (a : Vec Ideal S256x5120 .fp8e4m3) (s : Vec Ideal S1x1x256 .f32) (x : Vec Ideal S256x5120 .bf16) (w : Vec Ideal S5120x5120 .fp8e4m3) (ws : Vec Ideal S1x5120 .f32) (i : Fin 256) (j : Fin 5120) :
    HB a s x w ws (ix2 i j) = x (ix2 i j) + (∑ k : Fin 5120, a (ix2 i k) * w (ix2 k j)) * s (ix3 0 0 i) * ws (ix2 0 j) := rfl

/-- Row `i` of that block is a row of the whole. -/
theorem HT_at (c : Dev nD) (t : Fin cfg0.N) (i : Fin 256) (j : Fin 5120) (r : Fin 16384) (hr : r.val = min t.val 63 * 256 + i.val) :
    HT m c t (ix2 i j) = HM m c r j := by
  refine (HB_at _ _ _ _ _ i j).trans ?_
  have hr' : (⟨min t.val 63 * 256 + i.val, by omega⟩ : Fin 16384) = r := Fin.ext hr.symm
  rw [b1 m c t i r hr, b2 m c t i j r hr, b4]
  simp only [b0, b3, hr']
  rfl

/-- What a point leaves in the scratch. -/
theorem leftS_eq (c : Dev nD) (t : Fin cfg0.N) (x : Sc Ideal) :
    leftS m c t x = (HT m c t, YB x.1 x.2.2.1 (iblk m c 5 t), QB (HT m c t), AB (YB x.1 x.2.2.1 (iblk m c 5 t))) := by
  unfold leftS
  rw [sout0_eq, sout1_eq, sout2_eq, sout3_eq]

/-- The rows a point leaves. -/
theorem left6_eq (c : Dev nD) (t : Fin cfg0.N) (x : Sc Ideal) : left6 m c t x = HT m c t := by
  unfold left6
  rw [out6_eq]

/-- The codes a point leaves. -/
theorem left7_eq (c : Dev nD) (t : Fin cfg0.N) (x : Sc Ideal) : left7 m c t x = CB x.2.1 x.2.2.2 := by
  unfold left7
  rw [out7_eq]

/-- The scales a point leaves. -/
theorem left8_eq (c : Dev nD) (t : Fin cfg0.N) (x : Sc Ideal) : left8 m c t x = SR x.2.2.2 := by
  unfold left8
  rw [out8_eq]

/-- After a point the scratch holds its rows and their sums of squares. -/
theorem reach1 (c : Dev nD) (n : ℕ) (hn : n + 1 ≤ cfg0.N) (x : Sc Ideal) (h : Reach m c (n + 1) hn x) :
    x.1 = HT m c ⟨n, hn⟩ ∧ x.2.2.1 = QB (HT m c ⟨n, hn⟩) := by
  obtain ⟨x', _, rfl⟩ := h
  rw [leftS_eq]
  exact ⟨rfl, rfl⟩

/-- After one more it holds them normalised, and their largest magnitudes. -/
theorem reach2 (c : Dev nD) (n : ℕ) (hn : n + 1 + 1 ≤ cfg0.N) (x : Sc Ideal) (h : Reach m c (n + 1 + 1) hn x) :
    x.2.1 = YB (HT m c ⟨n, Nat.le_of_succ_le hn⟩) (QB (HT m c ⟨n, Nat.le_of_succ_le hn⟩)) (iblk m c 5 ⟨n + 1, hn⟩)
    ∧ x.2.2.2 = AB (YB (HT m c ⟨n, Nat.le_of_succ_le hn⟩) (QB (HT m c ⟨n, Nat.le_of_succ_le hn⟩)) (iblk m c 5 ⟨n + 1, hn⟩)) := by
  obtain ⟨x', hx', rfl⟩ := h
  obtain ⟨h0, h2⟩ := reach1 m c n _ x' hx'
  rw [leftS_eq, h2, h0]
  exact ⟨rfl, rfl⟩

/-- The codes a point leaves from the third on. -/
theorem left7_at (c : Dev nD) (n : ℕ) (hn : n + 2 < cfg0.N) (x : Sc Ideal) (h : Reach m c (n + 2) (Nat.le_of_lt hn) x) (i : Fin 256) (j : Fin 5120) (r : Fin 16384) (hr : r.val = n * 256 + i.val) :
    left7 m c ⟨n + 2, hn⟩ x (ix2 i j) = NCODE (HM m c r) (fun k => m ((c : Thread nD τ).loc main_arg5) (ix1 k)) j := by
  have hN : n + 2 < 66 := hn
  obtain ⟨h1, h3⟩ := reach2 m c n _ x h
  rw [left7_eq, h1, h3, NCODE_at]
  simp only [b5, fun k => HT_at m c ⟨n, by omega⟩ i k r (by show r.val = min n 63 * 256 + i.val; omega)]

/-- The scales a point leaves from the third on. -/
theorem left8_at (c : Dev nD) (n : ℕ) (hn : n + 2 < cfg0.N) (x : Sc Ideal) (h : Reach m c (n + 2) (Nat.le_of_lt hn) x) (i : Fin 256) (r : Fin 16384) (hr : r.val = n * 256 + i.val) :
    left8 m c ⟨n + 2, hn⟩ x (ix3 0 0 i) = NSC (HM m c r) (fun k => m ((c : Thread nD τ).loc main_arg5) (ix1 k)) := by
  have hN : n + 2 < 66 := hn
  obtain ⟨h1, h3⟩ := reach2 m c n _ x h
  rw [left8_eq, h3]
  show SCL _ i = _
  rw [NSC_at]
  simp only [b5, fun k => HT_at m c ⟨n, by omega⟩ i k r (by show r.val = min n 63 * 256 + i.val; omega)]

/-- The rows a point leaves. -/
theorem left6_at (c : Dev nD) (t : Fin cfg0.N) (x : Sc Ideal) (i : Fin 256) (j : Fin 5120) (r : Fin 16384) (hr : r.val = min t.val 63 * 256 + i.val) :
    left6 m c t x (ix2 i j) = HM m c r j := by
  rw [left6_eq, HT_at m c t i j r hr]

section Finals

variable (after : (c : Dev nD) → (w' : Fin cfg0.W) → Fin cfg0.N → (cfg0.win w').block.Idx → Elt Ideal (cfg0.win w').elt)
variable (hL : ∀ (c : Dev nD) (w : Fin cfg0.W) (u : Fin cfg0.N), (cfg0.win w).flush u = true → (rdat m c).Leaves w u (after c w u))

include hL

/-- Result 1 after the run. -/
theorem final6 (c : Dev nD) : ((rdat m c).withAfter (after c)).arrAt 6 cfg0.N
    = REF6 (m ((c : Thread nD τ).loc main_arg0)) (m ((c : Thread nD τ).loc main_arg1)) (m ((c : Thread nD τ).loc main_arg2)) (m ((c : Thread nD τ).loc main_arg3)) (m ((c : Thread nD τ).loc main_arg4)) := by
  refine ((rdat m c).withAfter (after c)).arrAt_eq_of_covers 6 _ (by decide +kernel) fun t hf y => ?_
  have ht : t.val < 66 := t.isLt
  obtain ⟨Y, -, hY⟩ := hL c 6 t hf
  rw [after0_6] at hY
  obtain ⟨x, hx, hY⟩ := hY
  blk_simp
  rw [RDat.withAfter_after, hY]
  obtain ⟨i, j, rfl⟩ : ∃ (i : Fin 256) (j : Fin 5120), y = ix2 i j := ⟨y 0, y 1, by ext a; fin_cases a <;> rfl⟩
  have hy : ((cfg0.win 6).blk t).view.emb (ix2 i j) = ix2 ⟨min t.val 63 * 256 + i.val, by omega⟩ j := by blk_ext [idx t]
  refine Eq.trans ?_ (congrArg (REF6 _ _ _ _ _) hy.symm)
  exact left6_at m c t x i j ⟨min t.val 63 * 256 + i.val, by omega⟩ rfl

/-- Result 2 after the run. -/
theorem final7 (c : Dev nD) : ((rdat m c).withAfter (after c)).arrAt 7 cfg0.N
    = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((rdat m c).withAfter (after c)).arrAt_eq_of_covers 7 _ (by decide +kernel) fun t hf y => ?_
  have h2 : 2 ≤ t.val := (late t).1 hf
  obtain ⟨n, hn, rfl⟩ : ∃ (n : ℕ) (hn : n + 2 < cfg0.N), t = ⟨n + 2, hn⟩ := ⟨t.val - 2, (Nat.sub_add_cancel h2).symm ▸ t.isLt, Fin.ext (Nat.sub_add_cancel h2).symm⟩
  have hN : n + 2 < 66 := hn
  obtain ⟨Y, -, hY⟩ := hL c 7 ⟨n + 2, hn⟩ hf
  rw [after0_7] at hY
  obtain ⟨x, hx, hY⟩ := hY
  blk_simp
  rw [RDat.withAfter_after, hY]
  obtain ⟨i, j, rfl⟩ : ∃ (i : Fin 256) (j : Fin 5120), y = ix2 i j := ⟨y 0, y 1, by ext a; fin_cases a <;> rfl⟩
  have hy : ((cfg0.win 7).blk ⟨n + 2, hn⟩).view.emb (ix2 i j) = ix2 ⟨n * 256 + i.val, by omega⟩ j := by blk_ext [idx ⟨n + 2, hn⟩]
  refine Eq.trans ?_ (congrArg (REF7 _ _ _ _ _ _) hy.symm)
  exact left7_at m c n hn x hx i j ⟨n * 256 + i.val, by omega⟩ rfl

/-- Result 3 after the run. -/
theorem final8 (c : Dev nD) : ((rdat m c).withAfter (after c)).arrAt 8 cfg0.N
    = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((rdat m c).withAfter (after c)).arrAt_eq_of_covers 8 _ (by decide +kernel) fun t hf y => ?_
  have h2 : 2 ≤ t.val := (late t).2 hf
  obtain ⟨n, hn, rfl⟩ : ∃ (n : ℕ) (hn : n + 2 < cfg0.N), t = ⟨n + 2, hn⟩ := ⟨t.val - 2, (Nat.sub_add_cancel h2).symm ▸ t.isLt, Fin.ext (Nat.sub_add_cancel h2).symm⟩
  have hN : n + 2 < 66 := hn
  obtain ⟨Y, -, hY⟩ := hL c 8 ⟨n + 2, hn⟩ hf
  rw [after0_8] at hY
  obtain ⟨x, hx, hY⟩ := hY
  blk_simp
  rw [RDat.withAfter_after, hY]
  obtain ⟨i, rfl⟩ : ∃ (i : Fin 256), y = ix3 0 0 i := ⟨y 2, by ext a; fin_cases a <;> first | rfl | exact congrArg Fin.val (Subsingleton.elim (α := Fin 1) _ _)⟩
  have hy : ((cfg0.win 8).blk ⟨n + 2, hn⟩).view.emb (ix3 0 0 i) = ix3 ⟨n, by omega⟩ 0 i := by blk_ext [idx ⟨n + 2, hn⟩]
  refine Eq.trans ?_ (congrArg (REF8 _ _ _ _ _ _) hy.symm)
  exact left8_at m c n hn x hx i ⟨n * 256 + i.val, by omega⟩ rfl

end Finals

/-- The run leaves those three arrays and the arguments as launched. -/
theorem run_values (ρ : Dev nD → PrngReg) : θ_run defs (onTc (τ := τ) (main (F := Ideal))) ⟨m, fun _ => 0, ρ⟩ fun r => ∀ c : Dev nD,
      r.2.mem ((c : Thread nD τ).loc main_v5_0) = REF6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v5_1) = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v5_2) = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h => ?_) (run_main m ρ)
  choose after hL hA using fun c => RDat.FramePost.exists_exact h c
  exact fun c => ⟨(hA c 6).trans (final6 m after hL c), (hA c 7).trans (final7 m after hL c), (hA c 8).trans (final8 m after hL c), kept m h c⟩

end Cert.LocalOutIdeal.Blocks

end
-- ==== Proof.LocalOutMathRun.lean ====
/- The run of the local output projection's plain statement: each result array by name, the arguments as launched. -/
module

public import proofs.«01_k».proof.Proof.Gen.LocalOutMathIdeal.Frame
public import Idealize.ShloMosaic.Lib.Pipeline.Value

@[expose] public section

noncomputable section

namespace Cert.LocalOutMathIdeal.Run

open Cert.LocalOutMathIdeal Cert.LocalOutMathIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

end Cert.LocalOutMathIdeal.Run

end
-- ==== Proof.LocalOutMath.lean ====
/- The plain statement of the local output projection leaves the kernel's three arrays, over the reals. -/
module

public import proofs.«01_k».proof.Proof.LocalOutMathRun
public import proofs.«01_k».proof.Proof.LocalOutArray
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Common

namespace Cert.LocalOutMathIdeal.Blocks

open Cert.LocalOutMathIdeal Cert.LocalOutMathIdeal.Gen

variable (m : (ℓ : Loc nD τ sig) → Buf (Elt Ideal) ℓ)

open Cert.LocalOutIdeal.Blocks (HR REF6 REF7 REF8)

/-- The rows. -/
theorem pay4_at (a : Vec Ideal S16384x5120 .fp8e4m3) (w : Vec Ideal S5120x5120 .fp8e4m3) (x : Vec Ideal S16384x5120 .bf16) (s : Vec Ideal S16384x1 .f32) (ws : Vec Ideal S1x5120 .f32) (i : Fin 16384) (j : Fin 5120) :
    k0_pay4 (F := Ideal) a w x s ws (ix2 i j) = x (ix2 i j) + (∑ k : Fin 5120, a (ix2 i k) * w (ix2 k j)) * s (ix2 i 0) * ws (ix2 0 j) := by
  pointwise [k0_pay4]
  first | done | blk_point

/-- Root mean squares from sums of squares. -/
def RQ (z : FVec Ideal S16384x1 .f32) : FVec Ideal S16384x1 .f32 :=
  sqrt (addf (divf z (broadcast S16384x1 (Scalar.ofBits .f32 0x45A00000#32))) (broadcast S16384x1 (Scalar.ofBits .f32 0x3727C5AC#32)))

/-- One of them. -/
theorem RQ_at (z : FVec Ideal S16384x1 .f32) (i : Fin 16384) :
    RQ z (ix2 i 0) = Ideal.sqrt (Ideal.div (z (ix2 i 0)) (Ideal.ofBits .f32 0x45A00000#32) + Ideal.ofBits .f32 0x3727C5AC#32) := by
  pointwise [RQ]

/-- The rows' root mean squares, as a column. -/
def RMS (v : FVec Ideal S16384x5120 .f32) : FVec Ideal S16384x1 .f32 :=
  RQ (shapeCast S16384x1 (multiReduction .add [1] S16384 (mulf v v) 0x00000000#32 reduces_S16384x5120_S16384 (.inl rfl) rfl) shapeCasts_S16384_S16384x1)

/-- A row's sum of squares. -/
theorem ss_at (v : FVec Ideal S16384x5120 .f32) (i : Fin 16384) :
    multiReduction .add [1] S16384 (mulf v v) 0x00000000#32 reduces_S16384x5120_S16384 (.inl rfl) rfl (ix1 i) = ∑ k : Fin 5120, v (ix2 i k) * v (ix2 i k) := by
  pointwise

/-- A column's entry. -/
theorem col_at (z : FVec Ideal S16384 .f32) (i : Fin 16384) : shapeCast S16384x1 z shapeCasts_S16384_S16384x1 (ix2 i 0) = z (ix1 i) := by
  pointwise

/-- The root mean square of a row. -/
theorem RMS_at (v : FVec Ideal S16384x5120 .f32) (i : Fin 16384) :
    RMS v (ix2 i 0) = Ideal.sqrt (Ideal.div (∑ k : Fin 5120, v (ix2 i k) * v (ix2 i k)) (Ideal.ofBits .f32 0x45A00000#32) + Ideal.ofBits .f32 0x3727C5AC#32) := by
  unfold RMS
  rw [RQ_at, col_at, ss_at]

/-- Rows normalised and weighted. -/
def NV (v : FVec Ideal S16384x5120 .f32) (nw : Vec Ideal S1x5120 .f32) : FVec Ideal S16384x5120 .f32 :=
  mulf (divf v (broadcastTo S16384x5120 (RMS v) broadcasts_S16384x1_S16384x5120))
      (broadcastTo S16384x5120 (shapeCast S1x5120 nw shapeCasts_S1x5120_S1x5120) broadcasts_S1x5120_S16384x5120)

/-- The normalised rows. -/
theorem NV_at (v : FVec Ideal S16384x5120 .f32) (nw : Vec Ideal S1x5120 .f32) (i : Fin 16384) (j : Fin 5120) :
    NV v nw (ix2 i j) = NRM (fun k => v (ix2 i k)) (fun k => nw (ix2 0 k)) j := by
  unfold NRM
  have h : NV v nw (ix2 i j) = Ideal.div (v (ix2 i j)) (RMS v (ix2 i 0)) * nw (ix2 0 j) := by
    unfold NV
    generalize RMS v = z
    pointwise
  rw [h, RMS_at]

/-- A row's largest magnitude. -/
theorem amax_at (v : FVec Ideal S16384x5120 .f32) (i : Fin 16384) :
    multiReduction .maximumf [1] S16384 (absf v) 0xFF800000#32 reduces_S16384x5120_S16384 (.inl rfl) rfl (ix1 i) = AMAX fun k : Fin 5120 => v (ix2 i k) := by
  pointwise
  rfl

/-- The scales, from the rows' largest magnitudes. -/
def SCV (z : FVec Ideal S16384x1 .f32) : FVec Ideal S16384x1 .f32 :=
  select (cmpf .oeq z (broadcast S16384x1 (Scalar.ofBits .f32 0x00000000#32))) (broadcast S16384x1 (Scalar.ofBits .f32 0x3F800000#32)) (divf z (broadcast S16384x1 (Scalar.ofBits .f32 0x43E00000#32)))

/-- One of them. -/
theorem SCV_at (z : FVec Ideal S16384x1 .f32) (i : Fin 16384) :
    SCV z (ix2 i 0) = if z (ix2 i 0) = 0 then 1 else Ideal.div (z (ix2 i 0)) (Ideal.ofBits .f32 0x43E00000#32) := by
  pointwise [SCV]

/-- The scales of rows. -/
def SV (v : FVec Ideal S16384x5120 .f32) : FVec Ideal S16384x1 .f32 :=
  SCV (shapeCast S16384x1 (multiReduction .maximumf [1] S16384 (absf v) 0xFF800000#32 reduces_S16384x5120_S16384 (.inl rfl) rfl) shapeCasts_S16384_S16384x1)

/-- The scale of normalised rows. -/
theorem SV_at (v : FVec Ideal S16384x5120 .f32) (nw : Vec Ideal S1x5120 .f32) (i : Fin 16384) :
    SV (NV v nw) (ix2 i 0) = NSC (fun k => v (ix2 i k)) (fun k => nw (ix2 0 k)) := by
  unfold SV
  rw [SCV_at, col_at, amax_at]
  simp only [NV_at]
  rfl

/-- Codes at their scales. -/
def CDV (s : FVec Ideal S16384x1 .f32) (v : FVec Ideal S16384x5120 .f32) : FVec Ideal S16384x5120 .fp8e4m3 :=
  truncf .fp8e4m3 (minimumf (broadcast S16384x5120 (Scalar.ofBits .f32 0x43E00000#32)) (maximumf (broadcast S16384x5120 (Scalar.ofBits .f32 0xC3E00000#32)) (divf v (broadcastTo S16384x5120 s broadcasts_S16384x1_S16384x5120)))) bitsLt_fp8e4m3_f32

/-- One of them. -/
theorem CDV_at (s : FVec Ideal S16384x1 .f32) (v : FVec Ideal S16384x5120 .f32) (i : Fin 16384) (j : Fin 5120) :
    CDV s v (ix2 i j) = CODE (s (ix2 i 0)) (v (ix2 i j)) := by
  pointwise [CDV]
  rfl

/-- A column in blocks of 256. -/
theorem blk_at (z : FVec Ideal S16384x1 .f32) (a : Fin 64) (i : Fin 256) :
    shapeCast S64x1x256 z shapeCasts_S16384x1_S64x1x256 (ix3 a 0 i) = z (ix2 ⟨a.val * 256 + i.val, by omega⟩ 0) := by
  pointwise

/-- What a window's array holds when the call starts: the scales as a column. -/
theorem s_eq (c : Dev nD) : V m c main_v0 = shapeCast S16384x1 (m ((c : Thread nD τ).loc main_arg1)) shapeCasts_S4x4096_S16384x1 := by
  unfold V
  simp only [List.flatten, hostOps0, List.append_nil, List.cons_append, List.nil_append]
  after_reads_simp
  rfl

/-- What a window's array holds when the call starts: the tokens as rows. -/
theorem x_eq (c : Dev nD) : V m c main_v1 = shapeCast S16384x5120 (m ((c : Thread nD τ).loc main_arg2)) shapeCasts_S4x4096x5120_S16384x5120 := by
  unfold V
  simp only [List.flatten, hostOps0, List.append_nil, List.cons_append, List.nil_append]
  after_reads_simp
  rfl

/-- What a window's array holds when the call starts: the weight's heads one after another. -/
theorem w_eq (c : Dev nD) : V m c main_v2 = shapeCast S5120x5120 (m ((c : Thread nD τ).loc main_arg3)) shapeCasts_S40x128x5120_S5120x5120 := by
  unfold V
  simp only [List.flatten, hostOps0, List.append_nil, List.cons_append, List.nil_append]
  after_reads_simp
  rfl

/-- What a window's array holds when the call starts: the columns' scales as a row. -/
theorem ws_eq (c : Dev nD) : V m c main_v3 = shapeCast S1x5120 (m ((c : Thread nD τ).loc main_arg4)) shapeCasts_S5120_S1x5120 := by
  unfold V
  simp only [List.flatten, hostOps0, List.append_nil, List.cons_append, List.nil_append]
  after_reads_simp
  rfl

/-- What a window's array holds when the call starts: the norm's weight as a row. -/
theorem nw_eq (c : Dev nD) : V m c main_v4 = shapeCast S1x5120 (m ((c : Thread nD τ).loc main_arg5)) shapeCasts_S5120_S1x5120 := by
  unfold V
  simp only [List.flatten, hostOps0, List.append_nil, List.cons_append, List.nil_append]
  after_reads_simp
  rfl

/-- The tokens as rows, at one index. -/
theorem x_cast (z : FVec Ideal S4x4096x5120 .bf16) (r : Fin 16384) (k : Fin 5120) : shapeCast S16384x5120 z shapeCasts_S4x4096x5120_S16384x5120 (ix2 r k) = z (ix3 ⟨r.val / 4096, by omega⟩ ⟨r.val % 4096, by omega⟩ k) := by
  pointwise

/-- The weight's heads one after another, at one index. -/
theorem w_cast (z : FVec Ideal S40x128x5120 .fp8e4m3) (k j : Fin 5120) : shapeCast S5120x5120 z shapeCasts_S40x128x5120_S5120x5120 (ix2 k j) = z (ix3 ⟨k.val / 128, by omega⟩ ⟨k.val % 128, by omega⟩ j) := by
  pointwise

/-- A row vector, at one index. -/
theorem row_cast (z : FVec Ideal S5120 .f32) (j : Fin 5120) : shapeCast S1x5120 z shapeCasts_S5120_S1x5120 (ix2 0 j) = z (ix1 j) := by
  pointwise

/-- The scales as a column, at one index. -/
theorem s_cast (z : FVec Ideal S4x4096 .f32) (r : Fin 16384) : shapeCast S16384x1 z shapeCasts_S4x4096_S16384x1 (ix2 r 0) = z (ix2 ⟨r.val / 4096, by omega⟩ ⟨r.val % 4096, by omega⟩) := by
  pointwise

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0, 0] :=
  (by decide +kernel : ∀ t : Fin grid0.N, _)

/-- The attention's codes. -/
theorem b0 (c : Dev nD) (t : Fin cfg0.N) (i : Fin 16384) (k : Fin 5120) : iblk m c 0 t (ix2 i k) = m ((c : Thread nD τ).loc main_arg0) (ix2 i k) := by
  blk_ext [iblk, V, idx t]

/-- Their scales. -/
theorem b1 (c : Dev nD) (t : Fin cfg0.N) (r : Fin 16384) : iblk m c 1 t (ix2 r 0) = m ((c : Thread nD τ).loc main_arg1) (ix2 ⟨r.val / 4096, by omega⟩ ⟨r.val % 4096, by omega⟩) := by
  have e : (iblk m c 1 t) (ix2 r 0) = V m c main_v0 (ix2 r 0) := by
    show V m c main_v0 _ = _
    blk_ext [idx t]
  rw [e, s_eq, s_cast]

/-- The tokens. -/
theorem b2 (c : Dev nD) (t : Fin cfg0.N) (r : Fin 16384) (k : Fin 5120) : iblk m c 2 t (ix2 r k) = m ((c : Thread nD τ).loc main_arg2) (ix3 ⟨r.val / 4096, by omega⟩ ⟨r.val % 4096, by omega⟩ k) := by
  have e : (iblk m c 2 t) (ix2 r k) = V m c main_v1 (ix2 r k) := by
    show V m c main_v1 _ = _
    blk_ext [idx t]
  rw [e, x_eq, x_cast]

/-- The weight. -/
theorem b3 (c : Dev nD) (t : Fin cfg0.N) (k j : Fin 5120) : iblk m c 3 t (ix2 k j) = m ((c : Thread nD τ).loc main_arg3) (ix3 ⟨k.val / 128, by omega⟩ ⟨k.val % 128, by omega⟩ j) := by
  have e : (iblk m c 3 t) (ix2 k j) = V m c main_v2 (ix2 k j) := by
    show V m c main_v2 _ = _
    blk_ext [idx t]
  rw [e, w_eq, w_cast]

/-- The weight's scales. -/
theorem b4 (c : Dev nD) (t : Fin cfg0.N) (j : Fin 5120) : iblk m c 4 t (ix2 0 j) = m ((c : Thread nD τ).loc main_arg4) (ix1 j) := by
  have e : (iblk m c 4 t) (ix2 0 j) = V m c main_v3 (ix2 0 j) := by
    show V m c main_v3 _ = _
    blk_ext [idx t]
  rw [e, ws_eq, row_cast]

/-- The norm's weight. -/
theorem b5 (c : Dev nD) (t : Fin cfg0.N) (j : Fin 5120) : iblk m c 5 t (ix2 0 j) = m ((c : Thread nD τ).loc main_arg5) (ix1 j) := by
  have e : (iblk m c 5 t) (ix2 0 j) = V m c main_v4 (ix2 0 j) := by
    show V m c main_v4 _ = _
    blk_ext [idx t]
  rw [e, nw_eq, row_cast]

/-- Two axes' zero offsets. -/
theorem off2 : (![0, 0] : Fin 2 → ℕ) = fun _ => 0 := by funext a; fin_cases a <;> rfl

section Pays

variable (x0 : Vec Ideal S16384x5120 .fp8e4m3) (x1 : Vec Ideal S16384x1 .f32) (x2 : Vec Ideal S16384x5120 .bf16) (x3 : Vec Ideal S5120x5120 .fp8e4m3) (x4 x5 : Vec Ideal S1x5120 .f32)

/-- The normalised rows, as the body has them. -/
theorem pay5_eq : k0_pay5 x0 x3 x2 x1 x4 x5 = NV (k0_pay4 x0 x3 x2 x1 x4) x5 := rfl

/-- The scales, as the body has them. -/
theorem pay1_eq : k0_pay1 (k0_pay9 x0 x1 x2 x3 x4 x5) (k0_pay10 x0 x1 x2 x3 x4 x5) = SV (NV (k0_pay4 x0 x3 x2 x1 x4) x5) := by
  unfold k0_pay9 k0_pay10
  rw [show View.ld x0 r0_0 = x0 from View.ld_unit_zero (S := S16384x5120) off2 _ x0, show View.ld x1 r0_2 = x1 from View.ld_unit_zero (S := S16384x1) off2 _ x1,
    show View.ld x2 r0_0 = x2 from View.ld_unit_zero (S := S16384x5120) off2 _ x2, show View.ld x3 r0_1 = x3 from View.ld_unit_zero (S := S5120x5120) off2 _ x3,
    show View.ld x4 r0_3 = x4 from View.ld_unit_zero (S := S1x5120) off2 _ x4, show View.ld x5 r0_3 = x5 from View.ld_unit_zero (S := S1x5120) off2 _ x5]
  rfl

/-- The codes, as the body has them. -/
theorem pay2_eq (v : FVec Ideal S16384x5120 .f32) (b : IVec S16384x1 1) (z : FVec Ideal S16384x1 .f32) : k0_pay2 v b z = CDV (k0_pay1 b z) v := rfl

/-- The stored scales, as the body has them. -/
theorem pay3_eq (b : IVec S16384x1 1) (z : FVec Ideal S16384x1 .f32) : k0_pay3 b z = shapeCast S64x1x256 (k0_pay1 b z) shapeCasts_S16384x1_S64x1x256 := rfl

end Pays

/-- The body's rows from the blocks it reads. -/
abbrev HP (c : Dev nD) : FVec Ideal S16384x5120 .f32 := k0_pay4 (iblk m c 0 t0_0) (iblk m c 3 t0_0) (iblk m c 2 t0_0) (iblk m c 1 t0_0) (iblk m c 4 t0_0)

/-- They're the kernel's. -/
theorem HP_at (c : Dev nD) (i : Fin 16384) (j : Fin 5120) :
    HP m c (ix2 i j) = HR (m ((c : Thread nD τ).loc main_arg0)) (m ((c : Thread nD τ).loc main_arg1)) (m ((c : Thread nD τ).loc main_arg2)) (m ((c : Thread nD τ).loc main_arg3)) (m ((c : Thread nD τ).loc main_arg4)) i j := by
  refine (pay4_at _ _ _ _ _ i j).trans ?_
  rw [b1, b2, b4]
  simp only [b0, b3]
  rfl

/-- Result 1 after the run. -/
theorem final6 (c : Dev nD) : (dats m 0 c).arrAt 6 cfg0.N = REF6 (m ((c : Thread nD τ).loc main_arg0)) (m ((c : Thread nD τ).loc main_arg1)) (m ((c : Thread nD τ).loc main_arg2)) (m ((c : Thread nD τ).loc main_arg3)) (m ((c : Thread nD τ).loc main_arg4)) := by
  have h : (dats m 0 c).arrAt 6 cfg0.N = out0_6 (iblk m c 0 t0_0) (iblk m c 1 t0_0) (iblk m c 2 t0_0) (iblk m c 3 t0_0) (iblk m c 4 t0_0) (iblk m c 5 t0_0) := by
    refine (dats m 0 c).arrAt_eq_of_after_last 6 t0_0 (by decide +kernel) _ fun y => ?_
    blk_simp
    rw [after0_6]
    blk_ext [idx t0_0]
  rw [h]
  frame_out
  funext y
  obtain ⟨i, j, rfl⟩ : ∃ (i : Fin 16384) (j : Fin 5120), y = ix2 i j := ⟨y 0, y 1, by ext a; fin_cases a <;> rfl⟩
  exact HP_at m c i j

/-- Result 2 after the run. -/
theorem final7 (c : Dev nD) : (dats m 0 c).arrAt 7 cfg0.N = REF7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : (dats m 0 c).arrAt 7 cfg0.N = out0_7 (iblk m c 0 t0_0) (iblk m c 1 t0_0) (iblk m c 2 t0_0) (iblk m c 3 t0_0) (iblk m c 4 t0_0) (iblk m c 5 t0_0) := by
    refine (dats m 0 c).arrAt_eq_of_after_last 7 t0_0 (by decide +kernel) _ fun y => ?_
    blk_simp
    rw [after0_7]
    blk_ext [idx t0_0]
  rw [h]
  frame_out
  funext y
  obtain ⟨i, j, rfl⟩ : ∃ (i : Fin 16384) (j : Fin 5120), y = ix2 i j := ⟨y 0, y 1, by ext a; fin_cases a <;> rfl⟩
  rw [pay2_eq, pay1_eq, pay5_eq, CDV_at, SV_at, NV_at]
  simp only [fun k => HP_at m c i k, b5]
  rfl

/-- Result 3 after the run. -/
theorem final8 (c : Dev nD) : (dats m 0 c).arrAt 8 cfg0.N = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : (dats m 0 c).arrAt 8 cfg0.N = out0_8 (iblk m c 0 t0_0) (iblk m c 1 t0_0) (iblk m c 2 t0_0) (iblk m c 3 t0_0) (iblk m c 4 t0_0) (iblk m c 5 t0_0) := by
    refine (dats m 0 c).arrAt_eq_of_after_last 8 t0_0 (by decide +kernel) _ fun y => ?_
    blk_simp
    rw [after0_8]
    blk_ext [idx t0_0]
  rw [h]
  frame_out
  funext y
  obtain ⟨a, i, rfl⟩ : ∃ (a : Fin 64) (i : Fin 256), y = ix3 a 0 i := ⟨y 0, y 2, by ext a; fin_cases a <;> first | rfl | exact congrArg Fin.val (Subsingleton.elim (α := Fin 1) _ _)⟩
  rw [pay3_eq, pay1_eq, blk_at, SV_at]
  simp only [fun i k => HP_at m c i k, b5]
  rfl

end Cert.LocalOutMathIdeal.Blocks

end
-- ==== Proof.LocalOutClaim.lean ====
/- The claims about the local output projection. -/
module

public import proofs.«01_k».proof.Defs
public import proofs.«01_k».proof.Proof.LocalOutRegion
public import proofs.«01_k».proof.Proof.LocalOutArray
public import proofs.«01_k».proof.Proof.LocalOutMath
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's constant `1 / 5120` is printed at its nearest f32 and read over the reals at its exact value. -/
theorem preserves_local_out : preserves_LocalOut_LocalOutIdeal :=
  IdealRules.named_const.statement _ _ _ _ _ rfl

set_option maxHeartbeats 4000000 in
/-- Over the reals the local output projection and its plain statement leave the same three arrays. -/
theorem local_out : algebraic_LocalOutIdeal_LocalOutMathIdeal (hLocalOutIdeal := Cert.LocalOutIdeal.Gen.facts) (hLocalOutMathIdeal := Cert.LocalOutMathIdeal.Gen.facts) := by
  intro m g m' g' _ hagree
  refine ⟨_, _, _, (θ_run _ _ _).mono (fun r h c => h c) (Cert.LocalOutIdeal.Blocks.run_values m g),
    (θ_run _ _ _).mono (fun r h c => ⟨(h c).1.trans ((Cert.LocalOutMathIdeal.Blocks.final6 m' c).trans ?_),
      (h c).2.1.trans ((Cert.LocalOutMathIdeal.Blocks.final7 m' c).trans ?_),
      (h c).2.2.1.trans ((Cert.LocalOutMathIdeal.Blocks.final8 m' c).trans ?_),
      (h c).2.2.2⟩) (Cert.LocalOutMathIdeal.Run.run_blocks m' g')⟩
  all_goals
    obtain ⟨h0, h1, h2, h3, h4, h5⟩ := hagree c
  · rw [h0, h1, h2, h3, h4]
  · rw [h0, h1, h2, h3, h4, h5]
  · rw [h0, h1, h2, h3, h4, h5]

end Cert.Proof

end
-- ==== Proof.lean ====
/- The proof of every claim. -/
module

public import proofs.«01_k».proof.Defs
public import proofs.«01_k».proof.Proof.GlobalOutClaim
public import proofs.«01_k».proof.Proof.GlobalQkvClaim
public import proofs.«01_k».proof.Proof.LocalQkvClaim
public import proofs.«01_k».proof.Proof.LocalOutClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Every claim. -/
theorem claim : Cert.Claim := ⟨Cert.GlobalOut.Gen.facts, Cert.GlobalOutIdeal.Gen.facts, Cert.GlobalOutMathIdeal.Gen.facts,
  Cert.GlobalQkv.Gen.facts, Cert.GlobalQkvIdeal.Gen.facts, Cert.GlobalQkvMathIdeal.Gen.facts,
  Cert.LocalQkv.Gen.facts, Cert.LocalQkvIdeal.Gen.facts, Cert.LocalQkvMathIdeal.Gen.facts,
  Cert.LocalOut.Gen.facts, Cert.LocalOutIdeal.Gen.facts, Cert.LocalOutMathIdeal.Gen.facts,
  fun m ρ _ => Cert.GlobalOut.Gen.frame m ρ, fun m ρ _ => Cert.GlobalOutIdeal.Gen.frame m ρ, fun m ρ _ => Cert.GlobalOutMathIdeal.Gen.frame m ρ,
  fun m ρ _ => Cert.GlobalQkv.Gen.frame m ρ, fun m ρ _ => Cert.GlobalQkvIdeal.Gen.frame m ρ, fun m ρ _ => Cert.GlobalQkvMathIdeal.Gen.frame m ρ,
  fun m ρ _ => Cert.LocalQkv.Gen.frame m ρ, fun m ρ _ => Cert.LocalQkvIdeal.Gen.frame m ρ, fun m ρ _ => Cert.LocalQkvMathIdeal.Gen.frame m ρ,
  fun m ρ _ => Cert.LocalOut.Run.frame m ρ, fun m ρ _ => Cert.LocalOutIdeal.Run.frame m ρ, fun m ρ _ => Cert.LocalOutMathIdeal.Gen.frame m ρ,
  trivial, global_out, trivial, global_qkv, trivial, local_qkv, preserves_local_out, local_out⟩

end Cert.Proof

end
